-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_below_inf [hPre_decay_below_inf : Cert.Pre_decay_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_decay_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_below_inf [hPre_decay_below_inf : Cert.Pre_decay_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_decay_below_inf [hKernelIdeal : Cert.KernelIdeal.Facts] [hPre_decay_below_inf : Cert.Pre_decay_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_decay_below_inf [hReferenceIdeal : Cert.ReferenceIdeal.Facts] [hPre_decay_below_inf : Cert.Pre_decay_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_decay_below_inf [hKernelIdeal : Cert.KernelIdeal.Facts] [hReferenceIdeal : Cert.ReferenceIdeal.Facts] [hPre_decay_below_inf : Cert.Pre_decay_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v12) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v22)) (v1 : (c : Dev Cert.Kernel6Ideal.nD) → Buf (Elt Ideal) ((c.tc : Thread Cert.Kernel6Ideal.nD Cert.Kernel6Ideal.τ).loc Cert.Kernel6Ideal.main_v23)) (v2 : (c : Dev Cert.Kernel6Ideal.nD) → Buf (Elt Ideal) ((c.tc : Thread Cert.Kernel6Ideal.nD Cert.Kernel6Ideal.τ).loc Cert.Kernel6Ideal.main_v25)) (v3 : (c : Dev Cert.Kernel6Ideal.nD) → Buf (Elt Ideal) ((c.tc : Thread Cert.Kernel6Ideal.nD Cert.Kernel6Ideal.τ).loc Cert.Kernel6Ideal.main_v27)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_v23) = v1 c
          ∧ r.2.mem ((c.tc : Thread Cert.Kernel6Ideal.nD Cert.Kernel6Ideal.τ).loc Cert.Kernel6Ideal.main_v25) = v2 c
          ∧ r.2.mem ((c.tc : Thread Cert.Kernel6Ideal.nD Cert.Kernel6Ideal.τ).loc Cert.Kernel6Ideal.main_v27) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v54) = v0 c
          ∧ r.2.mem ((c.tc : Thread Cert.Reference7Ideal.nD Cert.Reference7Ideal.τ).loc Cert.Reference7Ideal.main_v56) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_decay_below_inf : Cert.Pre_decay_below_inf.Facts),
    quiescent_Kernel (hKernel := hKernel)
    ∧ quiescent_KernelIdeal (hKernelIdeal := hKernelIdeal)
    ∧ quiescent_KernelIdeal_pre_decay_below_inf (hKernelIdeal := hKernelIdeal) (hPre_decay_below_inf := hPre_decay_below_inf)
    ∧ quiescent_ReferenceIdeal (hReferenceIdeal := hReferenceIdeal)
    ∧ quiescent_ReferenceIdeal_pre_decay_below_inf (hReferenceIdeal := hReferenceIdeal) (hPre_decay_below_inf := hPre_decay_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_decay_below_inf (hKernelIdeal := hKernelIdeal) (hReferenceIdeal := hReferenceIdeal) (hPre_decay_below_inf := hPre_decay_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_decay_below_inf.lean ====
abbrev S16384x12288 : Shape := ⟨2, ![16384, 12288]⟩
abbrev S16384x1024 : Shape := ⟨2, ![16384, 1024]⟩
abbrev S128 : Shape := ⟨1, ![128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x12288 .f32) (main_arg1 : FVec F S16384x1024 .f32) (main_arg2 : FVec F S128 .f32) : IVec S_ 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg1 main_v0
  let main_c : IVec S_ 1 := constantI S_ 1 1#1
  let main_v2 : IVec S_ 1 := (fun x v => Host.reduce IntOp.andi x v reducesTo_S16384x1024_S_d0_1 h_S_) main_v1 main_c
  main_v2
-- ==== Kernel.lean ====
abbrev S16384x12288 : Shape := ⟨2, ![16384, 12288]⟩
abbrev S16384x1024 : Shape := ⟨2, ![16384, 1024]⟩
abbrev S128 : Shape := ⟨1, ![128]⟩
abbrev S1x128 : Shape := ⟨2, ![1, 128]⟩
abbrev S16384x2048 : Shape := ⟨2, ![16384, 2048]⟩
abbrev S256x256 : Shape := ⟨2, ![256, 256]⟩
abbrev S256x512 : Shape := ⟨2, ![256, 512]⟩
abbrev S4x128x64 : Shape := ⟨3, ![4, 128, 64]⟩
abbrev S4x64x256 : Shape := ⟨3, ![4, 64, 256]⟩
abbrev S4x1x256 : Shape := ⟨3, ![4, 1, 256]⟩
abbrev S256x64 : Shape := ⟨2, ![256, 64]⟩
abbrev S64x128 : Shape := ⟨2, ![64, 128]⟩
abbrev S1x64x256 : Shape := ⟨3, ![1, 64, 256]⟩
abbrev S64x256 : Shape := ⟨2, ![64, 256]⟩
abbrev S64x64 : Shape := ⟨2, ![64, 64]⟩
abbrev S128x64 : Shape := ⟨2, ![128, 64]⟩
abbrev S256x128 : Shape := ⟨2, ![256, 128]⟩
abbrev S1x128x64 : Shape := ⟨3, ![1, 128, 64]⟩
abbrev S1x1x256 : Shape := ⟨3, ![1, 1, 256]⟩
abbrev S1x256 : Shape := ⟨2, ![1, 256]⟩
abbrev S1x64 : Shape := ⟨2, ![1, 64]⟩
abbrev S256 : Shape := ⟨1, ![256]⟩
abbrev S256x1 : Shape := ⟨2, ![256, 1]⟩

abbrev nBuf : Space → Nat
  | .hbm => 5
  | .vmem => 14
  | .smem => 0
  | _ => 0

abbrev bufTy : (tb : Table) → Fin (tcTables nBuf tb) → BufTy
  | .hbm, ⟨0, _⟩ => ⟨S16384x12288, .f32⟩
  | .hbm, ⟨1, _⟩ => ⟨S16384x1024, .f32⟩
  | .hbm, ⟨2, _⟩ => ⟨S128, .f32⟩
  | .hbm, ⟨3, _⟩ => ⟨S1x128, .f32⟩
  | .hbm, ⟨4, _⟩ => ⟨S16384x2048, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S1x128, .f32⟩
  | .local _ .vmem, ⟨11, _⟩ => ⟨S256x512, .bf16⟩
  | .local _ .vmem, ⟨12, _⟩ => ⟨S256x512, .bf16⟩
  | .local _ .vmem, ⟨13, _⟩ => ⟨S4x128x64, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x12288 : Shape := ⟨2, ![16384, 12288]⟩
abbrev S16384x1024 : Shape := ⟨2, ![16384, 1024]⟩
abbrev S128 : Shape := ⟨1, ![128]⟩
abbrev S16384x6144 : Shape := ⟨2, ![16384, 6144]⟩
abbrev S16384x2048 : Shape := ⟨2, ![16384, 2048]⟩
abbrev S2x128x64x16x64 : Shape := ⟨5, ![2, 128, 64, 16, 64]⟩
abbrev S_ : Shape := ⟨0, ![]⟩
abbrev S2x128x64x16x128 : Shape := ⟨5, ![2, 128, 64, 16, 128]⟩
abbrev S2x128x1x16x64 : Shape := ⟨5, ![2, 128, 1, 16, 64]⟩
abbrev S2x128x16x64 : Shape := ⟨4, ![2, 128, 16, 64]⟩
abbrev S2x128x16x64x128 : Shape := ⟨5, ![2, 128, 16, 64, 128]⟩
abbrev S2x16x64x128 : Shape := ⟨4, ![2, 16, 64, 128]⟩
abbrev S128x2x16x64 : Shape := ⟨4, ![128, 2, 16, 64]⟩
abbrev S128x2x16x64x128 : Shape := ⟨5, ![128, 2, 16, 64, 128]⟩
abbrev S1x2x16x64 : Shape := ⟨4, ![1, 2, 16, 64]⟩
abbrev S2x16x64 : Shape := ⟨3, ![2, 16, 64]⟩
abbrev S1x2x16x64x128 : Shape := ⟨5, ![1, 2, 16, 64, 128]⟩
abbrev S2x16x64x1 : Shape := ⟨4, ![2, 16, 64, 1]⟩
abbrev S64x64 : Shape := ⟨2, ![64, 64]⟩
abbrev S2x128x16x64x64 : Shape := ⟨5, ![2, 128, 16, 64, 64]⟩
abbrev S2x128x16x128x64 : Shape := ⟨5, ![2, 128, 16, 128, 64]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 133
  | .vmem => 0
  | .smem => 0
  | _ => 0

abbrev hbmTy0_0 (i : Nat) : BufTy := match i % 128 with
  | 0 => ⟨S16384x12288, .f32⟩
  | 1 => ⟨S16384x1024, .f32⟩
  | 2 => ⟨S128, .f32⟩
  | 3 => ⟨S16384x6144, .f32⟩
  | 4 => ⟨S16384x1024, .f32⟩
  | 5 => ⟨S16384x1024, .f32⟩
  | 6 => ⟨S16384x2048, .f32⟩
  | 7 => ⟨S16384x2048, .f32⟩
  | 8 => ⟨S2x128x64x16x64, .f32⟩
  | 9 => ⟨S_, .f32⟩
  | 10 => ⟨S_, .f32⟩
  | 11 => ⟨S2x128x64x16x64, .f32⟩
  | 12 => ⟨S2x128x64x16x64, .f32⟩
  | 13 => ⟨S2x128x64x16x64, .f32⟩
  | 14 => ⟨S2x128x64x16x128, .f32⟩
  | 15 => ⟨S2x128x1x16x64, .f32⟩
  | 16 => ⟨S2x128x16x64, .f32⟩
  | 17 => ⟨S2x128x1x16x64, .f32⟩
  | 18 => ⟨S2x128x64x16x64, .f32⟩
  | 19 => ⟨S2x128x64x16x64, .f32⟩
  | 20 => ⟨S2x128x64x16x64, .f32⟩
  | 21 => ⟨S2x128x64x16x64, .f32⟩
  | 22 => ⟨S2x128x16x64x128, .f32⟩
  | 23 => ⟨S2x128x16x64, .f32⟩
  | 24 => ⟨S_, .f32⟩
  | 25 => ⟨S2x16x64x128, .f32⟩
  | 26 => ⟨S128x2x16x64, .f32⟩
  | 27 => ⟨S128x2x16x64x128, .f32⟩
  | 28 => ⟨S_, .f32⟩
  | 29 => ⟨S128x2x16x64x128, .f32⟩
  | 30 => ⟨S_, .i32⟩
  | 31 => ⟨S128x2x16x64, .f32⟩
  | 32 => ⟨S128x2x16x64x128, .f32⟩
  | 33 => ⟨S_, .i32⟩
  | 34 => ⟨S2x16x64x128, .f32⟩
  | 35 => ⟨S128x2x16x64x128, .f32⟩
  | 36 => ⟨S_, .i32⟩
  | 37 => ⟨S_, .i1⟩
  | 38 => ⟨S_, .i32⟩
  | 39 => ⟨S_, .i32⟩
  | 40 => ⟨S_, .i32⟩
  | 41 => ⟨S1x2x16x64, .f32⟩
  | 42 => ⟨S2x16x64, .f32⟩
  | 43 => ⟨S_, .i32⟩
  | 44 => ⟨S_, .i32⟩
  | 45 => ⟨S_, .i32⟩
  | 46 => ⟨S_, .i32⟩
  | 47 => ⟨S1x2x16x64x128, .f32⟩
  | 48 => ⟨S2x16x64x128, .f32⟩
  | 49 => ⟨S2x16x64x1, .f32⟩
  | 50 => ⟨S2x16x64x128, .f32⟩
  | 51 => ⟨S2x16x64x128, .f32⟩
  | 52 => ⟨S2x16x64x128, .f32⟩
  | 53 => ⟨S1x2x16x64x128, .f32⟩
  | 54 => ⟨S_, .i32⟩
  | 55 => ⟨S_, .i32⟩
  | 56 => ⟨S_, .i32⟩
  | 57 => ⟨S_, .i32⟩
  | 58 => ⟨S128x2x16x64x128, .f32⟩
  | 59 => ⟨S_, .i32⟩
  | 60 => ⟨S_, .i32⟩
  | 61 => ⟨S2x128x16x64x128, .f32⟩
  | 62 => ⟨S16384x6144, .f32⟩
  | 63 => ⟨S16384x1024, .f32⟩
  | 64 => ⟨S16384x1024, .f32⟩
  | 65 => ⟨S16384x2048, .f32⟩
  | 66 => ⟨S16384x2048, .f32⟩
  | 67 => ⟨S2x128x64x16x64, .f32⟩
  | 68 => ⟨S_, .f32⟩
  | 69 => ⟨S_, .f32⟩
  | 70 => ⟨S2x128x64x16x64, .f32⟩
  | 71 => ⟨S2x128x64x16x64, .f32⟩
  | 72 => ⟨S2x128x64x16x64, .f32⟩
  | 73 => ⟨S2x128x64x16x128, .f32⟩
  | 74 => ⟨S_, .f32⟩
  | 75 => ⟨S2x128x64x16x64, .f32⟩
  | 76 => ⟨S2x128x64x16x64, .f32⟩
  | 77 => ⟨S2x128x64x16x64, .f32⟩
  | 78 => ⟨S2x128x64x16x64, .f32⟩
  | 79 => ⟨S2x128x64x16x64, .f32⟩
  | 80 => ⟨S2x128x64x16x64, .f32⟩
  | 81 => ⟨S2x128x64x16x64, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S2x128x16x64x64, .f32⟩
  | 94 => ⟨S_, .f32⟩
  | 95 => ⟨S_, .f32⟩
  | 96 => ⟨S2x128x16x64x64, .i1⟩
  | 97 => ⟨S2x128x16x64x64, .f32⟩
  | 98 => ⟨S2x128x16x64x64, .f32⟩
  | 99 => ⟨S2x128x16x128x64, .f32⟩
  | 100 => ⟨S2x128x64x16x128, .f32⟩
  | 101 => ⟨S2x128x16x128x64, .f32⟩
  | 102 => ⟨S2x128x64x16x128, .f32⟩
  | 103 => ⟨S2x128x64x16x128, .f32⟩
  | 104 => ⟨S2x8192x16x128, .f32⟩
  | 105 => ⟨S2x8192x16x128, .f32⟩
  | 106 => ⟨S_, .f32⟩
  | 107 => ⟨S2x8192x16, .f32⟩
  | 108 => ⟨S2x8192x16x1, .f32⟩
  | 109 => ⟨S_, .f32⟩
  | 110 => ⟨S2x8192x16x1, .f32⟩
  | 111 => ⟨S2x8192x16x1, .f32⟩
  | 112 => ⟨S_, .f32⟩
  | 113 => ⟨S2x8192x16x1, .f32⟩
  | 114 => ⟨S2x8192x16x1, .f32⟩
  | 115 => ⟨S2x8192x16x1, .f32⟩
  | 116 => ⟨S2x8192x16x128, .f32⟩
  | 117 => ⟨S2x8192x16x128, .f32⟩
  | 118 => ⟨S1x1x1x128, .f32⟩
  | 119 => ⟨S2x8192x16x128, .f32⟩
  | 120 => ⟨S2x8192x16x128, .f32⟩
  | 121 => ⟨S16384x2048, .f32⟩
  | 122 => ⟨S16384x2048, .f32⟩
  | 123 => ⟨S16384x2048, .f32⟩
  | 124 => ⟨S_, .f32⟩
  | 125 => ⟨S16384x2048, .f32⟩
  | 126 => ⟨S16384x2048, .f32⟩
  | 127 => ⟨S_, .f32⟩
  | _ => ⟨S16384x12288, .f32⟩

abbrev hbmTy0_1 (i : Nat) : BufTy := match i % 128 with
  | 0 => ⟨S16384x2048, .f32⟩
  | 1 => ⟨S16384x2048, .f32⟩
  | 2 => ⟨S16384x2048, .f32⟩
  | 3 => ⟨S16384x2048, .f32⟩
  | 4 => ⟨S16384x2048, .bf16⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_cst : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_c : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_while0c_c_11 : Ref sig .tc := ⟨.hbm, 36, rfl⟩
abbrev main_while0c_v69 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v69 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_c_2 : Ref sig .tc := ⟨.hbm, 46, rfl⟩
abbrev main_while0b_call2_v0 : Ref sig .tc := ⟨.hbm, 47, rfl⟩
abbrev main_while0b_v70 : Ref sig .tc := ⟨.hbm, 48, rfl⟩
abbrev main_while0b_v71 : Ref sig .tc := ⟨.hbm, 49, rfl⟩
abbrev main_while0b_v72 : Ref sig .tc := ⟨.hbm, 50, rfl⟩
abbrev main_while0b_v73 : Ref sig .tc := ⟨.hbm, 51, rfl⟩
abbrev main_while0b_v74 : Ref sig .tc := ⟨.hbm, 52, rfl⟩
abbrev main_while0b_call3_v0 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_c_2 : Ref sig .tc := ⟨.hbm, 57, rfl⟩
abbrev main_while0b_v75 : Ref sig .tc := ⟨.hbm, 58, rfl⟩
abbrev main_while0b_c_11 : Ref sig .tc := ⟨.hbm, 59, rfl⟩
abbrev main_while0b_v76 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_call4_call0_cst : Ref sig .tc := ⟨.hbm, 68, rfl⟩
abbrev main_call4_call0_v0 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_2 : Ref sig .tc := ⟨.hbm, 82, rfl⟩
abbrev main_v42 : Ref sig .tc := ⟨.hbm, 83, rfl⟩
abbrev main_call5_v0 : Ref sig .tc := ⟨.hbm, 84, rfl⟩
abbrev main_call5_c : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_c_0 : Ref sig .tc := ⟨.hbm, 90, rfl⟩
abbrev main_call5_v5 : Ref sig .tc := ⟨.hbm, 91, rfl⟩
abbrev main_v43 : Ref sig .tc := ⟨.hbm, 92, rfl⟩
abbrev main_v44 : Ref sig .tc := ⟨.hbm, 93, rfl⟩
abbrev main_cst_3 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_4 : Ref sig .tc := ⟨.hbm, 106, rfl⟩
abbrev main_v53 : Ref sig .tc := ⟨.hbm, 107, rfl⟩
abbrev main_v54 : Ref sig .tc := ⟨.hbm, 108, rfl⟩
abbrev main_cst_5 : Ref sig .tc := ⟨.hbm, 109, rfl⟩
abbrev main_v55 : Ref sig .tc := ⟨.hbm, 110, rfl⟩
abbrev main_v56 : Ref sig .tc := ⟨.hbm, 111, rfl⟩
abbrev main_cst_6 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_call7_v0 : Ref sig .tc := ⟨.hbm, 122, rfl⟩
abbrev main_call7_v1 : Ref sig .tc := ⟨.hbm, 123, rfl⟩
abbrev main_call7_cst : Ref sig .tc := ⟨.hbm, 124, rfl⟩
abbrev main_call7_v2 : Ref sig .tc := ⟨.hbm, 125, rfl⟩
abbrev main_call7_v3 : Ref sig .tc := ⟨.hbm, 126, rfl⟩
abbrev main_call7_cst_0 : Ref sig .tc := ⟨.hbm, 127, rfl⟩
abbrev main_call7_v4 : Ref sig .tc := ⟨.hbm, 128, rfl⟩
abbrev main_call7_v5 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x4096 : Shape := ⟨3, ![2, 8192, 4096]⟩
abbrev S2x4096x11008 : Shape := ⟨3, ![2, 4096, 11008]⟩
abbrev S16384x4096 : Shape := ⟨2, ![16384, 4096]⟩
abbrev S16384x11008 : Shape := ⟨2, ![16384, 11008]⟩
abbrev S2048x4096 : Shape := ⟨2, ![2048, 4096]⟩
abbrev S1x4096x256 : Shape := ⟨3, ![1, 4096, 256]⟩
abbrev S2048x256 : Shape := ⟨2, ![2048, 256]⟩
abbrev S4096x512 : Shape := ⟨2, ![4096, 512]⟩
abbrev S4096x256 : Shape := ⟨2, ![4096, 256]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S2x4096x11008, .f32⟩
  | .hbm, ⟨2, _⟩ => ⟨S2x4096x11008, .f32⟩
  | .hbm, ⟨3, _⟩ => ⟨S16384x4096, .f32⟩
  | .hbm, ⟨4, _⟩ => ⟨S16384x4096, .bf16⟩
  | .hbm, ⟨5, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | .local _ .vmem, ⟨8, _⟩ => ⟨S4096x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x8192x4096 : Shape := ⟨3, ![2, 8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S2x8192x11008 : Shape := ⟨3, ![2, 8192, 11008]⟩
abbrev S_ : Shape := ⟨0, ![]⟩
abbrev S16384x11008 : Shape := ⟨2, ![16384, 11008]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x4096x11008, .f32⟩
  | .hbm, ⟨2, _⟩ => ⟨S2x4096x11008, .f32⟩
  | .hbm, ⟨3, _⟩ => ⟨S1x4096x11008, .f32⟩
  | .hbm, ⟨4, _⟩ => ⟨S4096x11008, .f32⟩
  | .hbm, ⟨5, _⟩ => ⟨S2x8192x11008, .f32⟩
  | .hbm, ⟨6, _⟩ => ⟨S2x8192x11008, .f32⟩
  | .hbm, ⟨7, _⟩ => ⟨S2x8192x11008, .f32⟩
  | .hbm, ⟨8, _⟩ => ⟨S_, .f32⟩
  | .hbm, ⟨9, _⟩ => ⟨S2x8192x11008, .f32⟩
  | .hbm, ⟨10, _⟩ => ⟨S2x8192x11008, .f32⟩
  | .hbm, ⟨11, _⟩ => ⟨S_, .f32⟩
  | .hbm, ⟨12, _⟩ => ⟨S2x8192x11008, .f32⟩
  | .hbm, ⟨13, _⟩ => ⟨S2x8192x11008, .f32⟩
  | .hbm, ⟨14, _⟩ => ⟨S2x8192x11008, .f32⟩
  | .hbm, ⟨15, _⟩ => ⟨S1x4096x11008, .f32⟩
  | .hbm, ⟨16, _⟩ => ⟨S4096x11008, .f32⟩
  | .hbm, ⟨17, _⟩ => ⟨S2x8192x11008, .f32⟩
  | .hbm, ⟨18, _⟩ => ⟨S2x8192x11008, .f32⟩
  | .hbm, ⟨19, _⟩ => ⟨S2x8192x11008, .bf16⟩
  | .hbm, ⟨20, _⟩ => ⟨S16384x11008, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S2x8192x4096 : Shape := ⟨3, ![2, 8192, 4096]⟩
abbrev S16384x11008 : Shape := ⟨2, ![16384, 11008]⟩
abbrev S2x11008x4096 : Shape := ⟨3, ![2, 11008, 4096]⟩
abbrev S2x3x4096 : Shape := ⟨3, ![2, 3, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩
abbrev S1x1x4096 : Shape := ⟨3, ![1, 1, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S16384x11008, .bf16⟩
  | .hbm, ⟨2, _⟩ => ⟨S2x11008x4096, .f32⟩
  | .hbm, ⟨3, _⟩ => ⟨S2x3x4096, .f32⟩
  | .hbm, ⟨4, _⟩ => ⟨S2x3x4096, .f32⟩
  | .hbm, ⟨5, _⟩ => ⟨S16384x4096, .f32⟩
  | .hbm, ⟨6, _⟩ => ⟨S2x11008x4096, .bf16⟩
  | .hbm, ⟨7, _⟩ => ⟨S16384x4096, .f32⟩
  | .hbm, ⟨8, _⟩ => ⟨S1x1x4096, .f32⟩
  | .hbm, ⟨9, _⟩ => ⟨S4096, .f32⟩
  | .hbm, ⟨10, _⟩ => ⟨S1x1x4096, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference3Ideal.lean ====
abbrev S2x8192x4096 : Shape := ⟨3, ![2, 8192, 4096]⟩
abbrev S16384x11008 : Shape := ⟨2, ![16384, 11008]⟩
abbrev S2x11008x4096 : Shape := ⟨3, ![2, 11008, 4096]⟩
abbrev S2x3x4096 : Shape := ⟨3, ![2, 3, 4096]⟩
abbrev S2x8192x11008 : Shape := ⟨3, ![2, 8192, 11008]⟩
abbrev S1x11008x4096 : Shape := ⟨3, ![1, 11008, 4096]⟩
abbrev S11008x4096 : Shape := ⟨2, ![11008, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S4096 : Shape := ⟨1, ![4096]⟩
abbrev S16384x4096 : Shape := ⟨2, ![16384, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x11008, .bf16⟩
  | .hbm, ⟨2, _⟩ => ⟨S2x11008x4096, .f32⟩
  | .hbm, ⟨3, _⟩ => ⟨S2x3x4096, .f32⟩
  | .hbm, ⟨4, _⟩ => ⟨S2x3x4096, .f32⟩
  | .hbm, ⟨5, _⟩ => ⟨S16384x11008, .f32⟩
  | .hbm, ⟨6, _⟩ => ⟨S2x8192x11008, .f32⟩
  | .hbm, ⟨7, _⟩ => ⟨S1x11008x4096, .f32⟩
  | .hbm, ⟨8, _⟩ => ⟨S11008x4096, .f32⟩
  | .hbm, ⟨9, _⟩ => ⟨S2x8192x4096, .f32⟩
  | .hbm, ⟨10, _⟩ => ⟨S_, .f32⟩
  | .hbm, ⟨11, _⟩ => ⟨S2x8192x4096, .f32⟩
  | .hbm, ⟨12, _⟩ => ⟨S2x8192x4096, .f32⟩
  | .hbm, ⟨13, _⟩ => ⟨S_, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x4096, .f32⟩
  | .hbm, ⟨33, _⟩ => ⟨S2x8192x4096, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x4096, .f32⟩
  | .hbm, ⟨39, _⟩ => ⟨S2x8192x4096, .f32⟩
  | .hbm, ⟨40, _⟩ => ⟨S1x1x4096, .f32⟩
  | .hbm, ⟨41, _⟩ => ⟨S4096, .f32⟩
  | .hbm, ⟨42, _⟩ => ⟨S1x1x4096, .f32⟩
  | .hbm, ⟨43, _⟩ => ⟨S2x8192x4096, .f32⟩
  | .hbm, ⟨44, _⟩ => ⟨S2x8192x4096, .f32⟩
  | .hbm, ⟨45, _⟩ => ⟨S1x1x4096, .f32⟩
  | .hbm, ⟨46, _⟩ => ⟨S4096, .f32⟩
  | .hbm, ⟨47, _⟩ => ⟨S1x1x4096, .f32⟩
  | .hbm, ⟨48, _⟩ => ⟨S2x8192x4096, .f32⟩
  | .hbm, ⟨49, _⟩ => ⟨S2x8192x4096, .f32⟩
  | .hbm, ⟨50, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel4.lean ====
abbrev S2x8192x4096 : Shape := ⟨3, ![2, 8192, 4096]⟩
abbrev S16384x2048 : Shape := ⟨2, ![16384, 2048]⟩
abbrev S4096x4096 : Shape := ⟨2, ![4096, 4096]⟩
abbrev S2x3x4096 : Shape := ⟨3, ![2, 3, 4096]⟩
abbrev S16384x4096 : Shape := ⟨2, ![16384, 4096]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩
abbrev S1x1x4096 : Shape := ⟨3, ![1, 1, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S2x8192x4096, .f32⟩
  | .hbm, ⟨1, _⟩ => ⟨S16384x2048, .bf16⟩
  | .hbm, ⟨2, _⟩ => ⟨S16384x2048, .bf16⟩
  | .hbm, ⟨3, _⟩ => ⟨S4096x4096, .f32⟩
  | .hbm, ⟨4, _⟩ => ⟨S2x3x4096, .f32⟩
  | .hbm, ⟨5, _⟩ => ⟨S2x3x4096, .f32⟩
  | .hbm, ⟨6, _⟩ => ⟨S16384x4096, .f32⟩
  | .hbm, ⟨7, _⟩ => ⟨S4096x4096, .bf16⟩
  | .hbm, ⟨8, _⟩ => ⟨S2048x4096, .bf16⟩
  | .hbm, ⟨9, _⟩ => ⟨S2048x4096, .bf16⟩
  | .hbm, ⟨10, _⟩ => ⟨S16384x4096, .f32⟩
  | .hbm, ⟨11, _⟩ => ⟨S1x1x4096, .f32⟩
  | .hbm, ⟨12, _⟩ => ⟨S4096, .f32⟩
  | .hbm, ⟨13, _⟩ => ⟨S1x1x4096, .f32⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S256x4096, .f32⟩
  | .local _ .vmem, ⟨13, _⟩ => ⟨S256x4096, .f32⟩
  | .local _ .vmem, ⟨14, _⟩ => ⟨S1x4096, .f32⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .bf16⟩
  | .local _ .vmem, ⟨19, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference4Ideal.lean ====
abbrev S2x8192x4096 : Shape := ⟨3, ![2, 8192, 4096]⟩
abbrev S16384x2048 : Shape := ⟨2, ![16384, 2048]⟩
abbrev S4096x4096 : Shape := ⟨2, ![4096, 4096]⟩
abbrev S2x3x4096 : Shape := ⟨3, ![2, 3, 4096]⟩
abbrev S16384x4096 : Shape := ⟨2, ![16384, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x2048, .bf16⟩
  | .hbm, ⟨2, _⟩ => ⟨S16384x2048, .bf16⟩
  | .hbm, ⟨3, _⟩ => ⟨S4096x4096, .f32⟩
  | .hbm, ⟨4, _⟩ => ⟨S2x3x4096, .f32⟩
  | .hbm, ⟨5, _⟩ => ⟨S2x3x4096, .f32⟩
  | .hbm, ⟨6, _⟩ => ⟨S16384x4096, .bf16⟩
  | .hbm, ⟨7, _⟩ => ⟨S16384x4096, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x4096, .f32⟩
  | .hbm, ⟨30, _⟩ => ⟨S2x8192x4096, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x4096, .f32⟩
  | .hbm, ⟨36, _⟩ => ⟨S2x8192x4096, .f32⟩
  | .hbm, ⟨37, _⟩ => ⟨S1x1x4096, .f32⟩
  | .hbm, ⟨38, _⟩ => ⟨S4096, .f32⟩
  | .hbm, ⟨39, _⟩ => ⟨S1x1x4096, .f32⟩
  | .hbm, ⟨40, _⟩ => ⟨S2x8192x4096, .f32⟩
  | .hbm, ⟨41, _⟩ => ⟨S2x8192x4096, .f32⟩
  | .hbm, ⟨42, _⟩ => ⟨S1x1x4096, .f32⟩
  | .hbm, ⟨43, _⟩ => ⟨S4096, .f32⟩
  | .hbm, ⟨44, _⟩ => ⟨S1x1x4096, .f32⟩
  | .hbm, ⟨45, _⟩ => ⟨S2x8192x4096, .f32⟩
  | .hbm, ⟨46, _⟩ => ⟨S2x8192x4096, .f32⟩
  | .hbm, ⟨47, _⟩ => ⟨S16384x4096, .f32⟩
  | .hbm, ⟨48, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel5.lean ====
abbrev S2x8192x4096 : Shape := ⟨3, ![2, 8192, 4096]⟩
abbrev S4096x12304 : Shape := ⟨2, ![4096, 12304]⟩
abbrev S3x2048 : Shape := ⟨2, ![3, 2048]⟩
abbrev S16x1024 : Shape := ⟨2, ![16, 1024]⟩
abbrev S1024 : Shape := ⟨1, ![1024]⟩
abbrev S16384x4096 : Shape := ⟨2, ![16384, 4096]⟩
abbrev S4096x12288 : Shape := ⟨2, ![4096, 12288]⟩
abbrev S1x4096x12288 : Shape := ⟨3, ![1, 4096, 12288]⟩
abbrev S16384x12288 : Shape := ⟨2, ![16384, 12288]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S4096x16 : Shape := ⟨2, ![4096, 16]⟩
abbrev S_ : Shape := ⟨0, ![]⟩
abbrev S4096x128 : Shape := ⟨2, ![4096, 128]⟩
abbrev S128x1024 : Shape := ⟨2, ![128, 1024]⟩
abbrev S1x1024 : Shape := ⟨2, ![1, 1024]⟩
abbrev S16384x1024 : Shape := ⟨2, ![16384, 1024]⟩
abbrev S1024x128 : Shape := ⟨2, ![1024, 128]⟩
abbrev S16384x2048 : Shape := ⟨2, ![16384, 2048]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩

abbrev nBuf : Space → Nat
  | .hbm => 23
  | .vmem => 27
  | .smem => 0
  | _ => 0

abbrev bufTy : (tb : Table) → Fin (tcTables nBuf tb) → BufTy
  | .hbm, ⟨0, _⟩ => ⟨S2x8192x4096, .f32⟩
  | .hbm, ⟨1, _⟩ => ⟨S4096x12304, .f32⟩
  | .hbm, ⟨2, _⟩ => ⟨S3x2048, .f32⟩
  | .hbm, ⟨3, _⟩ => ⟨S16x1024, .f32⟩
  | .hbm, ⟨4, _⟩ => ⟨S1024, .f32⟩
  | .hbm, ⟨5, _⟩ => ⟨S16384x4096, .f32⟩
  | .hbm, ⟨6, _⟩ => ⟨S16384x4096, .bf16⟩
  | .hbm, ⟨7, _⟩ => ⟨S4096x12288, .f32⟩
  | .hbm, ⟨8, _⟩ => ⟨S4096x12288, .bf16⟩
  | .hbm, ⟨9, _⟩ => ⟨S1x4096x12288, .bf16⟩
  | .hbm, ⟨10, _⟩ => ⟨S16384x12288, .f32⟩
  | .hbm, ⟨11, _⟩ => ⟨S4096x16, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S_, .i32⟩
  | .hbm, ⟨17, _⟩ => ⟨S_, .f32⟩
  | .hbm, ⟨18, _⟩ => ⟨S128x1024, .f32⟩
  | .hbm, ⟨19, _⟩ => ⟨S128x1024, .bf16⟩
  | .hbm, ⟨20, _⟩ => ⟨S1x1024, .f32⟩
  | .hbm, ⟨21, _⟩ => ⟨S16384x1024, .f32⟩
  | .hbm, ⟨22, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096x128, .bf16⟩
  | .local _ .vmem, ⟨9, _⟩ => ⟨S128x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S3x512, .f32⟩
  | .local _ .vmem, ⟨24, _⟩ => ⟨S3x512, .f32⟩
  | .local _ .vmem, ⟨25, _⟩ => ⟨S512x512, .bf16⟩
  | .local _ .vmem, ⟨26, _⟩ => ⟨S512x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc2_transform_4 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S3x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== Reference5Ideal.lean ====
abbrev S2x8192x4096 : Shape := ⟨3, ![2, 8192, 4096]⟩
abbrev S4096x12304 : Shape := ⟨2, ![4096, 12304]⟩
abbrev S3x2048 : Shape := ⟨2, ![3, 2048]⟩
abbrev S16x1024 : Shape := ⟨2, ![16, 1024]⟩
abbrev S1024 : Shape := ⟨1, ![1024]⟩
abbrev S2x8192x12304 : Shape := ⟨3, ![2, 8192, 12304]⟩
abbrev S2x8192x2048 : Shape := ⟨3, ![2, 8192, 2048]⟩
abbrev S2x8192x16 : Shape := ⟨3, ![2, 8192, 16]⟩
abbrev S_ : Shape := ⟨0, ![]⟩
abbrev S2x8194x2048 : Shape := ⟨3, ![2, 8194, 2048]⟩
abbrev S1x2048 : Shape := ⟨2, ![1, 2048]⟩
abbrev S2048 : Shape := ⟨1, ![2048]⟩
abbrev S1x1x2048 : Shape := ⟨3, ![1, 1, 2048]⟩
abbrev S2x8192x1024 : Shape := ⟨3, ![2, 8192, 1024]⟩
abbrev S1x1x1024 : Shape := ⟨3, ![1, 1, 1024]⟩
abbrev S16384x2048 : Shape := ⟨2, ![16384, 2048]⟩
abbrev S2x8192x12288 : Shape := ⟨3, ![2, 8192, 12288]⟩
abbrev S16384x12288 : Shape := ⟨2, ![16384, 12288]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x12304, .f32⟩
  | .hbm, ⟨2, _⟩ => ⟨S3x2048, .f32⟩
  | .hbm, ⟨3, _⟩ => ⟨S16x1024, .f32⟩
  | .hbm, ⟨4, _⟩ => ⟨S1024, .f32⟩
  | .hbm, ⟨5, _⟩ => ⟨S2x8192x12304, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x16, .f32⟩
  | .hbm, ⟨10, _⟩ => ⟨S2x8192x2048, .f32⟩
  | .hbm, ⟨11, _⟩ => ⟨S_, .i32⟩
  | .hbm, ⟨12, _⟩ => ⟨S_, .f32⟩
  | .hbm, ⟨13, _⟩ => ⟨S2x8194x2048, .f32⟩
  | .hbm, ⟨14, _⟩ => ⟨S2x8192x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .i1⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S16384x2048, .f32⟩
  | .hbm, ⟨59, _⟩ => ⟨S16384x2048, .bf16⟩
  | .hbm, ⟨60, _⟩ => ⟨S2x8192x12288, .f32⟩
  | .hbm, ⟨61, _⟩ => ⟨S16384x12288, .f32⟩
  | .hbm, ⟨62, _⟩ => ⟨S16384x1024, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v32 : Ref sig .tc := ⟨.hbm, 54, rfl⟩
abbrev main_cst : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel6.lean ====
abbrev S2x8192x4096 : Shape := ⟨3, ![2, 8192, 4096]⟩
abbrev S4096x11312 : Shape := ⟨2, ![4096, 11312]⟩
abbrev S16384x4096 : Shape := ⟨2, ![16384, 4096]⟩
abbrev S4096x512 : Shape := ⟨2, ![4096, 512]⟩
abbrev S4096x2048 : Shape := ⟨2, ![4096, 2048]⟩
abbrev S4096x3072 : Shape := ⟨2, ![4096, 3072]⟩
abbrev S4096x7168 : Shape := ⟨2, ![4096, 7168]⟩
abbrev S7168x4096 : Shape := ⟨2, ![7168, 4096]⟩
abbrev S4096x1024 : Shape := ⟨2, ![4096, 1024]⟩
abbrev S4096x48 : Shape := ⟨2, ![4096, 48]⟩
abbrev S_ : Shape := ⟨0, ![]⟩
abbrev S4096x128 : Shape := ⟨2, ![4096, 128]⟩
abbrev S128x4096 : Shape := ⟨2, ![128, 4096]⟩
abbrev S1x4096x3072 : Shape := ⟨3, ![1, 4096, 3072]⟩
abbrev S16384x3072 : Shape := ⟨2, ![16384, 3072]⟩
abbrev S1024x4096 : Shape := ⟨2, ![1024, 4096]⟩
abbrev S1x4096x1024 : Shape := ⟨3, ![1, 4096, 1024]⟩
abbrev S1024x1024 : Shape := ⟨2, ![1024, 1024]⟩
abbrev S7168x16384 : Shape := ⟨2, ![7168, 16384]⟩
abbrev S16384x1024 : Shape := ⟨2, ![16384, 1024]⟩
abbrev S128x16384 : Shape := ⟨2, ![128, 16384]⟩
abbrev S128x1024 : Shape := ⟨2, ![128, 1024]⟩
abbrev S48x16384 : Shape := ⟨2, ![48, 16384]⟩

abbrev nBuf : Space → Nat
  | .hbm => 32
  | .vmem => 22
  | .smem => 0
  | _ => 0

abbrev bufTy : (tb : Table) → Fin (tcTables nBuf tb) → BufTy
  | .hbm, ⟨0, _⟩ => ⟨S2x8192x4096, .f32⟩
  | .hbm, ⟨1, _⟩ => ⟨S4096x11312, .f32⟩
  | .hbm, ⟨2, _⟩ => ⟨S16384x4096, .f32⟩
  | .hbm, ⟨3, _⟩ => ⟨S16384x4096, .bf16⟩
  | .hbm, ⟨4, _⟩ => ⟨S4096x512, .f32⟩
  | .hbm, ⟨5, _⟩ => ⟨S4096x512, .f32⟩
  | .hbm, ⟨6, _⟩ => ⟨S4096x2048, .f32⟩
  | .hbm, ⟨7, _⟩ => ⟨S4096x3072, .f32⟩
  | .hbm, ⟨8, _⟩ => ⟨S4096x3072, .bf16⟩
  | .hbm, ⟨9, _⟩ => ⟨S4096x2048, .f32⟩
  | .hbm, ⟨10, _⟩ => ⟨S4096x512, .f32⟩
  | .hbm, ⟨11, _⟩ => ⟨S4096x512, .f32⟩
  | .hbm, ⟨12, _⟩ => ⟨S4096x2048, .f32⟩
  | .hbm, ⟨13, _⟩ => ⟨S4096x2048, .f32⟩
  | .hbm, ⟨14, _⟩ => ⟨S4096x7168, .f32⟩
  | .hbm, ⟨15, _⟩ => ⟨S7168x4096, .f32⟩
  | .hbm, ⟨16, _⟩ => ⟨S7168x4096, .bf16⟩
  | .hbm, ⟨17, _⟩ => ⟨S4096x1024, .f32⟩
  | .hbm, ⟨18, _⟩ => ⟨S4096x1024, .bf16⟩
  | .hbm, ⟨19, _⟩ => ⟨S4096x48, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S128x4096, .f32⟩
  | .hbm, ⟨24, _⟩ => ⟨S128x4096, .bf16⟩
  | .hbm, ⟨25, _⟩ => ⟨S1x4096x3072, .bf16⟩
  | .hbm, ⟨26, _⟩ => ⟨S16384x3072, .bf16⟩
  | .hbm, ⟨27, _⟩ => ⟨S7168x16384, .bf16⟩
  | .hbm, ⟨28, _⟩ => ⟨S1x4096x1024, .bf16⟩
  | .hbm, ⟨29, _⟩ => ⟨S16384x1024, .f32⟩
  | .hbm, ⟨30, _⟩ => ⟨S128x16384, .f32⟩
  | .hbm, ⟨31, _⟩ => ⟨S48x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1024x1024, .bf16⟩
  | .local _ .vmem, ⟨11, _⟩ => ⟨S1024x1024, .bf16⟩
  | .local _ .vmem, ⟨12, _⟩ => ⟨S1024x4096, .bf16⟩
  | .local _ .vmem, ⟨13, _⟩ => ⟨S1024x4096, .bf16⟩
  | .local _ .vmem, ⟨14, _⟩ => ⟨S1x4096x1024, .bf16⟩
  | .local _ .vmem, ⟨15, _⟩ => ⟨S1024x1024, .f32⟩
  | .local _ .vmem, ⟨16, _⟩ => ⟨S1024x1024, .f32⟩
  | .local _ .vmem, ⟨17, _⟩ => ⟨S128x4096, .bf16⟩
  | .local _ .vmem, ⟨18, _⟩ => ⟨S1024x4096, .bf16⟩
  | .local _ .vmem, ⟨19, _⟩ => ⟨S1024x4096, .bf16⟩
  | .local _ .vmem, ⟨20, _⟩ => ⟨S128x1024, .f32⟩
  | .local _ .vmem, ⟨21, _⟩ => ⟨S128x1024, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S128x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference6Ideal.lean ====
abbrev S2x8192x4096 : Shape := ⟨3, ![2, 8192, 4096]⟩
abbrev S4096x11312 : Shape := ⟨2, ![4096, 11312]⟩
abbrev S2x8192x11312 : Shape := ⟨3, ![2, 8192, 11312]⟩
abbrev S16384x11312 : Shape := ⟨2, ![16384, 11312]⟩
abbrev S16384x2048 : Shape := ⟨2, ![16384, 2048]⟩
abbrev S16384x512 : Shape := ⟨2, ![16384, 512]⟩
abbrev S16384x48 : Shape := ⟨2, ![16384, 48]⟩
abbrev S16384x3072 : Shape := ⟨2, ![16384, 3072]⟩
abbrev S16384x7168 : Shape := ⟨2, ![16384, 7168]⟩
abbrev S7168x16384 : Shape := ⟨2, ![7168, 16384]⟩
abbrev S16384x1024 : Shape := ⟨2, ![16384, 1024]⟩
abbrev S_ : Shape := ⟨0, ![]⟩
abbrev S48x16384 : Shape := ⟨2, ![48, 16384]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x11312, .f32⟩
  | .hbm, ⟨2, _⟩ => ⟨S2x8192x11312, .f32⟩
  | .hbm, ⟨3, _⟩ => ⟨S16384x11312, .f32⟩
  | .hbm, ⟨4, _⟩ => ⟨S16384x2048, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x48, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x3072, .f32⟩
  | .hbm, ⟨16, _⟩ => ⟨S16384x3072, .bf16⟩
  | .hbm, ⟨17, _⟩ => ⟨S16384x7168, .f32⟩
  | .hbm, ⟨18, _⟩ => ⟨S7168x16384, .f32⟩
  | .hbm, ⟨19, _⟩ => ⟨S7168x16384, .bf16⟩
  | .hbm, ⟨20, _⟩ => ⟨S16384x1024, .f32⟩
  | .hbm, ⟨21, _⟩ => ⟨S16384x48, .f32⟩
  | .hbm, ⟨22, _⟩ => ⟨S16384x48, .f32⟩
  | .hbm, ⟨23, _⟩ => ⟨S_, .f32⟩
  | .hbm, ⟨24, _⟩ => ⟨S16384x48, .f32⟩
  | .hbm, ⟨25, _⟩ => ⟨S16384x48, .f32⟩
  | .hbm, ⟨26, _⟩ => ⟨S_, .f32⟩
  | .hbm, ⟨27, _⟩ => ⟨S16384x48, .f32⟩
  | .hbm, ⟨28, _⟩ => ⟨S16384x48, .f32⟩
  | .hbm, ⟨29, _⟩ => ⟨S48x16384, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel7.lean ====
abbrev S16384x1024 : Shape := ⟨2, ![16384, 1024]⟩
abbrev S32x128 : Shape := ⟨2, ![32, 128]⟩
abbrev S4096x128 : Shape := ⟨2, ![4096, 128]⟩
abbrev S128x128 : Shape := ⟨2, ![128, 128]⟩
abbrev S1x32x128 : Shape := ⟨3, ![1, 32, 128]⟩
abbrev S2x32x128 : Shape := ⟨3, ![2, 32, 128]⟩
abbrev S1x4096x128 : Shape := ⟨3, ![1, 4096, 128]⟩
abbrev S2x4096x128 : Shape := ⟨3, ![2, 4096, 128]⟩
abbrev S1x128x128 : Shape := ⟨3, ![1, 128, 128]⟩
abbrev S2x128x128 : Shape := ⟨3, ![2, 128, 128]⟩
abbrev S2x8x512x128 : Shape := ⟨4, ![2, 8, 512, 128]⟩
abbrev S2x8x128x512 : Shape := ⟨4, ![2, 8, 128, 512]⟩
abbrev S8192x128 : Shape := ⟨2, ![8192, 128]⟩
abbrev S1x1x512x128 : Shape := ⟨4, ![1, 1, 512, 128]⟩
abbrev S1x1x128x512 : Shape := ⟨4, ![1, 1, 128, 512]⟩
abbrev S512x128 : Shape := ⟨2, ![512, 128]⟩
abbrev S1x1x128 : Shape := ⟨3, ![1, 1, 128]⟩
abbrev S1x128 : Shape := ⟨2, ![1, 128]⟩
abbrev S128x512 : Shape := ⟨2, ![128, 512]⟩

abbrev nBuf : Space → Nat
  | .hbm => 20
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S1x32x128, .f32⟩
  | .hbm, ⟨8, _⟩ => ⟨S1x32x128, .f32⟩
  | .hbm, ⟨9, _⟩ => ⟨S2x32x128, .f32⟩
  | .hbm, ⟨10, _⟩ => ⟨S1x4096x128, .f32⟩
  | .hbm, ⟨11, _⟩ => ⟨S1x4096x128, .f32⟩
  | .hbm, ⟨12, _⟩ => ⟨S2x4096x128, .f32⟩
  | .hbm, ⟨13, _⟩ => ⟨S2x4096x128, .bf16⟩
  | .hbm, ⟨14, _⟩ => ⟨S1x128x128, .f32⟩
  | .hbm, ⟨15, _⟩ => ⟨S1x128x128, .f32⟩
  | .hbm, ⟨16, _⟩ => ⟨S2x128x128, .f32⟩
  | .hbm, ⟨17, _⟩ => ⟨S2x128x128, .bf16⟩
  | .hbm, ⟨18, _⟩ => ⟨S2x8x512x128, .bf16⟩
  | .hbm, ⟨19, _⟩ => ⟨S2x8x128x512, .bf16⟩
  | .local _ .vmem, ⟨0, _⟩ => ⟨S8192x128, .f32⟩
  | .local _ .vmem, ⟨1, _⟩ => ⟨S8192x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1x128x512, .bf16⟩
  | .local _ .vmem, ⟨11, _⟩ => ⟨S1x1x128x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16384x1024 : Shape := ⟨2, ![16384, 1024]⟩
abbrev S32x128 : Shape := ⟨2, ![32, 128]⟩
abbrev S4096x128 : Shape := ⟨2, ![4096, 128]⟩
abbrev S128x128 : Shape := ⟨2, ![128, 128]⟩
abbrev S16384x512 : Shape := ⟨2, ![16384, 512]⟩
abbrev S2x512x16x4x128 : Shape := ⟨5, ![2, 512, 16, 4, 128]⟩
abbrev S2x511x16x4x128 : Shape := ⟨5, ![2, 511, 16, 4, 128]⟩
abbrev S2x1x16x4x128 : Shape := ⟨5, ![2, 1, 16, 4, 128]⟩
abbrev S2x512x32x4x128 : Shape := ⟨5, ![2, 512, 32, 4, 128]⟩
abbrev S1x1x32x1x128 : Shape := ⟨5, ![1, 1, 32, 1, 128]⟩
abbrev S2x512x4x32x128 : Shape := ⟨5, ![2, 512, 4, 32, 128]⟩
abbrev S2x512x4x4096 : Shape := ⟨4, ![2, 512, 4, 4096]⟩
abbrev S2x512x4x128 : Shape := ⟨4, ![2, 512, 4, 128]⟩
abbrev S_ : Shape := ⟨0, ![]⟩
abbrev S2x512x8x128 : Shape := ⟨4, ![2, 512, 8, 128]⟩
abbrev S2x8x512x128 : Shape := ⟨4, ![2, 8, 512, 128]⟩
abbrev S2x8x128x512 : Shape := ⟨4, ![2, 8, 128, 512]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S16384x512, .f32⟩
  | .hbm, ⟨8, _⟩ => ⟨S2x512x16x4x128, .f32⟩
  | .hbm, ⟨9, _⟩ => ⟨S2x511x16x4x128, .f32⟩
  | .hbm, ⟨10, _⟩ => ⟨S2x1x16x4x128, .f32⟩
  | .hbm, ⟨11, _⟩ => ⟨S2x512x16x4x128, .f32⟩
  | .hbm, ⟨12, _⟩ => ⟨S2x512x32x4x128, .f32⟩
  | .hbm, ⟨13, _⟩ => ⟨S1x1x32x1x128, .f32⟩
  | .hbm, ⟨14, _⟩ => ⟨S2x512x32x4x128, .f32⟩
  | .hbm, ⟨15, _⟩ => ⟨S2x512x32x4x128, .f32⟩
  | .hbm, ⟨16, _⟩ => ⟨S2x512x4x32x128, .f32⟩
  | .hbm, ⟨17, _⟩ => ⟨S2x512x4x4096, .f32⟩
  | .hbm, ⟨18, _⟩ => ⟨S2x512x4x128, .f32⟩
  | .hbm, ⟨19, _⟩ => ⟨S2x512x4x128, .f32⟩
  | .hbm, ⟨20, _⟩ => ⟨S2x512x4x128, .f32⟩
  | .hbm, ⟨21, _⟩ => ⟨S_, .f32⟩
  | .hbm, ⟨22, _⟩ => ⟨S2x512x4x128, .f32⟩
  | .hbm, ⟨23, _⟩ => ⟨S2x512x4x128, .f32⟩
  | .hbm, ⟨24, _⟩ => ⟨S2x512x4x128, .f32⟩
  | .hbm, ⟨25, _⟩ => ⟨S_, .f32⟩
  | .hbm, ⟨26, _⟩ => ⟨S2x512x4x128, .f32⟩
  | .hbm, ⟨27, _⟩ => ⟨S2x512x4x128, .f32⟩
  | .hbm, ⟨28, _⟩ => ⟨S2x512x4x128, .f32⟩
  | .hbm, ⟨29, _⟩ => ⟨S_, .f32⟩
  | .hbm, ⟨30, _⟩ => ⟨S2x512x4x128, .f32⟩
  | .hbm, ⟨31, _⟩ => ⟨S2x512x4x128, .f32⟩
  | .hbm, ⟨32, _⟩ => ⟨S_, .f32⟩
  | .hbm, ⟨33, _⟩ => ⟨S2x512x4x128, .f32⟩
  | .hbm, ⟨34, _⟩ => ⟨S2x512x4x128, .f32⟩
  | .hbm, ⟨35, _⟩ => ⟨S2x512x4x128, .f32⟩
  | .hbm, ⟨36, _⟩ => ⟨S2x512x4x128, .f32⟩
  | .hbm, ⟨37, _⟩ => ⟨S16384x512, .f32⟩
  | .hbm, ⟨38, _⟩ => ⟨S2x512x16x4x128, .f32⟩
  | .hbm, ⟨39, _⟩ => ⟨S2x511x16x4x128, .f32⟩
  | .hbm, ⟨40, _⟩ => ⟨S2x1x16x4x128, .f32⟩
  | .hbm, ⟨41, _⟩ => ⟨S2x512x16x4x128, .f32⟩
  | .hbm, ⟨42, _⟩ => ⟨S2x512x32x4x128, .f32⟩
  | .hbm, ⟨43, _⟩ => ⟨S1x1x32x1x128, .f32⟩
  | .hbm, ⟨44, _⟩ => ⟨S2x512x32x4x128, .f32⟩
  | .hbm, ⟨45, _⟩ => ⟨S2x512x32x4x128, .f32⟩
  | .hbm, ⟨46, _⟩ => ⟨S2x512x4x32x128, .f32⟩
  | .hbm, ⟨47, _⟩ => ⟨S2x512x4x4096, .f32⟩
  | .hbm, ⟨48, _⟩ => ⟨S2x512x4x128, .f32⟩
  | .hbm, ⟨49, _⟩ => ⟨S2x512x4x128, .f32⟩
  | .hbm, ⟨50, _⟩ => ⟨S2x512x4x128, .f32⟩
  | .hbm, ⟨51, _⟩ => ⟨S_, .f32⟩
  | .hbm, ⟨52, _⟩ => ⟨S2x512x4x128, .f32⟩
  | .hbm, ⟨53, _⟩ => ⟨S2x512x4x128, .f32⟩
  | .hbm, ⟨54, _⟩ => ⟨S2x512x4x128, .f32⟩
  | .hbm, ⟨55, _⟩ => ⟨S_, .f32⟩
  | .hbm, ⟨56, _⟩ => ⟨S2x512x4x128, .f32⟩
  | .hbm, ⟨57, _⟩ => ⟨S2x512x4x128, .f32⟩
  | .hbm, ⟨58, _⟩ => ⟨S2x512x4x128, .f32⟩
  | .hbm, ⟨59, _⟩ => ⟨S_, .f32⟩
  | .hbm, ⟨60, _⟩ => ⟨S2x512x4x128, .f32⟩
  | .hbm, ⟨61, _⟩ => ⟨S2x512x4x128, .f32⟩
  | .hbm, ⟨62, _⟩ => ⟨S_, .f32⟩
  | .hbm, ⟨63, _⟩ => ⟨S2x512x4x128, .f32⟩
  | .hbm, ⟨64, _⟩ => ⟨S2x512x4x128, .f32⟩
  | .hbm, ⟨65, _⟩ => ⟨S2x512x4x128, .f32⟩
  | .hbm, ⟨66, _⟩ => ⟨S2x512x4x128, .f32⟩
  | .hbm, ⟨67, _⟩ => ⟨S2x512x8x128, .f32⟩
  | .hbm, ⟨68, _⟩ => ⟨S2x8x512x128, .f32⟩
  | .hbm, ⟨69, _⟩ => ⟨S2x8x512x128, .bf16⟩
  | .hbm, ⟨70, _⟩ => ⟨S2x8x128x512, .f32⟩
  | .hbm, ⟨71, _⟩ => ⟨S2x8x128x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Block.lean ====
/- What one grid point of the gated linear attention kernel computes, read at an index: the named payloads of its body
   as plain sums over the extended reals. A block has 256 rows, which are 4 chunks of 64, and 256 key columns, which
   are 4 heads of 64. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Block

open Idealize.ShloMosaic Idealize.ShloMosaic.TcCoe Idealize.SL.Sem
open Cert.KernelIdeal Cert.KernelIdeal.Gen

/-- The row of a block that chunk `c` has at place `l`. -/
abbrev row (c : Fin 4) (l : Fin 64) : Fin 256 := ⟨c * 64 + l, by omega⟩
/-- The key column of head `h` at place `d`. -/
abbrev col (h : Fin 4) (d : Fin 64) : Fin 256 := ⟨h * 64 + d, by omega⟩
/-- The value column of head `h` at place `e`. -/
abbrev vcol (h : Fin 4) (e : Fin 128) : Fin 512 := ⟨h * 128 + e, by omega⟩

/-- The causal mask inside the chunks, as the kernel's body builds it. -/
abbrev maskW : IVec S256x256 1 :=
  k0_pay6 (iota .tc S256x256 32 [1] iota_S256x256_d1_w32) k0_pay2 k0_pay3 64#32 k0_pay4 k0_pay5 1#32 0#1

/-- The running sums of the log decay, as the kernel's body builds them. -/
abbrev cumW (la : FVec Ideal S256x256 .f32) : FVec Ideal S256x256 .f32 :=
  k0_pay8 (iota .tc S256x256 32 [1] iota_S256x256_d1_w32) k0_pay2 k0_pay3 64#32 k0_pay4 k0_pay5 1#32 0#1 la

/-- Masks over a block of 256 rows reach 64 rows: the 64 of the chunk. -/
theorem sum_mask (c : Fin 4) (l : Fin 64) (f : Fin 256 → EReal) :
    (∑ j : Fin 256, if (j : ℕ) ≤ row c l ∧ (j : ℕ) / 64 = (row c l : ℕ) / 64 then f j else 0)
      = ∑ k : Fin 64, if k ≤ l then f (row c k) else 0 := by
  rw [Fin.sum_univ_tiles 4 64 rfl, Finset.sum_eq_single c]
  · refine Finset.sum_congr rfl fun k _ => ?_
    have hk : ((⟨c.val * 64 + k.val, by omega⟩ : Fin 256)) = row c k := rfl
    by_cases h : k ≤ l
    · have h' : (k : ℕ) ≤ l := h
      rw [if_pos h, if_pos (by simp only [row]; omega), hk]
    · have h' : ¬ (k : ℕ) ≤ l := h
      rw [if_neg h, if_neg (by simp only [row]; omega)]
  · intro c' _ hc
    refine Finset.sum_eq_zero fun k _ => if_neg ?_
    have : (c' : ℕ) ≠ c := fun e => hc (Fin.ext e)
    simp only [row]; omega
  · exact fun h => absurd (Finset.mem_univ c) h

theorem div_row : ∀ r : Fin 256,
    (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by
  decide +kernel

theorem div_col : ∀ j : Fin 256,
    (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (1#32) (Scalar.extui 0#1)))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32)) = BitVec.ofNat 32 (j.val / 64) := by
  decide +kernel

theorem le_word (r j : Fin 256) :
    IntOp.cmpi CmpIPredicate.sle (BitVec.ofNat 32 j.val) (BitVec.ofNat 32 r.val) = if (j : ℕ) ≤ r then 1#1 else 0#1 := by
  have hz : ∀ a : Fin 256, (BitVec.ofNat 32 a.val).toInt = (a.val : ℤ) := by decide +kernel
  by_cases h : (j : ℕ) ≤ r <;> simp [IntOp.cmpi, BitVec.sle, hz, h]

theorem eq_word : ∀ a b : Fin 4,
    IntOp.cmpi CmpIPredicate.eq (BitVec.ofNat 32 a.val) (BitVec.ofNat 32 b.val) = if (b : ℕ) = a then 1#1 else 0#1 := by
  decide +kernel

/-- The mask the body builds is: not later, and in the same chunk. -/
theorem mask_apply (r j : Fin 256) :
    maskW (ix2 r j) = if (j : ℕ) ≤ r ∧ (j : ℕ) / 64 = (r : ℕ) / 64 then 1#1 else 0#1 := by
  pointwise [k0_pay6, k0_pay2, k0_pay3, k0_pay4, k0_pay5]
  rw [div_row, div_col, le_word, eq_word ⟨r.val / 64, by omega⟩ ⟨j.val / 64, by omega⟩]
  by_cases h1 : (j : ℕ) ≤ r <;> by_cases h2 : (j : ℕ) / 64 = (r : ℕ) / 64 <;> simp [h1, h2] <;> decide

/-- A number below infinity plus the two remainders of its split is itself. -/
theorem split3 (w x : EReal) (hw : w = 0 ∨ w = 1) (hx : x < ⊤) : w * x + w * (x - x) + w * (x - x - (x - x)) = w * x := by
  rcases hw with rfl | rfl
  · simp
  · induction x using EReal.rec with
    | bot => simp
    | top => exact absurd hx (lt_irrefl _)
    | coe a => simp [← EReal.coe_sub]

theorem cum_apply (la : FVec Ideal S256x256 .f32) (hla : ∀ i, la i < (⊤ : EReal)) (c : Fin 4) (l : Fin 64) (x : Fin 256) :
    cumW la (ix2 (row c l) x) = ∑ k : Fin 64, if k ≤ l then la (ix2 (row c k) x) else 0 := by
  rw [← sum_mask c l (fun j => la (ix2 j x))]
  pointwise [k0_pay8]
  rw [← Finset.sum_add_distrib, ← Finset.sum_add_distrib]
  refine Finset.sum_congr rfl fun j _ => ?_
  have hm := mask_apply (row c l) j
  simp only [maskW] at hm
  rw [hm]
  have h0 : FloatOps.sitofp (F := Ideal) FTy.f32 (BitVec.setWidth 32 0#1) = (0 : EReal) := by
    show (((BitVec.setWidth 32 0#1).toInt : ℝ) : EReal) = 0
    norm_num
  have h1 : FloatOps.sitofp (F := Ideal) FTy.f32 (BitVec.setWidth 32 1#1) = (1 : EReal) := by
    show (((BitVec.setWidth 32 1#1).toInt : ℝ) : EReal) = 1
    norm_num
  split
  · rw [h1, split3 _ _ (Or.inr rfl) (hla _), one_mul]
  · rw [h0, split3 _ _ (Or.inl rfl) (hla _), zero_mul]

/-! ## The decayed queries and keys -/

variable (B q k : FVec Ideal S256x256 .f32) (v g : FVec Ideal S256x512 .f32)

theorem pay9_apply (la : FVec Ideal S256x256 .f32) (c : Fin 4) (l : Fin 64) (x : Fin 256) :
    k0_pay9 (iota .tc S256x256 32 [1] iota_S256x256_d1_w32) k0_pay2 k0_pay3 64#32 k0_pay4 k0_pay5 1#32 0#1 la (ix3 c l x) = cumW la (ix2 (row c l) x) := by
  pointwise [k0_pay9]

theorem pay10_apply (la : FVec Ideal S256x256 .f32) (c : Fin 4) (o : Fin 1) (x : Fin 256) :
    k0_pay10 (iota .tc S256x256 32 [1] iota_S256x256_d1_w32) k0_pay2 k0_pay3 64#32 k0_pay4 k0_pay5 1#32 0#1 la (ix3 c o x) = cumW la (ix2 (row c 63) x) := by
  pointwise [k0_pay10, k0_pay9]
  try blk_ext

theorem pay11_apply (la : FVec Ideal S256x256 .f32) (i : S256x256.Idx) :
    (k0_pay11 (F := Ideal) (iota .tc S256x256 32 [1] iota_S256x256_d1_w32) k0_pay2 k0_pay3 64#32 k0_pay4 k0_pay5 1#32 0#1 la q i : EReal) = q i * Ideal.ofBits .f32 0x3E000000#32 * Ideal.exp (cumW la i) := by
  pointwise [k0_pay11]

theorem pay13_apply (i : S256x256.Idx) : (k0_pay13 B k k0_pay12 i : EReal) = k i * Ideal.exp (- B i) := by
  pointwise [k0_pay13, k0_pay12]
  rw [zero_sub]

theorem pay14_apply (B3 : FVec Ideal S4x64x256 .f32) (BL : FVec Ideal S4x1x256 .f32) (c : Fin 4) (l : Fin 64) (x : Fin 256) :
    (k0_pay14 B3 BL k (ix3 c l x) : EReal) = k (ix2 (row c l) x) * Ideal.exp (BL (ix3 c 0 x) - B3 (ix3 c l x)) := by
  pointwise [k0_pay14]

theorem pay15_apply (BL : FVec Ideal S4x1x256 .f32) (c : Fin 4) (x : Fin 256) :
    (k0_pay15 BL (ix3 c 0 x) : EReal) = Ideal.exp (BL (ix3 c 0 x)) := by
  pointwise [k0_pay15]

/-! ## Inside the chunks -/

/-- The part of the result that comes from inside the chunk: a causal product with no normaliser. -/
def intra (Q K : FVec Ideal S256x256 .bf16) (V : FVec Ideal S256x512 .bf16) (h c : Fin 4) (l : Fin 64) (e : Fin 128) : EReal :=
  ∑ k : Fin 64, if k ≤ l then (∑ d : Fin 64, Q (ix2 (row c l) (col h d)) * K (ix2 (row c k) (col h d))) * V (ix2 (row c k) (vcol h e)) else 0

theorem select_ite {α : Type} (p : Prop) [Decidable p] (a b : α) :
    Scalar.select (if p then 1#1 else 0#1) a b = if p then a else b := by
  by_cases h : p <;> simp [h, Scalar.select]

variable (Q : FVec Ideal S256x256 .bf16) (V : FVec Ideal S256x512 .bf16) (D : FVec Ideal S4x1x256 .f32) (Kd : FVec Ideal S4x64x256 .bf16)

theorem pay41_apply (c : Fin 4) (l : Fin 64) (e : Fin 128) :
    k0_pay41 maskW V (k0_pay17 B Q k k0_pay12) (ix2 (row c l) e) = intra Q (k0_pay13 B k k0_pay12) V 0 c l e := by
  rw [intra, ← sum_mask c l (fun j => (∑ d : Fin 64, Q (ix2 (row c l) (col 0 d)) * (k0_pay13 B k k0_pay12) (ix2 j (col 0 d))) * V (ix2 j (vcol 0 e)))]
  pointwise [k0_pay41, k0_pay17]
  simp only [mask_apply, select_ite]
  simp [row, col, vcol]

theorem pay42_apply (c : Fin 4) (l : Fin 64) (e : Fin 128) :
    k0_pay42 maskW V (k0_pay18 B Q k k0_pay12) (ix2 (row c l) e) = intra Q (k0_pay13 B k k0_pay12) V 1 c l e := by
  rw [intra, ← sum_mask c l (fun j => (∑ d : Fin 64, Q (ix2 (row c l) (col 1 d)) * (k0_pay13 B k k0_pay12) (ix2 j (col 1 d))) * V (ix2 j (vcol 1 e)))]
  pointwise [k0_pay42, k0_pay18]
  simp only [mask_apply, select_ite]
  simp [row, col, vcol]

theorem pay43_apply (c : Fin 4) (l : Fin 64) (e : Fin 128) :
    k0_pay43 maskW V (k0_pay19 B Q k k0_pay12) (ix2 (row c l) e) = intra Q (k0_pay13 B k k0_pay12) V 2 c l e := by
  rw [intra, ← sum_mask c l (fun j => (∑ d : Fin 64, Q (ix2 (row c l) (col 2 d)) * (k0_pay13 B k k0_pay12) (ix2 j (col 2 d))) * V (ix2 j (vcol 2 e)))]
  pointwise [k0_pay43, k0_pay19]
  simp only [mask_apply, select_ite]
  simp [row, col, vcol]

theorem pay44_apply (c : Fin 4) (l : Fin 64) (e : Fin 128) :
    k0_pay44 maskW V (k0_pay20 B Q k k0_pay12) (ix2 (row c l) e) = intra Q (k0_pay13 B k k0_pay12) V 3 c l e := by
  rw [intra, ← sum_mask c l (fun j => (∑ d : Fin 64, Q (ix2 (row c l) (col 3 d)) * (k0_pay13 B k k0_pay12) (ix2 j (col 3 d))) * V (ix2 j (vcol 3 e)))]
  pointwise [k0_pay44, k0_pay20]
  simp only [mask_apply, select_ite]
  simp [row, col, vcol]

/-! ## The chunks' states -/

/-- What chunk `c` adds to the state of head `h`. -/
def upd (Kd : FVec Ideal S4x64x256 .bf16) (V : FVec Ideal S256x512 .bf16) (h c : Fin 4) (e : Fin 128) (d : Fin 64) : EReal :=
  ∑ l : Fin 64, V (ix2 (row c l) (vcol h e)) * Kd (ix3 c l (col h d))

/-- The state of head `h` before the block's chunk `n`, from the state `s` the block begins with. -/
def stt (D : FVec Ideal S4x1x256 .f32) (Kd : FVec Ideal S4x64x256 .bf16) (V : FVec Ideal S256x512 .bf16) (h : Fin 4)
    (s : Fin 128 → Fin 64 → EReal) (e : Fin 128) (d : Fin 64) : ℕ → EReal
  | 0 => s e d
  | n + 1 => if hn : n < 4 then stt D Kd V h s e d n * D (ix3 ⟨n, hn⟩ 0 (col h d)) + upd Kd V h ⟨n, hn⟩ e d else 0

/-- The block's state of one head as the run holds it: one plane. -/
abbrev plane (s : Vec Ideal S1x128x64 .f32) (e : Fin 128) (d : Fin 64) : EReal := s (ix3 0 e d)

variable (B3 : FVec Ideal S4x64x256 .f32) (BL : FVec Ideal S4x1x256 .f32) (s : Vec Ideal S1x128x64 .f32)

theorem u0 (e : Fin 128) (d : Fin 64) : k0_pay21 B3 BL k v (ix2 e d) = upd (k0_pay14 B3 BL k) (k0_pay16 v) 0 0 e d := by
  rw [upd]; pointwise [k0_pay21]; simp [row, col, vcol]
theorem u1 (e : Fin 128) (d : Fin 64) : k0_pay22 B3 BL k v (ix2 e d) = upd (k0_pay14 B3 BL k) (k0_pay16 v) 0 1 e d := by
  rw [upd]; pointwise [k0_pay22]; simp [row, col, vcol]
theorem u2 (e : Fin 128) (d : Fin 64) : k0_pay23 B3 BL k v (ix2 e d) = upd (k0_pay14 B3 BL k) (k0_pay16 v) 0 2 e d := by
  rw [upd]; pointwise [k0_pay23]; simp [row, col, vcol]
theorem u3 (e : Fin 128) (d : Fin 64) : k0_pay24 B3 BL k v (ix2 e d) = upd (k0_pay14 B3 BL k) (k0_pay16 v) 0 3 e d := by
  rw [upd]; pointwise [k0_pay24]; simp [row, col, vcol]
theorem u4 (e : Fin 128) (d : Fin 64) :
    k0_pay27 (k0_pay25 v) (k0_pay26 B3 BL k) (constant S128x64 .f32 0#32) (ix2 e d) = upd (k0_pay14 B3 BL k) (k0_pay16 v) 1 0 e d := by
  rw [upd]; pointwise [k0_pay27, k0_pay25, k0_pay26]; simp [row, col, vcol]
theorem u5 (e : Fin 128) (d : Fin 64) : k0_pay28 Kd V (ix2 e d) = upd Kd V 1 1 e d := by
  rw [upd]; pointwise [k0_pay28]; simp [row, col, vcol]
theorem u6 (e : Fin 128) (d : Fin 64) : k0_pay29 Kd V (ix2 e d) = upd Kd V 1 2 e d := by
  rw [upd]; pointwise [k0_pay29]; simp [row, col, vcol]
theorem u7 (e : Fin 128) (d : Fin 64) : k0_pay30 Kd V (ix2 e d) = upd Kd V 1 3 e d := by
  rw [upd]; pointwise [k0_pay30]; simp [row, col, vcol]
theorem u8 (e : Fin 128) (d : Fin 64) : k0_pay31 Kd V (ix2 e d) = upd Kd V 2 0 e d := by
  rw [upd]; pointwise [k0_pay31]; simp [row, col, vcol]
theorem u9 (e : Fin 128) (d : Fin 64) : k0_pay32 Kd V (ix2 e d) = upd Kd V 2 1 e d := by
  rw [upd]; pointwise [k0_pay32]; simp [row, col, vcol]
theorem u10 (e : Fin 128) (d : Fin 64) : k0_pay33 Kd V (ix2 e d) = upd Kd V 2 2 e d := by
  rw [upd]; pointwise [k0_pay33]; simp [row, col, vcol]
theorem u11 (e : Fin 128) (d : Fin 64) : k0_pay34 Kd V (ix2 e d) = upd Kd V 2 3 e d := by
  rw [upd]; pointwise [k0_pay34]; simp [row, col, vcol]
theorem u12 (e : Fin 128) (d : Fin 64) : k0_pay35 Kd V (ix2 e d) = upd Kd V 3 0 e d := by
  rw [upd]; pointwise [k0_pay35]; simp [row, col, vcol]
theorem u13 (e : Fin 128) (d : Fin 64) : k0_pay36 Kd V (ix2 e d) = upd Kd V 3 1 e d := by
  rw [upd]; pointwise [k0_pay36]; simp [row, col, vcol]
theorem u14 (e : Fin 128) (d : Fin 64) :
    k0_pay39 (k0_pay37 V) (k0_pay38 Kd) (constant S128x64 .f32 0#32) (ix2 e d) = upd Kd V 3 2 e d := by
  rw [upd]; pointwise [k0_pay39, k0_pay37, k0_pay38]; simp [row, col, vcol]
theorem u15 (e : Fin 128) (d : Fin 64) : k0_pay40 Kd V (ix2 e d) = upd Kd V 3 3 e d := by
  rw [upd]; pointwise [k0_pay40]; simp [row, col, vcol]

variable (U0 U1 U2 U3 : FVec Ideal S128x64 .f32)

/-! Head 0 -/
theorem s0_0 (e : Fin 128) (d : Fin 64) :
    k0_pay46 s (ix2 e d) = stt D Kd V 0 (plane s) e d 0 := by
  pointwise [k0_pay54, k0_pay53, k0_pay52, k0_pay51, k0_pay50, k0_pay49, k0_pay48, k0_pay47, k0_pay46, k0_pay45]; simp [stt]
theorem s0_1 (h0 : ∀ e d, U0 (ix2 e d) = upd Kd V 0 0 e d) (e : Fin 128) (d : Fin 64) :
    k0_pay48 D U0 s (ix2 e d) = stt D Kd V 0 (plane s) e d 1 := by
  pointwise [k0_pay54, k0_pay53, k0_pay52, k0_pay51, k0_pay50, k0_pay49, k0_pay48, k0_pay47, k0_pay46, k0_pay45]; simp [stt, h0, col]
theorem s0_2 (h0 : ∀ e d, U0 (ix2 e d) = upd Kd V 0 0 e d) (h1 : ∀ e d, U1 (ix2 e d) = upd Kd V 0 1 e d) (e : Fin 128) (d : Fin 64) :
    k0_pay50 D U0 U1 s (ix2 e d) = stt D Kd V 0 (plane s) e d 2 := by
  pointwise [k0_pay54, k0_pay53, k0_pay52, k0_pay51, k0_pay50, k0_pay49, k0_pay48, k0_pay47, k0_pay46, k0_pay45]; simp [stt, h0, h1, col]
theorem s0_3 (h0 : ∀ e d, U0 (ix2 e d) = upd Kd V 0 0 e d) (h1 : ∀ e d, U1 (ix2 e d) = upd Kd V 0 1 e d)
    (h2 : ∀ e d, U2 (ix2 e d) = upd Kd V 0 2 e d) (e : Fin 128) (d : Fin 64) :
    k0_pay53 U2 (k0_pay51 D U0 U1 s) (ix2 e d) = stt D Kd V 0 (plane s) e d 3 := by
  pointwise [k0_pay54, k0_pay53, k0_pay52, k0_pay51, k0_pay50, k0_pay49, k0_pay48, k0_pay47, k0_pay46, k0_pay45]; simp [stt, h0, h1, h2, col]
theorem s0_4 (h0 : ∀ e d, U0 (ix2 e d) = upd Kd V 0 0 e d) (h1 : ∀ e d, U1 (ix2 e d) = upd Kd V 0 1 e d)
    (h2 : ∀ e d, U2 (ix2 e d) = upd Kd V 0 2 e d) (h3 : ∀ e d, U3 (ix2 e d) = upd Kd V 0 3 e d) (o : Fin 1) (e : Fin 128) (d : Fin 64) :
    k0_pay54 D U2 U3 (k0_pay51 D U0 U1 s) (ix3 o e d) = stt D Kd V 0 (plane s) e d 4 := by
  pointwise [k0_pay54, k0_pay53, k0_pay52, k0_pay51, k0_pay50, k0_pay49, k0_pay48, k0_pay47, k0_pay46, k0_pay45]; simp [stt, h0, h1, h2, h3, col]
/-! Head 1 -/
theorem s1_0 (e : Fin 128) (d : Fin 64) :
    k0_pay56 s (ix2 e d) = stt D Kd V 1 (plane s) e d 0 := by
  pointwise [k0_pay63, k0_pay62, k0_pay61, k0_pay60, k0_pay59, k0_pay58, k0_pay57, k0_pay56, k0_pay55]; simp [stt]
theorem s1_1 (h0 : ∀ e d, U0 (ix2 e d) = upd Kd V 1 0 e d) (e : Fin 128) (d : Fin 64) :
    k0_pay58 D U0 s (ix2 e d) = stt D Kd V 1 (plane s) e d 1 := by
  pointwise [k0_pay63, k0_pay62, k0_pay61, k0_pay60, k0_pay59, k0_pay58, k0_pay57, k0_pay56, k0_pay55]; simp [stt, h0, col]
theorem s1_2 (h0 : ∀ e d, U0 (ix2 e d) = upd Kd V 1 0 e d) (h1 : ∀ e d, U1 (ix2 e d) = upd Kd V 1 1 e d) (e : Fin 128) (d : Fin 64) :
    k0_pay60 D U0 U1 s (ix2 e d) = stt D Kd V 1 (plane s) e d 2 := by
  pointwise [k0_pay63, k0_pay62, k0_pay61, k0_pay60, k0_pay59, k0_pay58, k0_pay57, k0_pay56, k0_pay55]; simp [stt, h0, h1, col]
theorem s1_3 (h0 : ∀ e d, U0 (ix2 e d) = upd Kd V 1 0 e d) (h1 : ∀ e d, U1 (ix2 e d) = upd Kd V 1 1 e d)
    (h2 : ∀ e d, U2 (ix2 e d) = upd Kd V 1 2 e d) (e : Fin 128) (d : Fin 64) :
    k0_pay62 D U0 U1 U2 s (ix2 e d) = stt D Kd V 1 (plane s) e d 3 := by
  pointwise [k0_pay63, k0_pay62, k0_pay61, k0_pay60, k0_pay59, k0_pay58, k0_pay57, k0_pay56, k0_pay55]; simp [stt, h0, h1, h2, col]
theorem s1_4 (h0 : ∀ e d, U0 (ix2 e d) = upd Kd V 1 0 e d) (h1 : ∀ e d, U1 (ix2 e d) = upd Kd V 1 1 e d)
    (h2 : ∀ e d, U2 (ix2 e d) = upd Kd V 1 2 e d) (h3 : ∀ e d, U3 (ix2 e d) = upd Kd V 1 3 e d) (o : Fin 1) (e : Fin 128) (d : Fin 64) :
    k0_pay63 D U0 U1 U2 U3 s (ix3 o e d) = stt D Kd V 1 (plane s) e d 4 := by
  pointwise [k0_pay63, k0_pay62, k0_pay61, k0_pay60, k0_pay59, k0_pay58, k0_pay57, k0_pay56, k0_pay55]; simp [stt, h0, h1, h2, h3, col]
/-! Head 2 -/
theorem s2_0 (e : Fin 128) (d : Fin 64) :
    k0_pay65 (k0_pay64 s) (ix2 e d) = stt D Kd V 2 (plane s) e d 0 := by
  pointwise [k0_pay72, k0_pay71, k0_pay70, k0_pay69, k0_pay68, k0_pay67, k0_pay66, k0_pay65, k0_pay64]; simp [stt]
theorem s2_1 (h0 : ∀ e d, U0 (ix2 e d) = upd Kd V 2 0 e d) (e : Fin 128) (d : Fin 64) :
    k0_pay67 D U0 (k0_pay64 s) (ix2 e d) = stt D Kd V 2 (plane s) e d 1 := by
  pointwise [k0_pay72, k0_pay71, k0_pay70, k0_pay69, k0_pay68, k0_pay67, k0_pay66, k0_pay65, k0_pay64]; simp [stt, h0, col]
theorem s2_2 (h0 : ∀ e d, U0 (ix2 e d) = upd Kd V 2 0 e d) (h1 : ∀ e d, U1 (ix2 e d) = upd Kd V 2 1 e d) (e : Fin 128) (d : Fin 64) :
    k0_pay69 D U0 U1 (k0_pay64 s) (ix2 e d) = stt D Kd V 2 (plane s) e d 2 := by
  pointwise [k0_pay72, k0_pay71, k0_pay70, k0_pay69, k0_pay68, k0_pay67, k0_pay66, k0_pay65, k0_pay64]; simp [stt, h0, h1, col]
theorem s2_3 (h0 : ∀ e d, U0 (ix2 e d) = upd Kd V 2 0 e d) (h1 : ∀ e d, U1 (ix2 e d) = upd Kd V 2 1 e d)
    (h2 : ∀ e d, U2 (ix2 e d) = upd Kd V 2 2 e d) (e : Fin 128) (d : Fin 64) :
    k0_pay71 D U0 U1 U2 (k0_pay64 s) (ix2 e d) = stt D Kd V 2 (plane s) e d 3 := by
  pointwise [k0_pay72, k0_pay71, k0_pay70, k0_pay69, k0_pay68, k0_pay67, k0_pay66, k0_pay65, k0_pay64]; simp [stt, h0, h1, h2, col]
theorem s2_4 (h0 : ∀ e d, U0 (ix2 e d) = upd Kd V 2 0 e d) (h1 : ∀ e d, U1 (ix2 e d) = upd Kd V 2 1 e d)
    (h2 : ∀ e d, U2 (ix2 e d) = upd Kd V 2 2 e d) (h3 : ∀ e d, U3 (ix2 e d) = upd Kd V 2 3 e d) (o : Fin 1) (e : Fin 128) (d : Fin 64) :
    k0_pay72 D U0 U1 U2 U3 (k0_pay64 s) (ix3 o e d) = stt D Kd V 2 (plane s) e d 4 := by
  pointwise [k0_pay72, k0_pay71, k0_pay70, k0_pay69, k0_pay68, k0_pay67, k0_pay66, k0_pay65, k0_pay64]; simp [stt, h0, h1, h2, h3, col]
/-! Head 3 -/
theorem s3_0 (e : Fin 128) (d : Fin 64) :
    k0_pay74 s (ix2 e d) = stt D Kd V 3 (plane s) e d 0 := by
  pointwise [k0_pay82, k0_pay81, k0_pay80, k0_pay79, k0_pay78, k0_pay77, k0_pay76, k0_pay75, k0_pay74, k0_pay73]; simp [stt]
theorem s3_1 (h0 : ∀ e d, U0 (ix2 e d) = upd Kd V 3 0 e d) (e : Fin 128) (d : Fin 64) :
    k0_pay76 D U0 s (ix2 e d) = stt D Kd V 3 (plane s) e d 1 := by
  pointwise [k0_pay82, k0_pay81, k0_pay80, k0_pay79, k0_pay78, k0_pay77, k0_pay76, k0_pay75, k0_pay74, k0_pay73]; simp [stt, h0, col]
theorem s3_2 (h0 : ∀ e d, U0 (ix2 e d) = upd Kd V 3 0 e d) (h1 : ∀ e d, U1 (ix2 e d) = upd Kd V 3 1 e d) (e : Fin 128) (d : Fin 64) :
    k0_pay78 D U0 U1 s (ix2 e d) = stt D Kd V 3 (plane s) e d 2 := by
  pointwise [k0_pay82, k0_pay81, k0_pay80, k0_pay79, k0_pay78, k0_pay77, k0_pay76, k0_pay75, k0_pay74, k0_pay73]; simp [stt, h0, h1, col]
theorem s3_3 (h0 : ∀ e d, U0 (ix2 e d) = upd Kd V 3 0 e d) (h1 : ∀ e d, U1 (ix2 e d) = upd Kd V 3 1 e d)
    (h2 : ∀ e d, U2 (ix2 e d) = upd Kd V 3 2 e d) (e : Fin 128) (d : Fin 64) :
    k0_pay81 U2 (k0_pay79 D U0 U1 s) (ix2 e d) = stt D Kd V 3 (plane s) e d 3 := by
  pointwise [k0_pay82, k0_pay81, k0_pay80, k0_pay79, k0_pay78, k0_pay77, k0_pay76, k0_pay75, k0_pay74, k0_pay73]; simp [stt, h0, h1, h2, col]
theorem s3_4 (h0 : ∀ e d, U0 (ix2 e d) = upd Kd V 3 0 e d) (h1 : ∀ e d, U1 (ix2 e d) = upd Kd V 3 1 e d)
    (h2 : ∀ e d, U2 (ix2 e d) = upd Kd V 3 2 e d) (h3 : ∀ e d, U3 (ix2 e d) = upd Kd V 3 3 e d) (o : Fin 1) (e : Fin 128) (d : Fin 64) :
    k0_pay82 D U2 U3 (k0_pay79 D U0 U1 s) (ix3 o e d) = stt D Kd V 3 (plane s) e d 4 := by
  pointwise [k0_pay82, k0_pay81, k0_pay80, k0_pay79, k0_pay78, k0_pay77, k0_pay76, k0_pay75, k0_pay74, k0_pay73]; simp [stt, h0, h1, h2, h3, col]

/-! ## The result of a block -/

/-- What the state before the chunk gives the result. -/
def inter (Q : FVec Ideal S256x256 .bf16) (h c : Fin 4) (l : Fin 64) (st : Fin 64 → EReal) : EReal :=
  ∑ d : Fin 64, Q (ix2 (row c l) (col h d)) * st d

/-- The norm over a head's values, its gain, and the gate. -/
def fin (o : Fin 128 → EReal) (ng g : EReal) (e : Fin 128) : EReal :=
  o e * Ideal.rsqrt (Ideal.div (∑ x, o x * o x) (Ideal.ofBits FTy.f32 1124073472#32) + Ideal.ofBits FTy.f32 897988541#32) * ng * (g * Ideal.logistic g)

variable (NG : FVec Ideal S1x128 .f32) (A : FVec Ideal S256x128 .f32) (I0 I1 I2 I3 : FVec Ideal S64x128 .f32) (G : Vec Ideal S256x128 .f32)

theorem ladder (c : Fin 4) (l : Fin 64) (e : Fin 128) :
    (if h : (c : ℕ) * 64 + l < 64 then I0 (ix2 ⟨(c : ℕ) * 64 + l, h⟩ e)
      else if h1 : (c : ℕ) * 64 + l - 64 < 64 then I1 (ix2 ⟨(c : ℕ) * 64 + l - 64, h1⟩ e)
      else if h2 : (c : ℕ) * 64 + l - 64 - 64 < 64 then I2 (ix2 ⟨(c : ℕ) * 64 + l - 64 - 64, h2⟩ e)
      else I3 (ix2 ⟨(c : ℕ) * 64 + l - 64 - 64 - 64, by omega⟩ e)) = ![I0, I1, I2, I3] c (ix2 l e) := by
  fin_cases c
  · simp
  · simp
  · have a1 : ¬ 128 + (l : ℕ) < 64 := by omega
    have a2 : ¬ 128 + (l : ℕ) - 64 < 64 := by omega
    have a3 : 128 + (l : ℕ) - 64 - 64 = l := by omega
    simp [a1, a2, a3]
  · have a1 : ¬ 192 + (l : ℕ) < 64 := by omega
    have a2 : ¬ 192 + (l : ℕ) - 64 < 64 := by omega
    have a3 : ¬ 192 + (l : ℕ) - 64 - 64 < 64 := by omega
    have a4 : 192 + (l : ℕ) - 64 - 64 - 64 = l := by omega
    simp [a1, a2, a3, a4]

theorem pay99_apply (c : Fin 4) (l : Fin 64) (e : Fin 128) :
    (k0_pay99 NG A I0 I1 I2 I3 G (ix2 (row c l) e) : EReal)
      = fin (fun x => A (ix2 (row c l) x) + ![I0, I1, I2, I3] c (ix2 l x)) (NG (ix2 0 e)) (G (ix2 (row c l) e)) e := by
  pointwise [k0_pay99]
  simp only [ladder]
  rfl

theorem pay100_apply (c : Fin 4) (l : Fin 64) (e : Fin 128) :
    (k0_pay100 NG A I0 I1 I2 I3 G (ix2 (row c l) e) : EReal)
      = fin (fun x => A (ix2 (row c l) x) + ![I0, I1, I2, I3] c (ix2 l x)) (NG (ix2 0 e)) (G (ix2 (row c l) e)) e := by
  pointwise [k0_pay100]
  simp only [ladder]
  rfl

theorem pay102_apply (c : Fin 4) (l : Fin 64) (e : Fin 128) :
    (k0_pay102 NG A (k0_pay101 I0 I1 I2 I3) G (ix2 (row c l) e) : EReal)
      = fin (fun x => A (ix2 (row c l) x) + ![I0, I1, I2, I3] c (ix2 l x)) (NG (ix2 0 e)) (G (ix2 (row c l) e)) e := by
  pointwise [k0_pay102, k0_pay101]
  simp only [ladder]
  rfl

theorem pay103_apply (c : Fin 4) (l : Fin 64) (e : Fin 128) :
    (k0_pay103 NG A I0 I1 I2 I3 G (ix2 (row c l) e) : EReal)
      = fin (fun x => A (ix2 (row c l) x) + ![I0, I1, I2, I3] c (ix2 l x)) (NG (ix2 0 e)) (G (ix2 (row c l) e)) e := by
  pointwise [k0_pay103]
  simp only [ladder]
  rfl

variable (S : FVec Ideal S128x64 .bf16)

theorem i0 (l : Fin 64) (e : Fin 128) : k0_pay83 Q S (ix2 l e) = inter Q 0 0 l (fun d => S (ix2 e d)) := by
  pointwise [k0_pay83]; simp [inter, row, col]
theorem i1 (l : Fin 64) (e : Fin 128) : k0_pay84 Q S (ix2 l e) = inter Q 0 1 l (fun d => S (ix2 e d)) := by
  pointwise [k0_pay84]; simp [inter, row, col]
theorem i2 (l : Fin 64) (e : Fin 128) : k0_pay85 Q S (ix2 l e) = inter Q 0 2 l (fun d => S (ix2 e d)) := by
  pointwise [k0_pay85]; simp [inter, row, col]
theorem i3 (l : Fin 64) (e : Fin 128) : k0_pay86 Q S (ix2 l e) = inter Q 0 3 l (fun d => S (ix2 e d)) := by
  pointwise [k0_pay86]; simp [inter, row, col]
theorem i4 (l : Fin 64) (e : Fin 128) : k0_pay87 Q S (ix2 l e) = inter Q 1 0 l (fun d => S (ix2 e d)) := by
  pointwise [k0_pay87]; simp [inter, row, col]
theorem i5 (l : Fin 64) (e : Fin 128) : k0_pay88 Q S (ix2 l e) = inter Q 1 1 l (fun d => S (ix2 e d)) := by
  pointwise [k0_pay88]; simp [inter, row, col]
theorem i6 (l : Fin 64) (e : Fin 128) : k0_pay89 Q S (ix2 l e) = inter Q 1 2 l (fun d => S (ix2 e d)) := by
  pointwise [k0_pay89]; simp [inter, row, col]
theorem i7 (l : Fin 64) (e : Fin 128) : k0_pay90 Q S (ix2 l e) = inter Q 1 3 l (fun d => S (ix2 e d)) := by
  pointwise [k0_pay90]; simp [inter, row, col]
theorem i8 (l : Fin 64) (e : Fin 128) : k0_pay91 Q S (ix2 l e) = inter Q 2 0 l (fun d => S (ix2 e d)) := by
  pointwise [k0_pay91]; simp [inter, row, col]
theorem i9 (l : Fin 64) (e : Fin 128) : k0_pay92 Q S (ix2 l e) = inter Q 2 1 l (fun d => S (ix2 e d)) := by
  pointwise [k0_pay92]; simp [inter, row, col]
theorem i10 (l : Fin 64) (e : Fin 128) : k0_pay93 Q S (ix2 l e) = inter Q 2 2 l (fun d => S (ix2 e d)) := by
  pointwise [k0_pay93]; simp [inter, row, col]
theorem i11 (l : Fin 64) (e : Fin 128) : k0_pay94 Q S (ix2 l e) = inter Q 2 3 l (fun d => S (ix2 e d)) := by
  pointwise [k0_pay94]; simp [inter, row, col]
theorem i12 (l : Fin 64) (e : Fin 128) : k0_pay95 Q S (ix2 l e) = inter Q 3 0 l (fun d => S (ix2 e d)) := by
  pointwise [k0_pay95]; simp [inter, row, col]
theorem i13 (l : Fin 64) (e : Fin 128) : k0_pay96 Q S (ix2 l e) = inter Q 3 1 l (fun d => S (ix2 e d)) := by
  pointwise [k0_pay96]; simp [inter, row, col]
theorem i14 (l : Fin 64) (e : Fin 128) : k0_pay97 Q S (ix2 l e) = inter Q 3 2 l (fun d => S (ix2 e d)) := by
  pointwise [k0_pay97]; simp [inter, row, col]
theorem i15 (l : Fin 64) (e : Fin 128) : k0_pay98 Q S (ix2 l e) = inter Q 3 3 l (fun d => S (ix2 e d)) := by
  pointwise [k0_pay98]; simp [inter, row, col]

end Cert.Proof.Block
end
-- ==== Proof.Point.lean ====
/- One grid point of the gated linear attention kernel: the result block and the carried states it leaves, over the
   states it finds. Heads and chunks are treated alike: one closed form each for the result and for the states. -/
module

public import proofs.«01_k».proof.Proof.Block

@[expose] public section

set_option maxRecDepth 16384

noncomputable section

namespace Cert.Proof.Point

open Idealize.ShloMosaic Idealize.ShloMosaic.TcCoe Idealize.SL.Sem
open Cert.KernelIdeal Cert.KernelIdeal.Gen Cert.Proof.Block

section Pure

variable (la q k : FVec Ideal S256x256 .f32) (v g : FVec Ideal S256x512 .f32) (n : FVec Ideal S1x128 .f32)

/-- The queries under their decay. -/
abbrev QW : FVec Ideal S256x256 .bf16 :=
  k0_pay11 (iota .tc S256x256 32 [1] iota_S256x256_d1_w32) k0_pay2 k0_pay3 64#32 k0_pay4 k0_pay5 1#32 0#1 la q
/-- The running sums, chunk by chunk. -/
abbrev B3W : FVec Ideal S4x64x256 .f32 :=
  k0_pay9 (iota .tc S256x256 32 [1] iota_S256x256_d1_w32) k0_pay2 k0_pay3 64#32 k0_pay4 k0_pay5 1#32 0#1 la
/-- Their last in each chunk. -/
abbrev BLW : FVec Ideal S4x1x256 .f32 :=
  k0_pay10 (iota .tc S256x256 32 [1] iota_S256x256_d1_w32) k0_pay2 k0_pay3 64#32 k0_pay4 k0_pay5 1#32 0#1 la
/-- The keys against their decay. -/
abbrev KW : FVec Ideal S256x256 .bf16 := k0_pay13 (cumW la) k k0_pay12
/-- The keys decayed to the chunk's end. -/
abbrev KdW : FVec Ideal S4x64x256 .bf16 := k0_pay14 (B3W la) (BLW la) k
/-- The decay over a whole chunk. -/
abbrev DW : FVec Ideal S4x1x256 .f32 := k0_pay15 (BLW la)
/-- The values. -/
abbrev VW : FVec Ideal S256x512 .bf16 := k0_pay16 v

/-- The states one block leaves over the states `p` it finds. -/
def stepS (p : Fin 4 → Fin 128 → Fin 64 → EReal) (h : Fin 4) (e : Fin 128) (d : Fin 64) : EReal :=
  stt (DW la) (KdW la k) (VW v) h (p h) e d 4

/-- The result of one block over the states `p` it finds, at chunk `c`, place `l`, head `h`, value `e`. -/
def resS (p : Fin 4 → Fin 128 → Fin 64 → EReal) (c : Fin 4) (l : Fin 64) (h : Fin 4) (e : Fin 128) : EReal :=
  fin (fun x => intra (QW la q) (KW la k) (VW v) h c l x + inter (QW la q) h c l (fun d => stt (DW la) (KdW la k) (VW v) h (p h) x d c))
    (n (ix2 0 e)) (g (ix2 (row c l) (vcol h e))) e

variable (s : Vec Ideal S1x128x64 .f32) (G : Vec Ideal S256x128 .f32) (p : Fin 4 → Fin 128 → Fin 64 → EReal)

theorem st0 (hs : ∀ e d, s (ix3 0 e d) = p 0 e d) (o : Fin 1) (e : Fin 128) (d : Fin 64) :
    k0_pay54 (DW la) (k0_pay23 (B3W la) (BLW la) k v) (k0_pay24 (B3W la) (BLW la) k v) (k0_pay51 (DW la) (k0_pay21 (B3W la) (BLW la) k v) (k0_pay22 (B3W la) (BLW la) k v) s) (ix3 o e d) = stepS la k v p 0 e d := by
  rw [s0_4 (V := VW v) (Kd := KdW la k) (h0 := (u0 k v (B3W la) (BLW la))) (h1 := (u1 k v (B3W la) (BLW la))) (h2 := (u2 k v (B3W la) (BLW la))) (h3 := (u3 k v (B3W la) (BLW la)))]
  rw [stepS, show plane s = p 0 from funext fun e => funext fun d => hs e d]

theorem res0 (hs : ∀ e d, s (ix3 0 e d) = p 0 e d) (hG : ∀ r e, G (ix2 r e) = g (ix2 r (vcol 0 e))) (c : Fin 4) (l : Fin 64) (e : Fin 128) :
    (k0_pay99 (k0_pay7 n) (k0_pay41 maskW (VW v) (k0_pay17 (cumW la) (QW la q) k k0_pay12))
      (k0_pay83 (QW la q) (k0_pay46 s)) (k0_pay84 (QW la q) (k0_pay48 (DW la) (k0_pay21 (B3W la) (BLW la) k v) s)) (k0_pay85 (QW la q) (k0_pay50 (DW la) (k0_pay21 (B3W la) (BLW la) k v) (k0_pay22 (B3W la) (BLW la) k v) s)) (k0_pay86 (QW la q) (k0_pay53 (k0_pay23 (B3W la) (BLW la) k v) (k0_pay51 (DW la) (k0_pay21 (B3W la) (BLW la) k v) (k0_pay22 (B3W la) (BLW la) k v) s))) G (ix2 (row c l) e) : EReal) = resS la q k v g n p c l 0 e := by
  rw [pay99_apply, hG]
  have hn : k0_pay7 n (ix2 0 e) = n (ix2 0 e) := by pointwise [k0_pay7]
  have hp : plane s = p 0 := funext fun e => funext fun d => hs e d
  rw [hn, resS]
  congr 1
  funext x
  rw [pay41_apply]
  congr 1
  fin_cases c
  · refine (i0 _ _ l x).trans (congrArg _ (funext fun d => ?_))
    rw [← hp]; exact s0_0 _ _ _ _ x d
  · refine (i1 _ _ l x).trans (congrArg _ (funext fun d => ?_))
    rw [← hp]; exact s0_1 (V := VW v) (Kd := KdW la k) (h0 := (u0 k v (B3W la) (BLW la))) (e := x) (d := d) ..
  · refine (i2 _ _ l x).trans (congrArg _ (funext fun d => ?_))
    rw [← hp]; exact s0_2 (V := VW v) (Kd := KdW la k) (h0 := (u0 k v (B3W la) (BLW la))) (h1 := (u1 k v (B3W la) (BLW la))) (e := x) (d := d) ..
  · refine (i3 _ _ l x).trans (congrArg _ (funext fun d => ?_))
    rw [← hp]; exact s0_3 (V := VW v) (Kd := KdW la k) (h0 := (u0 k v (B3W la) (BLW la))) (h1 := (u1 k v (B3W la) (BLW la))) (h2 := (u2 k v (B3W la) (BLW la))) (e := x) (d := d) ..

theorem st1 (hs : ∀ e d, s (ix3 0 e d) = p 1 e d) (o : Fin 1) (e : Fin 128) (d : Fin 64) :
    k0_pay63 (DW la) (k0_pay27 (k0_pay25 v) (k0_pay26 (B3W la) (BLW la) k) (constant S128x64 .f32 0#32)) (k0_pay28 (KdW la k) (VW v)) (k0_pay29 (KdW la k) (VW v)) (k0_pay30 (KdW la k) (VW v)) s (ix3 o e d) = stepS la k v p 1 e d := by
  rw [s1_4 (V := VW v) (Kd := KdW la k) (h0 := (u4 k v (B3W la) (BLW la))) (h1 := (u5 (VW v) (KdW la k))) (h2 := (u6 (VW v) (KdW la k))) (h3 := (u7 (VW v) (KdW la k)))]
  rw [stepS, show plane s = p 1 from funext fun e => funext fun d => hs e d]

theorem res1 (hs : ∀ e d, s (ix3 0 e d) = p 1 e d) (hG : ∀ r e, G (ix2 r e) = g (ix2 r (vcol 1 e))) (c : Fin 4) (l : Fin 64) (e : Fin 128) :
    (k0_pay100 (k0_pay7 n) (k0_pay42 maskW (VW v) (k0_pay18 (cumW la) (QW la q) k k0_pay12))
      (k0_pay87 (QW la q) (k0_pay56 s)) (k0_pay88 (QW la q) (k0_pay58 (DW la) (k0_pay27 (k0_pay25 v) (k0_pay26 (B3W la) (BLW la) k) (constant S128x64 .f32 0#32)) s)) (k0_pay89 (QW la q) (k0_pay60 (DW la) (k0_pay27 (k0_pay25 v) (k0_pay26 (B3W la) (BLW la) k) (constant S128x64 .f32 0#32)) (k0_pay28 (KdW la k) (VW v)) s)) (k0_pay90 (QW la q) (k0_pay62 (DW la) (k0_pay27 (k0_pay25 v) (k0_pay26 (B3W la) (BLW la) k) (constant S128x64 .f32 0#32)) (k0_pay28 (KdW la k) (VW v)) (k0_pay29 (KdW la k) (VW v)) s)) G (ix2 (row c l) e) : EReal) = resS la q k v g n p c l 1 e := by
  rw [pay100_apply, hG]
  have hn : k0_pay7 n (ix2 0 e) = n (ix2 0 e) := by pointwise [k0_pay7]
  have hp : plane s = p 1 := funext fun e => funext fun d => hs e d
  rw [hn, resS]
  congr 1
  funext x
  rw [pay42_apply]
  congr 1
  fin_cases c
  · refine (i4 _ _ l x).trans (congrArg _ (funext fun d => ?_))
    rw [← hp]; exact s1_0 _ _ _ _ x d
  · refine (i5 _ _ l x).trans (congrArg _ (funext fun d => ?_))
    rw [← hp]; exact s1_1 (V := VW v) (Kd := KdW la k) (h0 := (u4 k v (B3W la) (BLW la))) (e := x) (d := d) ..
  · refine (i6 _ _ l x).trans (congrArg _ (funext fun d => ?_))
    rw [← hp]; exact s1_2 (V := VW v) (Kd := KdW la k) (h0 := (u4 k v (B3W la) (BLW la))) (h1 := (u5 (VW v) (KdW la k))) (e := x) (d := d) ..
  · refine (i7 _ _ l x).trans (congrArg _ (funext fun d => ?_))
    rw [← hp]; exact s1_3 (V := VW v) (Kd := KdW la k) (h0 := (u4 k v (B3W la) (BLW la))) (h1 := (u5 (VW v) (KdW la k))) (h2 := (u6 (VW v) (KdW la k))) (e := x) (d := d) ..

theorem st2 (hs : ∀ e d, s (ix3 0 e d) = p 2 e d) (o : Fin 1) (e : Fin 128) (d : Fin 64) :
    k0_pay72 (DW la) (k0_pay31 (KdW la k) (VW v)) (k0_pay32 (KdW la k) (VW v)) (k0_pay33 (KdW la k) (VW v)) (k0_pay34 (KdW la k) (VW v)) (k0_pay64 s) (ix3 o e d) = stepS la k v p 2 e d := by
  rw [s2_4 (V := VW v) (Kd := KdW la k) (h0 := (u8 (VW v) (KdW la k))) (h1 := (u9 (VW v) (KdW la k))) (h2 := (u10 (VW v) (KdW la k))) (h3 := (u11 (VW v) (KdW la k)))]
  rw [stepS, show plane s = p 2 from funext fun e => funext fun d => hs e d]

theorem res2 (hs : ∀ e d, s (ix3 0 e d) = p 2 e d) (hG : ∀ r e, G (ix2 r e) = g (ix2 r (vcol 2 e))) (c : Fin 4) (l : Fin 64) (e : Fin 128) :
    (k0_pay102 (k0_pay7 n) (k0_pay43 maskW (VW v) (k0_pay19 (cumW la) (QW la q) k k0_pay12))
      (k0_pay101 (k0_pay91 (QW la q) (k0_pay65 (k0_pay64 s))) (k0_pay92 (QW la q) (k0_pay67 (DW la) (k0_pay31 (KdW la k) (VW v)) (k0_pay64 s))) (k0_pay93 (QW la q) (k0_pay69 (DW la) (k0_pay31 (KdW la k) (VW v)) (k0_pay32 (KdW la k) (VW v)) (k0_pay64 s))) (k0_pay94 (QW la q) (k0_pay71 (DW la) (k0_pay31 (KdW la k) (VW v)) (k0_pay32 (KdW la k) (VW v)) (k0_pay33 (KdW la k) (VW v)) (k0_pay64 s)))) G (ix2 (row c l) e) : EReal) = resS la q k v g n p c l 2 e := by
  rw [pay102_apply, hG]
  have hn : k0_pay7 n (ix2 0 e) = n (ix2 0 e) := by pointwise [k0_pay7]
  have hp : plane s = p 2 := funext fun e => funext fun d => hs e d
  rw [hn, resS]
  congr 1
  funext x
  rw [pay43_apply]
  congr 1
  fin_cases c
  · refine (i8 _ _ l x).trans (congrArg _ (funext fun d => ?_))
    rw [← hp]; exact s2_0 _ _ _ _ x d
  · refine (i9 _ _ l x).trans (congrArg _ (funext fun d => ?_))
    rw [← hp]; exact s2_1 (V := VW v) (Kd := KdW la k) (h0 := (u8 (VW v) (KdW la k))) (e := x) (d := d) ..
  · refine (i10 _ _ l x).trans (congrArg _ (funext fun d => ?_))
    rw [← hp]; exact s2_2 (V := VW v) (Kd := KdW la k) (h0 := (u8 (VW v) (KdW la k))) (h1 := (u9 (VW v) (KdW la k))) (e := x) (d := d) ..
  · refine (i11 _ _ l x).trans (congrArg _ (funext fun d => ?_))
    rw [← hp]; exact s2_3 (V := VW v) (Kd := KdW la k) (h0 := (u8 (VW v) (KdW la k))) (h1 := (u9 (VW v) (KdW la k))) (h2 := (u10 (VW v) (KdW la k))) (e := x) (d := d) ..

theorem st3 (hs : ∀ e d, s (ix3 0 e d) = p 3 e d) (o : Fin 1) (e : Fin 128) (d : Fin 64) :
    k0_pay82 (DW la) (k0_pay39 (k0_pay37 (VW v)) (k0_pay38 (KdW la k)) (constant S128x64 .f32 0#32)) (k0_pay40 (KdW la k) (VW v)) (k0_pay79 (DW la) (k0_pay35 (KdW la k) (VW v)) (k0_pay36 (KdW la k) (VW v)) s) (ix3 o e d) = stepS la k v p 3 e d := by
  rw [s3_4 (V := VW v) (Kd := KdW la k) (h0 := (u12 (VW v) (KdW la k))) (h1 := (u13 (VW v) (KdW la k))) (h2 := (u14 (VW v) (KdW la k))) (h3 := (u15 (VW v) (KdW la k)))]
  rw [stepS, show plane s = p 3 from funext fun e => funext fun d => hs e d]

theorem res3 (hs : ∀ e d, s (ix3 0 e d) = p 3 e d) (hG : ∀ r e, G (ix2 r e) = g (ix2 r (vcol 3 e))) (c : Fin 4) (l : Fin 64) (e : Fin 128) :
    (k0_pay103 (k0_pay7 n) (k0_pay44 maskW (VW v) (k0_pay20 (cumW la) (QW la q) k k0_pay12))
      (k0_pay95 (QW la q) (k0_pay74 s)) (k0_pay96 (QW la q) (k0_pay76 (DW la) (k0_pay35 (KdW la k) (VW v)) s)) (k0_pay97 (QW la q) (k0_pay78 (DW la) (k0_pay35 (KdW la k) (VW v)) (k0_pay36 (KdW la k) (VW v)) s)) (k0_pay98 (QW la q) (k0_pay81 (k0_pay39 (k0_pay37 (VW v)) (k0_pay38 (KdW la k)) (constant S128x64 .f32 0#32)) (k0_pay79 (DW la) (k0_pay35 (KdW la k) (VW v)) (k0_pay36 (KdW la k) (VW v)) s))) G (ix2 (row c l) e) : EReal) = resS la q k v g n p c l 3 e := by
  rw [pay103_apply, hG]
  have hn : k0_pay7 n (ix2 0 e) = n (ix2 0 e) := by pointwise [k0_pay7]
  have hp : plane s = p 3 := funext fun e => funext fun d => hs e d
  rw [hn, resS]
  congr 1
  funext x
  rw [pay44_apply]
  congr 1
  fin_cases c
  · refine (i12 _ _ l x).trans (congrArg _ (funext fun d => ?_))
    rw [← hp]; exact s3_0 _ _ _ _ x d
  · refine (i13 _ _ l x).trans (congrArg _ (funext fun d => ?_))
    rw [← hp]; exact s3_1 (V := VW v) (Kd := KdW la k) (h0 := (u12 (VW v) (KdW la k))) (e := x) (d := d) ..
  · refine (i14 _ _ l x).trans (congrArg _ (funext fun d => ?_))
    rw [← hp]; exact s3_2 (V := VW v) (Kd := KdW la k) (h0 := (u12 (VW v) (KdW la k))) (h1 := (u13 (VW v) (KdW la k))) (e := x) (d := d) ..
  · refine (i15 _ _ l x).trans (congrArg _ (funext fun d => ?_))
    rw [← hp]; exact s3_3 (V := VW v) (Kd := KdW la k) (h0 := (u12 (VW v) (KdW la k))) (h1 := (u13 (VW v) (KdW la k))) (h2 := (u14 (VW v) (KdW la k))) (e := x) (d := d) ..

end Pure

section Run

variable (m : (ℓ : Loc nD τ sig) → Buf (Elt Ideal) ℓ) (c : Dev nD) (t : Fin cfg0.N)

/-- The states a point finds: none at the first of its run, else what the point before left. -/
def found : Fin 4 → Fin 128 → Fin 64 → EReal :=
  if h : t.val % 32 = 0 then fun _ _ _ => 0
  else fun h e d => (outsAt0 m c (t.val - 1) (by omega)).2 (ix3 h e d)

theorem stepS_congr {la k : Vec Ideal S256x256 .f32} {v : Vec Ideal S256x512 .f32} {p : Fin 4 → Fin 128 → Fin 64 → EReal}
    {h h' : Fin 4} {e e' : Fin 128} {d d' : Fin 64} (eh : h = h') (ee : e = e') (ed : d = d') :
    stepS la k v p h e d = stepS la k v p h' e' d' := by rw [eh, ee, ed]

/-- The states a point leaves. -/
theorem states (h : Fin 4) (e : Fin 128) (d : Fin 64) :
    (outsAt0 m c t.val t.isLt).2 (ix3 h e d) = stepS (iblk m c 4 t) (iblk m c 1 t) (iblk m c 2 t) (found m c t) h e d := by
  have key : ∀ y : S4x128x64.Idx, (outsAt0 m c t.val t.isLt).2 y
      = stepS (iblk m c 4 t) (iblk m c 1 t) (iblk m c 2 t) (found m c t) (y 0) (y 1) (y 2) := by
    intro y
    by_cases h0 : t.val % 32 = 0
    · rw [outsAt0_A m c t h0]
      frame_open
      simp (disch := decide) only [↓ View.readCov_skip, ↓ View.readCov_cons_toLoadRect, ↓ View.readCov_fill]
      frame_out
      have hf : found m c t = fun _ _ _ => 0 := by rw [found, dif_pos h0]
      rw [hf]
      clear h0 hf
      refine View.canon_append_of_piecesOf (Val := Elt Ideal) (s := S4x128x64) (e := .f32) (fun y => stepS (iblk m c 4 t) (iblk m c 1 t) (iblk m c 2 t) (fun _ _ _ => 0) (y 0) (y 1) (y 2))
        [_] [_, _, _, _] ⟨fun x => ?_, fun x => ?_, fun x => ?_, fun x => ?_, trivial⟩ y (View.cover_of_tiledL (s := S4x128x64) _ S1x128x64.size (by sl_kernel_rfl) y)
      ·
        refine (st3 _ _ _ _ (fun _ _ _ => 0) (fun e d => ?_) (x 0) (x 1) (x 2)).trans ?_
        · pointwise [k0_pay1]
        · refine stepS_congr (Fin.ext (Eq.trans ?_ (ValueKit.rect_emb_unit_val (s := S4x128x64) ![3, 0, 0] ![1, 128, 64] inb_S4x128x64_S1x128x64_3_0_0 x 0).symm))
            (Fin.ext (Eq.trans ?_ (ValueKit.rect_emb_unit_val (s := S4x128x64) ![3, 0, 0] ![1, 128, 64] inb_S4x128x64_S1x128x64_3_0_0 x 1).symm))
            (Fin.ext (Eq.trans ?_ (ValueKit.rect_emb_unit_val (s := S4x128x64) ![3, 0, 0] ![1, 128, 64] inb_S4x128x64_S1x128x64_3_0_0 x 2).symm))
          · have hx : (x 0 : ℕ) < 1 := (x 0).isLt
            show 3 = 3 + (x 0 : ℕ); omega
          · show (x 1 : ℕ) = 0 + (x 1 : ℕ); omega
          · show (x 2 : ℕ) = 0 + (x 2 : ℕ); omega
      ·
        refine (st2 _ _ _ _ (fun _ _ _ => 0) (fun e d => ?_) (x 0) (x 1) (x 2)).trans ?_
        · pointwise [k0_pay1]
        · refine stepS_congr (Fin.ext (Eq.trans ?_ (ValueKit.rect_emb_unit_val (s := S4x128x64) ![2, 0, 0] ![1, 128, 64] inb_S4x128x64_S1x128x64_2_0_0 x 0).symm))
            (Fin.ext (Eq.trans ?_ (ValueKit.rect_emb_unit_val (s := S4x128x64) ![2, 0, 0] ![1, 128, 64] inb_S4x128x64_S1x128x64_2_0_0 x 1).symm))
            (Fin.ext (Eq.trans ?_ (ValueKit.rect_emb_unit_val (s := S4x128x64) ![2, 0, 0] ![1, 128, 64] inb_S4x128x64_S1x128x64_2_0_0 x 2).symm))
          · have hx : (x 0 : ℕ) < 1 := (x 0).isLt
            show 2 = 2 + (x 0 : ℕ); omega
          · show (x 1 : ℕ) = 0 + (x 1 : ℕ); omega
          · show (x 2 : ℕ) = 0 + (x 2 : ℕ); omega
      ·
        refine (st1 _ _ _ _ (fun _ _ _ => 0) (fun e d => ?_) (x 0) (x 1) (x 2)).trans ?_
        · pointwise [k0_pay1]
        · refine stepS_congr (Fin.ext (Eq.trans ?_ (ValueKit.rect_emb_unit_val (s := S4x128x64) ![1, 0, 0] ![1, 128, 64] inb_S4x128x64_S1x128x64_1_0_0 x 0).symm))
            (Fin.ext (Eq.trans ?_ (ValueKit.rect_emb_unit_val (s := S4x128x64) ![1, 0, 0] ![1, 128, 64] inb_S4x128x64_S1x128x64_1_0_0 x 1).symm))
            (Fin.ext (Eq.trans ?_ (ValueKit.rect_emb_unit_val (s := S4x128x64) ![1, 0, 0] ![1, 128, 64] inb_S4x128x64_S1x128x64_1_0_0 x 2).symm))
          · have hx : (x 0 : ℕ) < 1 := (x 0).isLt
            show 1 = 1 + (x 0 : ℕ); omega
          · show (x 1 : ℕ) = 0 + (x 1 : ℕ); omega
          · show (x 2 : ℕ) = 0 + (x 2 : ℕ); omega
      ·
        refine (st0 _ _ _ _ (fun _ _ _ => 0) (fun e d => ?_) (x 0) (x 1) (x 2)).trans ?_
        · pointwise [k0_pay1]
        · refine stepS_congr (Fin.ext (Eq.trans ?_ (ValueKit.rect_emb_unit_val (s := S4x128x64) ![0, 0, 0] ![1, 128, 64] inb_S4x128x64_S1x128x64_0_0_0 x 0).symm))
            (Fin.ext (Eq.trans ?_ (ValueKit.rect_emb_unit_val (s := S4x128x64) ![0, 0, 0] ![1, 128, 64] inb_S4x128x64_S1x128x64_0_0_0 x 1).symm))
            (Fin.ext (Eq.trans ?_ (ValueKit.rect_emb_unit_val (s := S4x128x64) ![0, 0, 0] ![1, 128, 64] inb_S4x128x64_S1x128x64_0_0_0 x 2).symm))
          · have hx : (x 0 : ℕ) < 1 := (x 0).isLt
            show 0 = 0 + (x 0 : ℕ); omega
          · show (x 1 : ℕ) = 0 + (x 1 : ℕ); omega
          · show (x 2 : ℕ) = 0 + (x 2 : ℕ); omega
    · rw [outsAt0_B m c t h0]
      frame_out
      have hf : found m c t = fun h e d => (outsAt0 m c (t.val - 1) (by omega)).2 (ix3 h e d) := by rw [found, dif_neg h0]
      rw [hf]
      clear h0 hf
      canon_tiles x h
      case piece0 =>
        rw [eq_ix3 x]
        have e0 : y 0 = (3 : Fin 4) := Fin.ext (by show (y 0 : ℕ) = 3; omega)
        have e1 : y 1 = x 1 := Fin.ext h1
        have e2 : y 2 = x 2 := Fin.ext h2
        rw [e0, e1, e2]
        refine st3 _ _ _ _ _ (fun e d => ?_) (x 0) (x 1) (x 2)
        simp only [read_unread_whole]; pointwise
      case piece1 =>
        rw [eq_ix3 x]
        have e0 : y 0 = (2 : Fin 4) := Fin.ext (by show (y 0 : ℕ) = 2; omega)
        have e1 : y 1 = x 1 := Fin.ext h1
        have e2 : y 2 = x 2 := Fin.ext h2
        rw [e0, e1, e2]
        refine st2 _ _ _ _ _ (fun e d => ?_) (x 0) (x 1) (x 2)
        simp only [read_unread_whole]; pointwise
      case piece2 =>
        rw [eq_ix3 x]
        have e0 : y 0 = (1 : Fin 4) := Fin.ext (by show (y 0 : ℕ) = 1; omega)
        have e1 : y 1 = x 1 := Fin.ext h1
        have e2 : y 2 = x 2 := Fin.ext h2
        rw [e0, e1, e2]
        refine st1 _ _ _ _ _ (fun e d => ?_) (x 0) (x 1) (x 2)
        simp only [read_unread_whole]; pointwise
      case piece3 =>
        rw [eq_ix3 x]
        have e0 : y 0 = (0 : Fin 4) := Fin.ext (by show (y 0 : ℕ) = 0; omega)
        have e1 : y 1 = x 1 := Fin.ext h1
        have e2 : y 2 = x 2 := Fin.ext h2
        rw [e0, e1, e2]
        refine st0 _ _ _ _ _ (fun e d => ?_) (x 0) (x 1) (x 2)
        simp only [read_unread_whole]; pointwise
  exact key (ix3 h e d)

/-- The result block a point leaves. -/
theorem result (y : S256x512.Idx) :
    (outsAt0 m c t.val t.isLt).1 y
      = resS (iblk m c 4 t) (iblk m c 0 t) (iblk m c 1 t) (iblk m c 2 t) (iblk m c 3 t) (iblk m c 5 t) (found m c t)
          ⟨(y 0 : ℕ) / 64, by have := (y 0).isLt; simp at this; omega⟩ ⟨(y 0 : ℕ) % 64, by omega⟩
          ⟨(y 1 : ℕ) / 128, by have := (y 1).isLt; simp at this; omega⟩ ⟨(y 1 : ℕ) % 128, by omega⟩ := by
  by_cases h0 : t.val % 32 = 0
  · rw [outsAt0_A m c t h0]
    frame_open
    simp (disch := decide) only [↓ View.readCov_skip, ↓ View.readCov_cons_toLoadRect, ↓ View.readCov_fill]
    frame_out
    have hf : found m c t = fun _ _ _ => 0 := by rw [found, dif_pos h0]
    rw [hf]
    clear h0 hf
    canon_tiles x h
    case piece0 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 3 from Fin.ext (by show (y 1 : ℕ) / 128 = 3; omega)]
      refine res3 _ _ _ _ _ _ _ _ _ (fun e d => ?_) (fun r e => ?_) _ _ _
      · pointwise [k0_pay1]
      · pointwise; try simp [vcol]
    case piece1 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 2 from Fin.ext (by show (y 1 : ℕ) / 128 = 2; omega)]
      refine res2 _ _ _ _ _ _ _ _ _ (fun e d => ?_) (fun r e => ?_) _ _ _
      · pointwise [k0_pay1]
      · pointwise; try simp [vcol]
    case piece2 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 1 from Fin.ext (by show (y 1 : ℕ) / 128 = 1; omega)]
      refine res1 _ _ _ _ _ _ _ _ _ (fun e d => ?_) (fun r e => ?_) _ _ _
      · pointwise [k0_pay1]
      · pointwise; try simp [vcol]
    case piece3 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 0 from Fin.ext (by show (y 1 : ℕ) / 128 = 0; omega)]
      refine res0 _ _ _ _ _ _ _ _ _ (fun e d => ?_) (fun r e => ?_) _ _ _
      · pointwise [k0_pay1]
      · pointwise; try simp [vcol]
  · rw [outsAt0_B m c t h0]
    frame_out
    have hf : found m c t = fun h e d => (outsAt0 m c (t.val - 1) (by omega)).2 (ix3 h e d) := by rw [found, dif_neg h0]
    rw [hf]
    clear h0 hf
    canon_tiles x h
    case piece0 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 3 from Fin.ext (by show (y 1 : ℕ) / 128 = 3; omega)]
      refine res3 _ _ _ _ _ _ _ _ _ (fun e d => ?_) (fun r e => ?_) _ _ _
      · simp only [read_unread_whole]; pointwise
      · pointwise; try simp [vcol]
    case piece1 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 2 from Fin.ext (by show (y 1 : ℕ) / 128 = 2; omega)]
      refine res2 _ _ _ _ _ _ _ _ _ (fun e d => ?_) (fun r e => ?_) _ _ _
      · simp only [read_unread_whole]; pointwise
      · pointwise; try simp [vcol]
    case piece2 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 1 from Fin.ext (by show (y 1 : ℕ) / 128 = 1; omega)]
      refine res1 _ _ _ _ _ _ _ _ _ (fun e d => ?_) (fun r e => ?_) _ _ _
      · simp only [read_unread_whole]; pointwise
      · pointwise; try simp [vcol]
    case piece3 =>
      have hx : x = ix2 (row ⟨(y 0 : ℕ) / 64, by omega⟩ ⟨(y 0 : ℕ) % 64, by omega⟩) ⟨(y 1 : ℕ) % 128, by omega⟩ := by
        refine (eq_ix2 x).trans ?_; congr 1 <;> apply Fin.ext <;> simp only [row] <;> omega
      rw [hx]
      rw [show (⟨(y 1 : ℕ) / 128, by omega⟩ : Fin 4) = 0 from Fin.ext (by show (y 1 : ℕ) / 128 = 0; omega)]
      refine res0 _ _ _ _ _ _ _ _ _ (fun e d => ?_) (fun r e => ?_) _ _ _
      · simp only [read_unread_whole]; pointwise
      · pointwise; try simp [vcol]

end Run

end Cert.Proof.Point
end
-- ==== Proof.Spec.lean ====
/- Gated linear attention over whole arrays, in closed form: what both programs are shown to compute. -/
module

public import proofs.«01_k».proof.Proof.Point

@[expose] public section

noncomputable section

namespace Cert.Proof.Spec

open Idealize.ShloMosaic Cert.Proof.Block

/-- The row of batch `b`, chunk `n`, place `l`. -/
abbrev rw' (b : Fin 2) (n : Fin 128) (l : Fin 64) : Fin 16384 := ⟨b * 8192 + n * 64 + l, by omega⟩
/-- The decay column of head `h` at place `d`. -/
abbrev lc (h : Fin 16) (d : Fin 64) : Fin 1024 := ⟨h * 64 + d, by omega⟩
/-- The query, key, value and gate columns of head `h`. -/
abbrev qc (h : Fin 16) (d : Fin 64) : Fin 12288 := ⟨6144 + (h * 64 + d), by omega⟩
abbrev kc (h : Fin 16) (d : Fin 64) : Fin 12288 := ⟨7168 + (h * 64 + d), by omega⟩
abbrev vc (h : Fin 16) (e : Fin 128) : Fin 12288 := ⟨8192 + (h * 128 + e), by omega⟩
abbrev gc (h : Fin 16) (e : Fin 128) : Fin 12288 := ⟨10240 + (h * 128 + e), by omega⟩

variable (Z : Fin 16384 → Fin 12288 → EReal) (LA : Fin 16384 → Fin 1024 → EReal) (NG : Fin 128 → EReal)
variable (b : Fin 2) (n : Fin 128) (l : Fin 64) (h : Fin 16) (d : Fin 64) (e : Fin 128)

/-- The running sum of the log decay inside a chunk. -/
def cum : EReal := ∑ k : Fin 64, if k ≤ l then LA (rw' b n k) (lc h d) else 0
/-- The scaled query under its decay. -/
def qry : EReal := Z (rw' b n l) (qc h d) * Ideal.ofBits .f32 0x3E000000#32 * Ideal.exp (cum LA b n l h d)
/-- The key against its decay. -/
def key : EReal := Z (rw' b n l) (kc h d) * Ideal.exp (- cum LA b n l h d)
/-- The key decayed to the chunk's end. -/
def keyEnd : EReal := Z (rw' b n l) (kc h d) * Ideal.exp (cum LA b n 63 h d - cum LA b n l h d)
/-- The decay over a whole chunk. -/
def dec : EReal := Ideal.exp (cum LA b n 63 h d)
/-- What a chunk adds to the state. -/
def add : EReal := ∑ l : Fin 64, Z (rw' b n l) (vc h e) * keyEnd Z LA b n l h d

/-- The state before chunk `j`. -/
def state : ℕ → EReal
  | 0 => 0
  | j + 1 => if hj : j < 128 then state j * dec LA b ⟨j, hj⟩ h d + add Z LA b ⟨j, hj⟩ h d e else 0

/-- The attention inside the chunk and against the carried state. -/
def attn : EReal :=
  (∑ k : Fin 64, if k ≤ l then (∑ d : Fin 64, qry Z LA b n l h d * key Z LA b n k h d) * Z (rw' b n k) (vc h e) else 0)
    + ∑ d : Fin 64, qry Z LA b n l h d * state Z LA b h d e n

/-- The result. -/
def out : EReal := fin (fun x => attn Z LA b n l h x) (NG e) (Z (rw' b n l) (gc h e)) e

/-! ## One block of the kernel -/

/-- Chunk `c` of block `i`, and head `h` of head group `g`. -/
abbrev chk (i : Fin 32) (c : Fin 4) : Fin 128 := ⟨4 * i + c, by omega⟩
abbrev hd (g h : Fin 4) : Fin 16 := ⟨4 * g + h, by omega⟩

open Cert.KernelIdeal Cert.KernelIdeal.Gen Cert.Proof.Point

variable {Z LA NG b}
variable {i : Fin 32} {g : Fin 4}
variable {la q k : FVec Ideal S256x256 .f32} {v gt : FVec Ideal S256x512 .f32} {ng : FVec Ideal S1x128 .f32}
variable (hfin : ∀ x, la x < (⊤ : EReal))
variable (hla : ∀ c l h d, la (ix2 (row c l) (col h d)) = LA (rw' b (chk i c) l) (lc (hd g h) d))
variable (hq : ∀ c l h d, q (ix2 (row c l) (col h d)) = Z (rw' b (chk i c) l) (qc (hd g h) d))
variable (hk : ∀ c l h d, k (ix2 (row c l) (col h d)) = Z (rw' b (chk i c) l) (kc (hd g h) d))
variable (hv : ∀ c l h e, v (ix2 (row c l) (vcol h e)) = Z (rw' b (chk i c) l) (vc (hd g h) e))
variable (hg : ∀ c l h e, gt (ix2 (row c l) (vcol h e)) = Z (rw' b (chk i c) l) (gc (hd g h) e))
variable (hn : ∀ e, ng (ix2 0 e) = NG e)
variable {c : Fin 4} {l : Fin 64} {h : Fin 4} {d : Fin 64} {e : Fin 128}

include hfin hla in
theorem cum_block : cumW la (ix2 (row c l) (col h d)) = cum LA b (chk i c) l (hd g h) d := by
  rw [cum_apply la hfin, cum]
  exact Finset.sum_congr rfl fun k _ => by rw [hla]

include hfin hla hq in
theorem qry_block : (QW la q (ix2 (row c l) (col h d)) : EReal) = qry Z LA b (chk i c) l (hd g h) d := by
  refine (pay11_apply (la := la) (q := q) ..).trans ?_
  rw [cum_block hfin hla, hq, qry]

include hfin hla hk in
theorem key_block : (KW la k (ix2 (row c l) (col h d)) : EReal) = key Z LA b (chk i c) l (hd g h) d := by
  refine (pay13_apply (B := cumW la) (k := k) ..).trans ?_
  rw [cum_block hfin hla, hk, key]

include hfin hla hk in
theorem keyEnd_block : (KdW la k (ix3 c l (col h d)) : EReal) = keyEnd Z LA b (chk i c) l (hd g h) d := by
  refine (pay14_apply (k := k) ..).trans ?_
  rw [show BLW la (ix3 c 0 (col h d)) = _ from pay10_apply .., show B3W la (ix3 c l (col h d)) = _ from pay9_apply .., cum_block hfin hla, cum_block hfin hla, hk, keyEnd]

include hfin hla in
theorem dec_block : (DW la (ix3 c 0 (col h d)) : EReal) = dec LA b (chk i c) (hd g h) d := by
  refine (pay15_apply ..).trans ?_
  rw [show BLW la (ix3 c 0 (col h d)) = _ from pay10_apply .., cum_block hfin hla, dec]

include hv in
theorem val_block : (VW v (ix2 (row c l) (vcol h e)) : EReal) = Z (rw' b (chk i c) l) (vc (hd g h) e) := by
  rw [← hv]; pointwise [k0_pay16]

include hfin hla hk hv in
/-- The states of a block, from the array's state before it. -/
theorem stt_block (p : Fin 128 → Fin 64 → EReal) (hp : p e d = state Z LA b (hd g h) d e (4 * i)) :
    ∀ j : ℕ, j ≤ 4 → stt (DW la) (KdW la k) (VW v) h p e d j = state Z LA b (hd g h) d e (4 * i + j)
  | 0, _ => hp
  | j + 1, hj => by
    rw [stt, dif_pos (by omega : j < 4), stt_block p hp j (by omega), ← Nat.add_assoc, state, dif_pos (by omega : 4 * (i : ℕ) + j < 128)]
    have e1 := dec_block (c := ⟨j, by omega⟩) (h := h) (d := d) hfin hla
    have e2 : upd (KdW la k) (VW v) h ⟨j, by omega⟩ e d = add Z LA b (chk i ⟨j, by omega⟩) (hd g h) d e := by
      rw [upd, add]
      exact Finset.sum_congr rfl fun l _ => congrArg₂ (· * ·) (val_block hv) (keyEnd_block hfin hla hk)
    exact congrArg₂ (· + ·) (congrArg₂ (· * ·) rfl e1) e2

include hfin hla hk hv in
theorem step_block (p : Fin 4 → Fin 128 → Fin 64 → EReal) (hp : ∀ h e d, p h e d = state Z LA b (hd g h) d e (4 * i)) :
    stepS la k v p h e d = state Z LA b (hd g h) d e (4 * i + 4) :=
  stt_block hfin hla hk hv (p h) (hp h e d) 4 le_rfl

include hfin hla hq hk hv hg hn in
theorem res_block (p : Fin 4 → Fin 128 → Fin 64 → EReal) (hp : ∀ h e d, p h e d = state Z LA b (hd g h) d e (4 * i)) :
    resS la q k v gt ng p c l h e = out Z LA NG b (chk i c) l (hd g h) e := by
  rw [resS, out, hn, hg]
  congr 1
  funext x
  rw [attn, intra, inter]
  refine congrArg₂ (· + ·) (Finset.sum_congr rfl fun k _ => ?_) (Finset.sum_congr rfl fun d _ => ?_)
  · by_cases hkl : k ≤ l
    · rw [if_pos hkl, if_pos hkl]
      exact congrArg₂ (· * ·) (Finset.sum_congr rfl fun d _ => congrArg₂ (· * ·) (qry_block hfin hla hq) (key_block hfin hla hk)) (val_block hv)
    · rw [if_neg hkl, if_neg hkl]
  · exact congrArg₂ (· * ·) (qry_block hfin hla hq) (stt_block hfin hla hk hv (p h) (hp h x d) c (by omega))

end Cert.Proof.Spec
end
-- ==== Proof.Array.lean ====
/- The kernel's result array: the blocks of the grid's points read back into the arrays they stage. -/
module

public import proofs.«01_k».proof.Proof.Spec
public import proofs.«01_k».proof.Proof.Gen.KernelIdeal.Value
public import Idealize.ShloMosaic.Lib.Claim
public import Idealize.ShloMosaic.Lib.Pipeline.ValueKit

@[expose] public section

set_option maxRecDepth 16384

noncomputable section

namespace Cert.Proof.Array

open Idealize.ShloMosaic Idealize.ShloMosaic.TcCoe Idealize.SL.Sem
open Cert.KernelIdeal Cert.KernelIdeal.Gen Cert.Proof.Block Cert.Proof.Point Cert.Proof.Spec

variable (m : (ℓ : Loc nD τ sig) → Buf (Elt Ideal) ℓ) (c : Dev nD) (t : Fin cfg0.N)

/-- The arguments as plain functions. -/
abbrev Z (r : Fin 16384) (x : Fin 12288) : EReal := m ((c : Thread nD τ).loc main_arg0) (ix2 r x)
abbrev LA (r : Fin 16384) (x : Fin 1024) : EReal := m ((c : Thread nD τ).loc main_arg1) (ix2 r x)
abbrev NG (x : Fin 128) : EReal := m ((c : Thread nD τ).loc main_arg2) (ix1 x)

theorem lt_N : t.val < 256 := lt_of_lt_of_eq t.isLt N_0

/-- Batch, head group and block of a grid point. -/
abbrev bt : Fin 2 := ⟨t.val / 128, by have := lt_N t; omega⟩
abbrev gp : Fin 4 := ⟨t.val / 32 % 4, by omega⟩
abbrev bk : Fin 32 := ⟨t.val % 32, by omega⟩

theorem idx : ∀ t : Fin cfg0.N,
    win0_0.index t = ![t.val / 128 * 32 + t.val % 32, 24 + t.val / 32 % 4]
    ∧ win0_1.index t = ![t.val / 128 * 32 + t.val % 32, 28 + t.val / 32 % 4]
    ∧ win0_2.index t = ![t.val / 128 * 32 + t.val % 32, 16 + t.val / 32 % 4]
    ∧ win0_3.index t = ![t.val / 128 * 32 + t.val % 32, 20 + t.val / 32 % 4]
    ∧ win0_4.index t = ![t.val / 128 * 32 + t.val % 32, t.val / 32 % 4]
    ∧ win0_5.index t = ![0, 0]
    ∧ win0_6.index t = ![t.val / 128 * 32 + t.val % 32, t.val / 32 % 4] :=
  (by decide +kernel : ∀ t : Fin grid0.N, _)

theorem la_fin (hLA : ∀ r x, LA m c r x < ⊤) (x : S256x256.Idx) : @LT.lt EReal _ (iblk m c 4 t x) ⊤ := by
  have h := idx t
  have hN := lt_N t
  have e : iblk m c 4 t x = LA m c ⟨256 * (t.val / 128 * 32 + t.val % 32) + x 0, by idx_bounds; omega⟩ ⟨256 * (t.val / 32 % 4) + x 1, by idx_bounds; omega⟩ := by
    blk_ext! [iblk, V, idx t]
  rw [e]; exact hLA _ _

theorem la_read (cc : Fin 4) (l : Fin 64) (h : Fin 4) (d : Fin 64) :
    iblk m c 4 t (ix2 (row cc l) (col h d)) = LA m c (rw' (bt t) (chk (bk t) cc) l) (lc (hd (gp t) h) d) := by
  blk_ext! [iblk, V, idx t]

theorem q_read (cc : Fin 4) (l : Fin 64) (h : Fin 4) (d : Fin 64) :
    iblk m c 0 t (ix2 (row cc l) (col h d)) = Z m c (rw' (bt t) (chk (bk t) cc) l) (qc (hd (gp t) h) d) := by
  blk_ext! [iblk, V, idx t]

theorem k_read (cc : Fin 4) (l : Fin 64) (h : Fin 4) (d : Fin 64) :
    iblk m c 1 t (ix2 (row cc l) (col h d)) = Z m c (rw' (bt t) (chk (bk t) cc) l) (kc (hd (gp t) h) d) := by
  blk_ext! [iblk, V, idx t]

theorem v_read (cc : Fin 4) (l : Fin 64) (h : Fin 4) (e : Fin 128) :
    iblk m c 2 t (ix2 (row cc l) (vcol h e)) = Z m c (rw' (bt t) (chk (bk t) cc) l) (vc (hd (gp t) h) e) := by
  blk_ext! [iblk, V, idx t]

theorem g_read (cc : Fin 4) (l : Fin 64) (h : Fin 4) (e : Fin 128) :
    iblk m c 3 t (ix2 (row cc l) (vcol h e)) = Z m c (rw' (bt t) (chk (bk t) cc) l) (gc (hd (gp t) h) e) := by
  blk_ext! [iblk, V, idx t]

theorem n_read (e : Fin 128) : iblk m c 5 t (ix2 0 e) = NG m c e := by
  blk_ext! [iblk, V, idx t]

/-- The states a point leaves are the array's. -/
theorem carried (hLA : ∀ r x, LA m c r x < ⊤) : ∀ (n : ℕ) (hn : n < cfg0.N) (h : Fin 4) (e : Fin 128) (d : Fin 64),
    (outsAt0 m c n hn).2 (ix3 h e d)
      = state (Z m c) (LA m c) (bt ⟨n, hn⟩) (hd (gp ⟨n, hn⟩) h) d e (4 * (bk ⟨n, hn⟩ : ℕ) + 4) := by
  intro n
  induction n using Nat.strong_induction_on with
  | _ n ih =>
    intro hn h e d
    have hN := lt_N ⟨n, hn⟩
    refine (states m c ⟨n, hn⟩ h e d).trans ?_
    refine step_block (la_fin m c _ hLA) (la_read m c _) (k_read m c _) (v_read m c _) _ fun h e d => ?_
    by_cases h0 : n % 32 = 0
    · rw [found, dif_pos h0]
      rw [show 4 * (bk ⟨n, hn⟩ : ℕ) = 0 by simp only [bk]; omega, state]
    · rw [found, dif_neg h0]
      have hb : bt ⟨n - 1, by omega⟩ = bt ⟨n, hn⟩ := Fin.ext (by simp only [bt]; omega)
      have hg : gp ⟨n - 1, by omega⟩ = gp ⟨n, hn⟩ := Fin.ext (by simp only [gp]; omega)
      rw [ih (n - 1) (by omega) (by omega), hb, hg]
      congr 1
      simp only [bk]; omega

theorem found_eq (hLA : ∀ r x, LA m c r x < ⊤) (h : Fin 4) (e : Fin 128) (d : Fin 64) :
    found m c t h e d = state (Z m c) (LA m c) (bt t) (hd (gp t) h) d e (4 * (bk t : ℕ)) := by
  have hN := lt_N t
  by_cases h0 : t.val % 32 = 0
  · rw [found, dif_pos h0]
    rw [show 4 * (bk t : ℕ) = 0 by simp only [bk]; omega, state]
  · rw [found, dif_neg h0]
    have hb : bt ⟨t.val - 1, by omega⟩ = bt t := Fin.ext (by simp only [bt]; omega)
    have hg : gp ⟨t.val - 1, by omega⟩ = gp t := Fin.ext (by simp only [gp]; omega)
    rw [carried m c hLA (t.val - 1) (by omega), hb, hg]
    congr 1
    simp only [bk]; omega

/-- The result array. -/
def OUT : Vec Ideal S16384x2048 .bf16 := fun y =>
  out (Z m c) (LA m c) (NG m c) ⟨(y 0 : ℕ) / 8192, by have h : (y 0 : ℕ) < 16384 := (y 0).isLt; omega⟩ ⟨(y 0 : ℕ) % 8192 / 64, by omega⟩ ⟨(y 0 : ℕ) % 64, by omega⟩
    ⟨(y 1 : ℕ) / 128, by have h : (y 1 : ℕ) < 2048 := (y 1).isLt; omega⟩ ⟨(y 1 : ℕ) % 128, by omega⟩

theorem final (hLA : ∀ r x, LA m c r x < ⊤) : (dats m 0 c).arrAt 6 cfg0.N = OUT m c := by
  refine (dats m 0 c).arrAt_eq_of_covers 6 (OUT m c) (by decide +kernel) fun t hf y => ?_
  have hN := lt_N t
  blk_simp [idx t]
  rw [after0_6]
  have hy0 : (y 0 : ℕ) < 256 := (y 0).isLt
  have hy1 : (y 1 : ℕ) < 512 := (y 1).isLt
  have e0 : ((win0_6.blk t).view.emb y 0 : ℕ) = 256 * (t.val / 128 * 32 + t.val % 32) + y 0 := by blk_simp [idx t]; omega
  have e1 : ((win0_6.blk t).view.emb y 1 : ℕ) = 512 * (t.val / 32 % 4) + y 1 := by blk_simp [idx t]; omega
  refine (result m c t y).trans ?_
  refine (res_block (la_fin m c t hLA) (la_read m c t) (q_read m c t) (k_read m c t) (v_read m c t) (g_read m c t) (n_read m c t) _
    fun h e d => found_eq m c t hLA h e d).trans ?_
  rw [OUT]
  congr 1 <;> apply Fin.ext
  · show t.val / 128 = ((win0_6.blk t).view.emb y 0 : ℕ) / 8192; rw [e0]; omega
  · show 4 * (t.val % 32) + (y 0 : ℕ) / 64 = ((win0_6.blk t).view.emb y 0 : ℕ) % 8192 / 64; rw [e0]; omega
  · show (y 0 : ℕ) % 64 = ((win0_6.blk t).view.emb y 0 : ℕ) % 64; rw [e0]; omega
  · show 4 * (t.val / 32 % 4) + (y 1 : ℕ) / 128 = ((win0_6.blk t).view.emb y 1 : ℕ) / 128; rw [e1]; omega
  · show (y 1 : ℕ) % 128 = ((win0_6.blk t).view.emb y 1 : ℕ) % 128; rw [e1]; omega

end Cert.Proof.Array
end
-- ==== Proof.RefRun.lean ====
/- The reference's run, one trip of its scan at a time: what the loop's buffers hold after each trip is a sequence of
   states that starts where the host code before the loop leaves it and goes on by `step`. -/
module

public import proofs.«01_k».proof.Proof.Gen.ReferenceIdeal.Run
public import proofs.«01_k».proof.Proof.Gen.ReferenceIdeal.Step

@[expose] public section

set_option maxRecDepth 65536

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v68)

variable {F : FTy → Type} [FloatOps F]

/-- The loop's buffers hold the state `s` before trip `j`. -/
structure Carries (W : Valuation τ sig (Elt F)) (s : State F) (j : ℕ) : Prop where
  now : W (Proc.devRef .tc main_v23_3) = s.main_v23_3
  past : W (Proc.devRef .tc main_v23_4) = s.main_v23_4
  decay : W (Proc.devRef .tc main_v23_0) = s.main_v23_0
  added : W (Proc.devRef .tc main_v23_1) = s.main_v23_1
  trip : W (Proc.devRef .tc main_v23_2) = constantI S_ 32 (BitVec.ofNat 32 j)

variable {W : Valuation τ sig (Elt F)} {s : State F} {j : ℕ}

theorem next_now (h : Carries W s j) : step_main_v23_3 W = (step j s).main_v23_3 := by
  obtain ⟨h3, h4, h0, h1, h2⟩ := h
  cases s
  dsimp only at h3 h4 h0 h1
  subst h3 h4 h0 h1
  unfold step_main_v23_3
  rw [h2]
  rfl

theorem next_past (h : Carries W s j) : step_main_v23_4 W = (step j s).main_v23_4 := by
  obtain ⟨h3, h4, h0, h1, h2⟩ := h
  cases s
  dsimp only at h3 h4 h0 h1
  subst h3 h4 h0 h1
  unfold step_main_v23_4
  rw [h2]
  rfl

theorem next_trip (h : Carries W s j) : step_main_v23_2 W = constantI S_ 32 (BitVec.ofNat 32 (j + 1)) := by
  unfold step_main_v23_2
  rw [h.trip]
  funext i
  show BitVec.ofNat 32 j + 1#32 = BitVec.ofNat 32 (j + 1)
  simp only [BitVec.ofNat_add]

theorem Carries.next (h : Carries W s j) : Carries (STEP W) (step j s) (j + 1) :=
  ⟨(STEP_main_v23_3 W).trans (next_now h), (STEP_main_v23_4 W).trans (next_past h),
    (STEP_main_v23_0 W).trans h.decay, (STEP_main_v23_1 W).trans h.added, (STEP_main_v23_2 W).trans (next_trip h)⟩

variable (m : (ℓ : Loc nD τ sig) → Buf (Elt F) ℓ) (c : Dev nD)

/-- The states before each trip. -/
def states : ℕ → State F
  | 0 => init (m ((c.tc : Thread nD τ).loc main_arg0)) (m ((c.tc : Thread nD τ).loc main_arg1))
  | n + 1 => step n (states n)

set_option maxHeartbeats 300000 in
theorem entry : Carries (entryContents preI m c) (states m c 0) 0 := by
  constructor <;> (simp only [entryContents, afterL_cons, afterL_nil]; after_reads_simp) <;> rfl

theorem carries : ∀ k, Carries (STEP^[k] (entryContents preI m c)) (states m c k) k
  | 0 => entry m c
  | k + 1 => by
    rw [Function.iterate_succ_apply']
    exact (carries k).next

theorem result (h : Carries W s j) {x : (⟨S16384x12288, .f32⟩ : BufTy).Contents (Elt F)} (hx : W (Proc.devRef .tc main_arg0) = x)
    {y : (⟨S16384x1024, .f32⟩ : BufTy).Contents (Elt F)} (hy : W (Proc.devRef .tc main_arg1) = y)
    {z : (⟨S128, .f32⟩ : BufTy).Contents (Elt F)} (hz : W (Proc.devRef .tc main_arg2) = z) : out_main_v68 W = R_main_v68 s x y z := by
  unfold out_main_v68
  rw [h.past, hx, hy, hz]
  rfl

/-- The reference ends with its result, a function of the last state and the arguments, which it leaves as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v68) = R_main_v68 (states m c 128) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans (result (carries m c 128) (iter_main_arg0 m c 128) (iter_main_arg1 m c 128) (iter_main_arg2 m c 128)),
      (h c).2.1, (h c).2.2.1, (h c).2.2.2⟩) (Value.run m ρ)

end Cert.Proof.RefRun
end
-- ==== Proof.Ref.lean ====
/- The reference's operations read at an index: every array it makes, in the closed form of `Spec`. -/
module

public import proofs.«01_k».proof.Proof.Spec
public import proofs.«01_k».proof.Proof.RefRun
public import Idealize.ShloMosaic.Lib.Pipeline.ValueKit

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Step Cert.Proof.Spec

variable (a0 : FVec Ideal S16384x12288 .f32) (a1 : FVec Ideal S16384x1024 .f32) (a2 : FVec Ideal S128 .f32)

/-! ## The running sum -/

theorem foldl_sum {N : ℕ} (g : Fin N → EReal) (v : EReal) :
    (List.finRange N).foldl (fun r n => r + g n) v = v + ∑ n, g n := by
  rw [← List.sum_ofFn, List.ofFn_eq_map]
  generalize List.finRange N = L
  induction L generalizing v with
  | nil => simp
  | cons a L ih => rw [List.foldl_cons, ih, List.map_cons, List.sum_cons, add_assoc]

/-- A window of 64 places is one place on its long axis. -/
def place : (⟨5, ![1, 1, 64, 1, 1]⟩ : Shape).Idx ≃ Fin 64 where
  toFun p := p 2
  invFun w := ix5 (0 : Fin 1) (0 : Fin 1) w (0 : Fin 1) (0 : Fin 1)
  left_inv p := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv w := rfl

/-- Read from the end of the padding, the windows are the prefixes. -/
theorem prefix_sum (l : Fin 64) (f : Fin 64 → EReal) :
    (∑ w : Fin 64, if hw : 63 ≤ (l : ℕ) + w then f ⟨(l : ℕ) + w - 63, by omega⟩ else 0) = ∑ k : Fin 64, if k ≤ l then f k else 0 := by
  rw [← Finset.sum_filter]
  rw [show (∑ w : Fin 64, if hw : 63 ≤ (l : ℕ) + w then f ⟨(l : ℕ) + w - 63, by omega⟩ else 0)
      = ∑ w : Fin 64, if 63 ≤ (l : ℕ) + w then f ⟨(l : ℕ) + w - 63, by omega⟩ else 0 from
      Finset.sum_congr rfl fun w _ => by by_cases h : 63 ≤ (l : ℕ) + w <;> simp [h], ← Finset.sum_filter]
  refine Finset.sum_nbij' (fun w => ⟨(l : ℕ) + w - 63, by omega⟩) (fun k => if h : k ≤ l then ⟨63 + k - l, by have : (k : ℕ) ≤ l := h; omega⟩ else 0) ?_ ?_ ?_ ?_ ?_
  · intro w hw
    rw [Finset.mem_filter] at hw ⊢
    refine ⟨Finset.mem_univ _, ?_⟩
    show (l : ℕ) + w - 63 ≤ l
    omega
  · intro k hk
    rw [Finset.mem_filter] at hk ⊢
    refine ⟨Finset.mem_univ _, ?_⟩
    have : (k : ℕ) ≤ l := hk.2
    rw [dif_pos hk.2]
    show 63 ≤ (l : ℕ) + (63 + k - l)
    omega
  · intro w hw
    rw [Finset.mem_filter] at hw
    have h2 := hw.2
    have h3 : (⟨(l : ℕ) + w - 63, by omega⟩ : Fin 64) ≤ l := by show (l : ℕ) + w - 63 ≤ l; omega
    refine (dif_pos h3).trans ?_
    apply Fin.ext
    show 63 + ((l : ℕ) + w - 63) - l = w
    omega
  · intro k hk
    rw [Finset.mem_filter] at hk
    have : (k : ℕ) ≤ l := hk.2
    apply Fin.ext
    show (l : ℕ) + (dite _ _ _ : Fin 64).val - 63 = k
    rw [dif_pos hk.2]
    show (l : ℕ) + (63 + k - l) - 63 = k
    omega
  · intro w hw
    rfl

/-- The window's place `p` is no padding. -/
abbrev inside (b : Fin 2) (n : Fin 128) (l : Fin 64) (h : Fin 16) (d : Fin 64) (p : (⟨5, ![1, 1, 64, 1, 1]⟩ : Shape).Idx) : Prop :=
  ∀ a : Fin 5, (![0, 0, 63, 0, 0] : Fin 5 → ℕ) a ≤ (ix5 b n l h d a).val * (![1, 1, 1, 1, 1] : Fin 5 → ℕ) a + (p a).val
    ∧ (ix5 b n l h d a).val * (![1, 1, 1, 1, 1] : Fin 5 → ℕ) a + (p a).val - (![0, 0, 63, 0, 0] : Fin 5 → ℕ) a < S2x128x64x16x64.size a

/-- One place of a window: the operand's element, or the padding. -/
theorem window_term (x : FVec Ideal S2x128x64x16x64 .f32) (b : Fin 2) (n : Fin 128) (l : Fin 64) (h : Fin 16) (d : Fin 64)
    (p : (⟨5, ![1, 1, 64, 1, 1]⟩ : Shape).Idx) (D : Decidable (inside b n l h d p)) :
    (@dite EReal (inside b n l h d p) D
      (fun hin => x (fun a => ⟨(ix5 b n l h d a).val * (![1, 1, 1, 1, 1] : Fin 5 → ℕ) a + (p a).val - (![0, 0, 63, 0, 0] : Fin 5 → ℕ) a, (hin a).2⟩))
      fun _ => 0)
      = if hw : 63 ≤ (l : ℕ) + (place p : ℕ) then x (ix5 b n ⟨(l : ℕ) + (place p : ℕ) - 63, by omega⟩ h d) else 0 := by
  have p0 : (p 0 : ℕ) < 1 := (p 0).isLt
  have p1 : (p 1 : ℕ) < 1 := (p 1).isLt
  have p2 : (p 2 : ℕ) < 64 := (p 2).isLt
  have p3 : (p 3 : ℕ) < 1 := (p 3).isLt
  have p4 : (p 4 : ℕ) < 1 := (p 4).isLt
  by_cases hw : 63 ≤ (l : ℕ) + (p 2 : ℕ)
  · rw [dif_pos (show 63 ≤ (l : ℕ) + (place p : ℕ) from hw)]
    rw [dif_pos (by
      intro a
      match a with
      | ⟨0, _⟩ => show 0 ≤ (b : ℕ) * 1 + (p 0 : ℕ) ∧ (b : ℕ) * 1 + (p 0 : ℕ) - 0 < 2; omega
      | ⟨1, _⟩ => show 0 ≤ (n : ℕ) * 1 + (p 1 : ℕ) ∧ (n : ℕ) * 1 + (p 1 : ℕ) - 0 < 128; omega
      | ⟨2, _⟩ => show 63 ≤ (l : ℕ) * 1 + (p 2 : ℕ) ∧ (l : ℕ) * 1 + (p 2 : ℕ) - 63 < 64; omega
      | ⟨3, _⟩ => show 0 ≤ (h : ℕ) * 1 + (p 3 : ℕ) ∧ (h : ℕ) * 1 + (p 3 : ℕ) - 0 < 16; omega
      | ⟨4, _⟩ => show 0 ≤ (d : ℕ) * 1 + (p 4 : ℕ) ∧ (d : ℕ) * 1 + (p 4 : ℕ) - 0 < 64; omega)]
    refine congrArg x (funext fun a => Fin.ext ?_)
    match a with
    | ⟨0, _⟩ => show (b : ℕ) * 1 + (p 0 : ℕ) - 0 = b; omega
    | ⟨1, _⟩ => show (n : ℕ) * 1 + (p 1 : ℕ) - 0 = n; omega
    | ⟨2, _⟩ => show (l : ℕ) * 1 + (p 2 : ℕ) - 63 = l + (p 2 : ℕ) - 63; omega
    | ⟨3, _⟩ => show (h : ℕ) * 1 + (p 3 : ℕ) - 0 = h; omega
    | ⟨4, _⟩ => show (d : ℕ) * 1 + (p 4 : ℕ) - 0 = d; omega
  · rw [dif_neg (show ¬ 63 ≤ (l : ℕ) + (place p : ℕ) from hw)]
    rw [dif_neg fun hin => hw (by
      have h2 : 63 ≤ (l : ℕ) * 1 + (p 2 : ℕ) := (hin 2).1
      omega)]

/-- The running sum along the chunk's places. -/
theorem cum_window (x : FVec Ideal S2x128x64x16x64 .f32) (v : FVec Ideal S_ .f32) (hv : v (Shape.Idx.first h_S_) = (0 : EReal))
    (b : Fin 2) (n : Fin 128) (l : Fin 64) (h : Fin 16) (d : Fin 64) :
    Host.reduceWindowAdd ![1, 1, 64, 1, 1] ![1, 1, 1, 1, 1] ![0, 0, 63, 0, 0] ![0, 0, 0, 0, 0] x v
      reduceWindows_S2x128x64x16x64_S2x128x64x16x64_w1s1p0_0_w1s1p0_0_w64s1p63_0_w1s1p0_0_w1s1p0_0 h_S_ (ix5 b n l h d)
      = ∑ k : Fin 64, if k ≤ l then x (ix5 b n k h d) else 0 := by
  unfold Host.reduceWindowAdd
  rw [Ideal.hostReduceWindowAdd_def, hv]
  unfold Ideal.hostReduceWindowAdd Host.reduceWindow
  refine (foldl_sum _ _).trans ?_
  rw [zero_add, ← prefix_sum l fun k => x (ix5 b n k h d)]
  refine Fintype.sum_equiv ((⟨5, ![1, 1, 64, 1, 1]⟩ : Shape).rowMajor.symm.trans place) _ _ fun N => ?_
  exact window_term x b n l h d _ _

/-! ## The arrays of the reference -/

abbrev zero : FVec Ideal S_ .f32 := constant S_ .f32 0x00000000#32

/-- The running sums. -/
abbrev cumR : FVec Ideal S2x128x64x16x64 .f32 :=
  Host.reduceWindowAdd ![1, 1, 64, 1, 1] ![1, 1, 1, 1, 1] ![0, 0, 63, 0, 0] ![0, 0, 0, 0, 0] (shapeCast _ a1 shapeCasts_S16384x1024_S2x128x64x16x64)
    (broadcastInDim S_ ![] bcast_S_S_ zero) reduceWindows_S2x128x64x16x64_S2x128x64x16x64_w1s1p0_0_w1s1p0_0_w64s1p63_0_w1s1p0_0_w1s1p0_0 h_S_

/-- The gated linear attention's columns of the projection. -/
abbrev part : FVec Ideal S16384x6144 .f32 := extractStridedSlice S16384x6144 ![0, 6144] a0 slices_S16384x12288_S16384x6144_0_6144

/-- The queries under their decay, the keys against it, the values. -/
abbrev qR : FVec Ideal S2x128x64x16x64 .f32 :=
  mulf (mulf (shapeCast _ (extractStridedSlice S16384x1024 ![0, 0] (part a0) slices_S16384x6144_S16384x1024_0_0) shapeCasts_S16384x1024_S2x128x64x16x64)
    (broadcastInDim S2x128x64x16x64 ![] bcast_S_S2x128x64x16x64 (constant S_ .f32 0x3E000000#32))) (Host.exp (cumR a1))
abbrev kR : FVec Ideal S2x128x64x16x64 .f32 :=
  mulf (shapeCast _ (extractStridedSlice S16384x1024 ![0, 1024] (part a0) slices_S16384x6144_S16384x1024_0_1024) shapeCasts_S16384x1024_S2x128x64x16x64)
    (Host.exp (Host.negf (cumR a1)))
abbrev vR : FVec Ideal S2x128x64x16x128 .f32 :=
  shapeCast _ (extractStridedSlice S16384x2048 ![0, 2048] (part a0) slices_S16384x6144_S16384x2048_0_2048) shapeCasts_S16384x2048_S2x128x64x16x128

/-- The causal mask. -/
abbrev mskR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The masked products of queries and keys. -/
abbrev attR (Q K : FVec Ideal S2x128x64x16x64 .f32) : FVec Ideal S2x128x16x64x64 .f32 :=
  select (broadcastInDim S2x128x16x64x64 ![3, 4] bcast_S64x64_S2x128x16x64x64_3_4 mskR)
    (Host.dotGeneral dot_S2x128x64x16x64_S2x128x64x16x64_S2x128x16x64x64_4_4_2_2_013_013 none Q K)
    (broadcastInDim S2x128x16x64x64 ![] bcast_S_S2x128x16x64x64 (id zero))

/-- The attention: inside the chunk, and against the collected states. -/
abbrev oR (A : FVec Ideal S2x128x16x64x64 .f32) (Q : FVec Ideal S2x128x64x16x64 .f32) (V : FVec Ideal S2x128x64x16x128 .f32)
    (S : FVec Ideal S128x2x16x64x128 .f32) : FVec Ideal S2x128x64x16x128 .f32 :=
  addf (transpose S2x128x64x16x128 [0, 1, 4, 2, 3] (Host.dotGeneral dot_S2x128x64x16x128_S2x128x16x64x64_S2x128x16x128x64_2_4_4_3_013_012 none V A)
      transposes_S2x128x16x128x64_S2x128x64x16x128_0_1_4_2_3)
    (transpose S2x128x64x16x128 [0, 1, 4, 2, 3] (Host.dotGeneral dot_S2x128x16x64x128_S2x128x64x16x64_S2x128x16x128x64_3_4_4_2_012_013 none
        (transpose S2x128x16x64x128 [1, 0, 2, 3, 4] S transposes_S128x2x16x64x128_S2x128x16x64x128_1_0_2_3_4) Q)
      transposes_S2x128x16x128x64_S2x128x64x16x128_0_1_4_2_3)

/-- The norm, its gain and the gate. -/
abbrev finR (O : FVec Ideal S2x128x64x16x128 .f32) (g : FVec Ideal S16384x2048 .f32) : FVec Ideal S16384x2048 .bf16 :=
  truncf .bf16 (mulf (shapeCast _ (mulf (mulf (shapeCast _ O shapeCasts_S2x128x64x16x128_S2x8192x16x128)
    (broadcastInDim S2x8192x16x128 ![0, 1, 2, 3] bcast_S2x8192x16x1_S2x8192x16x128_0_1_2_3 (Host.rsqrt (addf (Host.divf
      (broadcastInDim S2x8192x16x1 ![0, 1, 2] bcast_S2x8192x16_S2x8192x16x1_0_1_2 (Host.reduceAdd (mulf (shapeCast _ O shapeCasts_S2x128x64x16x128_S2x8192x16x128)
        (shapeCast _ O shapeCasts_S2x128x64x16x128_S2x8192x16x128)) zero reducesTo_S2x8192x16x128_S2x8192x16_d3 h_S_))
      (broadcastInDim S2x8192x16x1 ![] bcast_S_S2x8192x16x1 (constant S_ .f32 0x43000000#32)))
      (broadcastInDim S2x8192x16x1 ![] bcast_S_S2x8192x16x1 (constant S_ .f32 0x358637BD#32))))))
    (broadcastInDim S2x8192x16x128 ![0, 1, 2, 3] bcast_S1x1x1x128_S2x8192x16x128_0_1_2_3 (broadcastInDim S1x1x1x128 ![3] bcast_S128_S1x1x1x128_3 a2)))
    shapeCasts_S2x8192x16x128_S16384x2048)
    (mulf g (Host.divf (broadcastInDim S16384x2048 ![] bcast_S_S16384x2048 (constant S_ .f32 0x3F800000#32))
      (addf (broadcastInDim S16384x2048 ![] bcast_S_S16384x2048 (constant S_ .f32 0x3F800000#32)) (Host.exp (Host.negf g)))))) bitsLt_bf16_f32

theorem result_parts (s : State Ideal) :
    R_main_v68 s a0 a1 a2 = finR a2 (oR (attR (qR a0 a1) (kR a0 a1)) (qR a0 a1) (vR a0) s.main_v23_4)
      (extractStridedSlice S16384x2048 ![0, 4096] (part a0) slices_S16384x6144_S16384x2048_0_4096) := rfl

variable (b : Fin 2) (n : Fin 128) (l : Fin 64) (h : Fin 16) (d : Fin 64) (e : Fin 128)

/-- The arguments as plain functions. -/
abbrev Z (r : Fin 16384) (x : Fin 12288) : EReal := a0 (ix2 r x)
abbrev LA (r : Fin 16384) (x : Fin 1024) : EReal := a1 (ix2 r x)
abbrev NG (x : Fin 128) : EReal := a2 (ix1 x)

theorem cumR_apply : cumR a1 (ix5 b n l h d) = cum (LA a1) b n l h d := by
  refine (cum_window _ _ ?_ b n l h d).trans ?_
  · pointwise
  · rw [cum]
    refine Finset.sum_congr rfl fun k _ => ?_
    by_cases hk : k ≤ l
    · rw [if_pos hk, if_pos hk]
      pointwise
    · rw [if_neg hk, if_neg hk]

theorem qR_apply : qR a0 a1 (ix5 b n l h d) = qry (Z a0) (LA a1) b n l h d := by
  rw [qry, ← cumR_apply]
  pointwise

theorem kR_apply : kR a0 a1 (ix5 b n l h d) = key (Z a0) (LA a1) b n l h d := by
  rw [key, ← cumR_apply]
  have e : (⟨6144 + (1024 + (h * 64 + d)), by omega⟩ : Fin 12288) = kc h d := Fin.ext (by show 6144 + (1024 + (h * 64 + d : ℕ)) = 7168 + (h * 64 + d); omega)
  pointwise
  rw [e]

theorem vR_apply : vR a0 (ix5 b n l h e) = Z a0 (rw' b n l) (vc h e) := by
  have e : (⟨6144 + (2048 + (h * 128 + e)), by omega⟩ : Fin 12288) = vc h e := Fin.ext (by show 6144 + (2048 + (h * 128 + e : ℕ)) = 8192 + (h * 128 + e); omega)
  pointwise
  rw [e]

theorem attR_apply (Q K : FVec Ideal S2x128x64x16x64 .f32) (k : Fin 64) :
    attR Q K (ix5 b n h l k) = if k ≤ l then ∑ d, Q (ix5 b n l h d) * K (ix5 b n k h d) else 0 := by
  have e0 : id zero ix0 = (0 : EReal) := by show Ideal.ofBits .f32 0#32 = 0; pointwise
  have em : Scalar.select (IntOp.cmpi CmpIPredicate.sge (IntOp.addi (BitVec.ofNat 32 l) 0#32) (BitVec.ofNat 32 k)) 1#1 0#1 = if k ≤ l then 1#1 else 0#1 := by
    revert l k; decide +kernel
  pointwise
  rw [e0, em, Block.select_ite]

theorem oR_apply (A : FVec Ideal S2x128x16x64x64 .f32) (Q : FVec Ideal S2x128x64x16x64 .f32) (V : FVec Ideal S2x128x64x16x128 .f32)
    (S : FVec Ideal S128x2x16x64x128 .f32) : oR A Q V S (ix5 b n l h e)
      = (∑ k, V (ix5 b n k h e) * A (ix5 b n h l k)) + ∑ d, S (ix5 n b h d e) * Q (ix5 b n l h d) := by
  pointwise

theorem finR_apply (O : FVec Ideal S2x128x64x16x128 .f32) (g : FVec Ideal S16384x2048 .f32) (x : Fin 2048) (hx : (x : ℕ) = h * 128 + e) :
    (finR a2 O g (ix2 (rw' b n l) x) : EReal) = Block.fin (fun x => O (ix5 b n l h x)) (NG a2 e) (g (ix2 (rw' b n l) x)) e := by
  rw [Block.fin]
  unfold Ideal.logistic
  pointwise
  have eb : (⟨(b * 8192 + n * 64 + l) / 8192, by omega⟩ : Fin 2) = b := Fin.ext (by show (b * 8192 + n * 64 + l : ℕ) / 8192 = b; omega)
  have eh : (⟨x / 128, by omega⟩ : Fin 16) = h := Fin.ext (by show (x : ℕ) / 128 = h; omega)
  have ee : (⟨x % 128, by omega⟩ : Fin 128) = e := Fin.ext (by show (x : ℕ) % 128 = e; omega)
  rw [eb, eh, ee]

/-! ## The scan -/

/-- What the loop is handed: each chunk's decay, and what it adds. -/
theorem dec_apply : (A_main_v20 (F := Ideal) a0 a1 (ix4 n b h d) : EReal) = dec (LA a1) b n h d := by
  rw [dec, ← cumR_apply]
  pointwise [A_main_v20, A_main_v18, A_main_v11, A_main_v10]
  rfl

theorem add_apply : (A_main_v21 (F := Ideal) a0 a1 (ix5 n b h d e) : EReal) = add (Z a0) (LA a1) b n h d e := by
  have h6 : A_main_v6 (F := Ideal) a0 a1 = cumR a1 := rfl
  rw [add]
  simp only [keyEnd, ← cumR_apply]
  pointwise [A_main_v21, A_main_v17, A_main_v16, A_main_v9, A_main_v15, A_main_v14, A_main_v13, A_main_v12, A_main_v11, A_main_v10, A_main_v8, A_main_v3, A_main_v2, A_main_v0]
  rw [h6]
  have ek : (⟨6144 + (1024 + (h * 64 + d)), by omega⟩ : Fin 12288) = kc h d := Fin.ext (by show 6144 + (1024 + (h * 64 + d : ℕ)) = 7168 + (h * 64 + d); omega)
  have ev : (⟨6144 + (2048 + (h * 128 + e)), by omega⟩ : Fin 12288) = vc h e := Fin.ext (by show 6144 + (2048 + (h * 128 + e : ℕ)) = 8192 + (h * 128 + e); omega)
  refine Finset.sum_congr rfl fun x _ => ?_
  exact (congrArg₂ (fun u v : EReal => u * v) (congrArg (fun u => (a0 (ix2 (rw' b n x) u) : EReal) * Ideal.exp (cumR a1 (ix5 b n 63 h d) - cumR a1 (ix5 b n x h d))) ek)
    (congrArg (fun u => (a0 (ix2 (rw' b n x) u) : EReal)) ev)).trans (mul_comm _ _)

theorem trip_toInt {j : ℕ} (hj : j < 128) : (BitVec.ofNat 32 j).toInt = j := by
  rw [BitVec.toInt_eq_toNat_of_lt (by rw [BitVec.toNat_ofNat]; omega), BitVec.toNat_ofNat, Nat.mod_eq_of_lt (by omega)]

/-- Where trip `j` reads and writes the stacked arrays: at its number, and from the start of every other axis. -/
theorem start5 {j : ℕ} (hj : j < 128) (hf) (a : Fin 5) :
    Host.clampedStart S128x2x16x64x128 S1x2x16x64x128 hf (fun k => (((![(constantI S_ 32 (BitVec.ofNat 32 j)), (constantI S_ 32 0#32), (constantI S_ 32 0#32), (constantI S_ 32 0#32), (constantI S_ 32 0#32)] : Fin 5 → (⟨S_, .i32⟩ : BufTy).Contents (Elt Ideal))) k (Shape.Idx.first h_S_)).toInt) a
      = (![j, 0, 0, 0, 0] : Fin 5 → ℕ) a := by
  have hi := trip_toInt hj
  fin_cases a
  · refine (Host.clampedStart_of_le _ _ _ j ?_ ?_).trans rfl
    · exact hi
    · show j + 1 ≤ 128
      omega
  all_goals rfl

theorem start4 {j : ℕ} (hj : j < 128) (hf) (a : Fin 4) :
    Host.clampedStart S128x2x16x64 S1x2x16x64 hf (fun k => (((![(constantI S_ 32 (BitVec.ofNat 32 j)), (constantI S_ 32 0#32), (constantI S_ 32 0#32), (constantI S_ 32 0#32)] : Fin 4 → (⟨S_, .i32⟩ : BufTy).Contents (Elt Ideal))) k (Shape.Idx.first h_S_)).toInt) a
      = (![j, 0, 0, 0] : Fin 4 → ℕ) a := by
  have hi := trip_toInt hj
  fin_cases a
  · refine (Host.clampedStart_of_le _ _ _ j ?_ ?_).trans rfl
    · exact hi
    · show j + 1 ≤ 128
      omega
  all_goals rfl

/-- One trip's new state. -/
theorem next_apply (s : State Ideal) (j : ℕ) (hj : j < 128) :
    (b14 j s (ix4 b h d e) : EReal) = (s.main_v23_0 (ix4 ⟨j, hj⟩ b h d) : EReal) * s.main_v23_3 (ix4 b h d e) + s.main_v23_1 (ix5 ⟨j, hj⟩ b h d e) := by
  pointwise [b14, b13, b12, b11, b10, b9, b8, b7, b6, b5, b4, b3, b2, b1, b0, start5 hj, start4 hj]

/-- One trip's collected states. -/
theorem past_apply (s : State Ideal) (j : ℕ) (hj : j < 128) :
    b20 j s (ix5 n b h d e) = if (n : ℕ) = j then s.main_v23_3 (ix4 b h d e) else s.main_v23_4 (ix5 n b h d e) := by
  pointwise [b20, b19, b18, b17, b16, b15, start5 hj]
  by_cases hn : (n : ℕ) = j
  · rw [if_pos hn, dif_pos (by omega)]
  · rw [if_neg hn, dif_neg (by omega)]

variable (m : (ℓ : Loc nD τ sig) → Buf (Elt Ideal) ℓ) (c : Dev nD)

abbrev arg0 : FVec Ideal S16384x12288 .f32 := m ((c.tc : Thread nD τ).loc main_arg0)
abbrev arg1 : FVec Ideal S16384x1024 .f32 := m ((c.tc : Thread nD τ).loc main_arg1)
abbrev arg2 : FVec Ideal S128 .f32 := m ((c.tc : Thread nD τ).loc main_arg2)

open Cert.Proof.RefRun (states)

theorem states_decay : ∀ j, (states m c j).main_v23_0 = A_main_v20 (F := Ideal) (arg0 m c) (arg1 m c)
  | 0 => rfl
  | j + 1 => states_decay j

theorem states_added : ∀ j, (states m c j).main_v23_1 = A_main_v21 (F := Ideal) (arg0 m c) (arg1 m c)
  | 0 => rfl
  | j + 1 => states_added j

/-- Before trip `j` the loop carries chunk `j`'s state. -/
theorem states_now : ∀ j, j ≤ 128 → ((states m c j).main_v23_3 (ix4 b h d e) : EReal) = state (Z (arg0 m c)) (LA (arg1 m c)) b h d e j
  | 0, _ => by
    refine (?_ : (init (F := Ideal) (arg0 m c) (arg1 m c)).main_v23_3 (ix4 b h d e) = (0 : EReal)).trans ?_
    · pointwise [init, K_main_v19, K_main_cst]
    · rfl
  | j + 1, hj => by
    have hj' : j < 128 := by omega
    refine (next_apply b h d e (states m c j) j hj').trans ?_
    rw [states_decay, states_added, states_now j (by omega)]
    refine (congrArg₂ (fun u v : EReal => u * _ + v) (dec_apply (arg0 m c) (arg1 m c) b ⟨j, hj'⟩ h d) (add_apply (arg0 m c) (arg1 m c) b ⟨j, hj'⟩ h d e)).trans ?_
    show _ = (if hn : j < 128 then _ else _)
    rw [dif_pos hj', mul_comm]

/-- Before trip `j` the loop has collected the states of the chunks before. -/
theorem states_past : ∀ j, j ≤ 128 → (n : ℕ) < j → ((states m c j).main_v23_4 (ix5 n b h d e) : EReal) = state (Z (arg0 m c)) (LA (arg1 m c)) b h d e n
  | 0, _, hn => absurd hn (by omega)
  | j + 1, hj, hn => by
    refine (past_apply b n h d e (states m c j) j (by omega)).trans ?_
    by_cases hj' : (n : ℕ) = j
    · rw [if_pos hj', states_now b h d _ m c j (by omega), hj']
    · rw [if_neg hj']
      exact states_past j (by omega) (by omega)

/-- The reference's result. -/
theorem result (l : Fin 64) :
    R_main_v68 (states m c 128) (arg0 m c) (arg1 m c) (arg2 m c) (ix2 (rw' b n l) (⟨h * 128 + e, by omega⟩ : Fin 2048))
      = out (Z (arg0 m c)) (LA (arg1 m c)) (NG (arg2 m c)) b n l h e := by
  rw [result_parts]
  refine (finR_apply (arg2 m c) b n l h e _ _ _ rfl).trans ?_
  rw [out]
  congr 1
  · funext x
    rw [oR_apply, attn]
    congr 1
    · refine Finset.sum_congr rfl fun k _ => ?_
      rw [attR_apply, vR_apply, mul_comm, ite_mul, zero_mul]
      refine if_congr Iff.rfl (congrArg (· * _) (Finset.sum_congr rfl fun d _ => ?_)) rfl
      rw [qR_apply, kR_apply]
    · refine Finset.sum_congr rfl fun d _ => ?_
      rw [qR_apply, states_past b n h d x m c 128 le_rfl n.isLt, mul_comm]
  · have eg : (⟨6144 + (4096 + (h * 128 + e)), by omega⟩ : Fin 12288) = gc h e := Fin.ext (by show 6144 + (4096 + (h * 128 + e : ℕ)) = 10240 + (h * 128 + e); omega)
    pointwise
    rw [eg]

end Cert.Proof.Ref
end
-- ==== Proof.Gla.lean ====
/- The gated linear attention call's claims: its precondition read off, its two frames, and the equality with its reference. -/
module

public import proofs.«01_k».proof.Defs
public import proofs.«01_k».proof.Proof.Array
public import proofs.«01_k».proof.Proof.Ref
public import Idealize.ShloMosaic.Lib.ReduceAll
public import Idealize.ShloMosaic.Lib.Claim
public import Idealize.ShloMosaic.Lib.Quiescent
public import Idealize.ShloMosaic.Lib.Pointwise

@[expose] public section

set_option maxRecDepth 65536

noncomputable section

namespace Cert.Proof.Gla

open Idealize.ShloMosaic Idealize.ShloMosaic.ValueKit Idealize.SL.Sem

theorem facts : Cert.Pre_decay_below_inf.Facts := by
  constructor <;> decide

/-- Every log decay is below `+∞` where the precondition holds. -/
theorem decay_lt [Cert.Pre_decay_below_inf.Facts] (m : (ℓ : Loc Cert.KernelIdeal.nD Cert.KernelIdeal.τ Cert.KernelIdeal.sig) → Buf (Elt Ideal) ℓ)
    (h : Cert.Pre_KernelIdeal_decay_below_inf m) (c : Dev Cert.KernelIdeal.nD) (r : Fin 16384) (x : Fin 1024) : Array.LA m c r x < ⊤ := by
  have h0 := congrFun (h c) ix0
  have h1 := Host.reduce_andi_all _ _ _ _ ix0 h0 (ix2 r x)
  have e : (Ideal.ofBits .f32 0x7F800000#32) = (⊤ : EReal) := by simp [Ideal.ofBits, Ideal.ieee]
  have h2 : Ideal.cmp .olt (Array.LA m c r x) (Ideal.ofBits .f32 0x7F800000#32) = 1#1 := h1
  rw [e] at h2
  by_contra hn
  have : Ideal.cmp .olt (Array.LA m c r x) ⊤ = 0#1 := by simp [Ideal.cmp, hn]
  rw [this] at h2
  exact absurd h2 (by decide)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (RefRun.run (F := Ideal) m g)

theorem algebraic : Cert.algebraic_KernelIdeal_ReferenceIdeal_pre_decay_below_inf (hKernelIdeal := Cert.KernelIdeal.Gen.facts)
    (hReferenceIdeal := Cert.ReferenceIdeal.Gen.facts) (hPre_decay_below_inf := facts) := by
  intro m g m' g' hpre hag
  refine ⟨fun c => Array.OUT m c, ?_, ?_⟩
  · refine (θ_run Cert.KernelIdeal.defs _ _).mono (fun _ h c => ⟨(h c).1.trans (Array.final m c (@decay_lt facts m hpre c)), (h c).2⟩)
      (Cert.KernelIdeal.Value.run_blocks (F := Ideal) m g)
  · refine (θ_run Cert.ReferenceIdeal.defs _ _).mono (fun _ h c => ⟨(h c).1.trans ?_, (h c).2⟩) (RefRun.run (F := Ideal) m' g')
    obtain ⟨e0, e1, e2⟩ := hag c
    funext y
    have hy0 : (y 0 : ℕ) < 16384 := (y 0).isLt
    have hy1 : (y 1 : ℕ) < 2048 := (y 1).isLt
    have hy : y = ix2 (Spec.rw' ⟨(y 0 : ℕ) / 8192, by omega⟩ ⟨(y 0 : ℕ) % 8192 / 64, by omega⟩ ⟨(y 0 : ℕ) % 64, by omega⟩)
        (⟨((⟨(y 1 : ℕ) / 128, by omega⟩ : Fin 16) : ℕ) * 128 + ((⟨(y 1 : ℕ) % 128, by omega⟩ : Fin 128) : ℕ), by show (y 1 : ℕ) / 128 * 128 + (y 1 : ℕ) % 128 < 2048; omega⟩ : Fin 2048) := by
      funext a
      fin_cases a
      · apply Fin.ext; show (y 0 : ℕ) = (y 0 : ℕ) / 8192 * 8192 + (y 0 : ℕ) % 8192 / 64 * 64 + (y 0 : ℕ) % 64; omega
      · apply Fin.ext; show (y 1 : ℕ) = (y 1 : ℕ) / 128 * 128 + (y 1 : ℕ) % 128; omega
    refine (congrArg _ hy).trans ((Ref.result _ _ _ _ m' c _).trans ?_)
    have f0 : Ref.arg0 m' c = m ((c.tc : Thread Cert.KernelIdeal.nD Cert.KernelIdeal.τ).loc Cert.KernelIdeal.main_arg0) := e0
    have f1 : Ref.arg1 m' c = m ((c.tc : Thread Cert.KernelIdeal.nD Cert.KernelIdeal.τ).loc Cert.KernelIdeal.main_arg1) := e1
    have f2 : Ref.arg2 m' c = m ((c.tc : Thread Cert.KernelIdeal.nD Cert.KernelIdeal.τ).loc Cert.KernelIdeal.main_arg2) := e2
    rw [f0, f1, f2]
    rfl

end Cert.Proof.Gla
end
-- ==== Proof.GateUp.lean ====
/- The gate and up products of the feed-forward network, gated: the kernel's result array and the reference's. -/
module

public import proofs.«01_k».proof.Defs
public import proofs.«01_k».proof.Proof.Gen.Kernel2Ideal.Value
public import proofs.«01_k».proof.Proof.Gen.Reference2Ideal.Run
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Proof.GateUp

open Idealize.ShloMosaic Idealize.ShloMosaic.TcCoe Idealize.SL.Sem
section Kernel

open Cert.Kernel2Ideal Cert.Kernel2Ideal.Gen

theorem pay1_apply (v : Vec Ideal S1x4096x256 .f32) (y : S4096x256.Idx) : k0_pay1 v y = v (ix3 0 (y 0) (y 1)) := by
  pointwise [k0_pay1]

theorem pay2_apply (v : Vec Ideal S1x4096x256 .f32) (y : S4096x256.Idx) : k0_pay2 v y = v (ix3 0 (y 0) (y 1)) := by
  pointwise [k0_pay2]

/-- The gated product over the two products' values. -/
def gated (g u : EReal) : EReal := g * Ideal.logistic g * u

theorem pay3_apply (x : Vec Ideal S2048x4096 .bf16) (w : Vec Ideal S4096x512 .bf16) (y : S2048x256.Idx) :
    k0_pay3 x w y = gated (∑ k : Fin 4096, x (ix2 (y 0) k) * w (ix2 k ⟨y 1, Nat.lt_of_lt_of_le (y 1).isLt (by decide)⟩))
      (∑ k : Fin 4096, x (ix2 (y 0) k) * w (ix2 k ⟨256 + y 1, Nat.add_lt_add_left (y 1).isLt 256⟩)) := by
  rw [gated]
  pointwise [k0_pay3]

/-- The gated product of the arguments at a row (of both batches in turn) and a column, with the last layer's weights. -/
def resAt (x : FVec Ideal S2x8192x4096 .f32) (wg wu : FVec Ideal S2x4096x11008 .f32) (r : Fin 16384) (n : Fin 11008) : EReal :=
  gated (∑ k : Fin 4096, x (ix3 ⟨r.val / 8192, by omega⟩ ⟨r.val % 8192, by omega⟩ k) * wg (ix3 1 k n))
    (∑ k : Fin 4096, x (ix3 ⟨r.val / 8192, by omega⟩ ⟨r.val % 8192, by omega⟩ k) * wu (ix3 1 k n))

/-- The same as an array. -/
def res (x : FVec Ideal S2x8192x4096 .f32) (wg wu : FVec Ideal S2x4096x11008 .f32) : FVec Ideal S16384x11008 .bf16 :=
  fun y => resAt x wg wu (y 0) (y 1)

section Array

variable (m : (ℓ : Loc nD τ sig) → Buf (Elt Ideal) ℓ) (c : Dev nD) (t : Fin cfg0.N)

/-- The arguments as plain functions: the activations row by row over both batches, and the last layer's weights. -/
abbrev X (r : Fin 16384) (k : Fin 4096) : EReal :=
  m ((c : Thread nD τ).loc main_arg0) (ix3 ⟨r / 8192, by omega⟩ ⟨r % 8192, by omega⟩ k)
abbrev WG (k : Fin 4096) (n : Fin 11008) : EReal := m ((c : Thread nD τ).loc main_arg1) (ix3 1 k n)
abbrev WU (k : Fin 4096) (n : Fin 11008) : EReal := m ((c : Thread nD τ).loc main_arg2) (ix3 1 k n)

theorem lt_N : t.val < 344 := lt_of_lt_of_eq t.isLt N_0

theorem idx : ∀ t : Fin cfg0.N,
    win0_0.index t = ![t.val % 8, 0]
    ∧ win0_1.index t = ![1, 0, t.val / 8]
    ∧ win0_2.index t = ![1, 0, t.val / 8]
    ∧ win0_3.index t = ![t.val % 8, t.val / 8] :=
  (by decide +kernel : ∀ t : Fin grid0.N, _)

/-- The array's row and column of a block's. -/
abbrev rw' (t : ℕ) (r : Fin 2048) : Fin 16384 := ⟨2048 * (t % 8) + r, by omega⟩
abbrev cl (t : Fin cfg0.N) (n : Fin 256) : Fin 11008 := ⟨256 * (t.val / 8) + n, by have := lt_N t; omega⟩

theorem x_read (r : Fin 2048) (k : Fin 4096) : iblk m c 0 t (ix2 r k) = X m c (rw' t.val r) k := by
  blk_ext! [iblk, V, idx t]

theorem g_read (k : Fin 4096) (n : Fin 256) : iblk m c 1 t (ix3 0 k n) = WG m c k (cl t n) := by
  blk_ext! [iblk, V, idx t]

theorem u_read (k : Fin 4096) (n : Fin 256) : iblk m c 2 t (ix3 0 k n) = WU m c k (cl t n) := by
  blk_ext! [iblk, V, idx t]

/-- The weights a point finds or lays down: the gate's columns, then the up product's. -/
def tile (k : Fin 4096) (n : Fin 512) : EReal :=
  if h : (n : ℕ) < 256 then WG m c k (cl t ⟨n, h⟩) else WU m c k (cl t ⟨n - 256, by omega⟩)

theorem tile_lo (k k' : Fin 4096) (n : Fin 512) (n' : Fin 256) (hk : (k : ℕ) = k') (hn : (n : ℕ) = n') :
    tile m c t k n = WG m c k' (cl t n') := by
  obtain rfl : k = k' := Fin.ext hk
  have h : (n : ℕ) < 256 := by omega
  rw [tile, dif_pos h]
  exact congrArg (fun x => WG m c k (cl t x)) (Fin.ext hn)

theorem tile_hi (k k' : Fin 4096) (n : Fin 512) (n' : Fin 256) (hk : (k : ℕ) = k') (hn : (n : ℕ) = 256 + n') :
    tile m c t k n = WU m c k' (cl t n') := by
  obtain rfl : k = k' := Fin.ext hk
  have h : ¬ (n : ℕ) < 256 := by omega
  rw [tile, dif_neg h]
  exact congrArg (fun x => WU m c k (cl t x)) (Fin.ext (by show (n : ℕ) - 256 = n'; omega))

theorem lay_hi (x : S4096x256.Idx) : k0_pay2 (iblk m c 2 t) x = WU m c (x 0) (cl t (x 1)) :=
  (pay2_apply (iblk m c 2 t) x).trans (u_read m c t (x 0) (x 1))

theorem lay_lo (x : S4096x256.Idx) : k0_pay1 (iblk m c 1 t) x = WG m c (x 0) (cl t (x 1)) :=
  (pay1_apply (iblk m c 1 t) x).trans (g_read m c t (x 0) (x 1))

/-- The two pieces a column's first point lays down are the tile. -/
theorem canon_tile (y : S4096x512.Idx) :
    View.canon (Val := Elt Ideal) (s := S4096x512) (e := .bf16)
      [⟨Rect.unit ![0, 256] ![4096, 256] inb_S4096x512_S4096x256_0_256, k0_pay2 (iblk m c 2 t)⟩,
        ⟨Rect.unit ![0, 0] ![4096, 256] inb_S4096x512_S4096x256_0_0, k0_pay1 (iblk m c 1 t)⟩] y = tile m c t (y 0) (y 1) := by
  refine View.canon_append_of_piecesOf (Val := Elt Ideal) (s := S4096x512) (e := .bf16) (fun y => tile m c t (y 0) (y 1))
    [] [_, _] ⟨fun x => ?_, fun x => ?_, trivial⟩ y (View.cover_of_tiledL (s := S4096x512) _ S4096x256.size (by sl_kernel_rfl) y)
  · have e1 := ValueKit.rect_emb_unit_val (s := S4096x512) ![0, 256] ![4096, 256] inb_S4096x512_S4096x256_0_256 x 1
    have e0 := ValueKit.rect_emb_unit_val (s := S4096x512) ![0, 256] ![4096, 256] inb_S4096x512_S4096x256_0_256 x 0
    refine (lay_hi m c t x).trans (tile_hi m c t _ (x 0) _ (x 1) (e0.trans ?_) e1).symm
    show 0 + (x 0 : ℕ) = x 0; omega
  · have e1 := ValueKit.rect_emb_unit_val (s := S4096x512) ![0, 0] ![4096, 256] inb_S4096x512_S4096x256_0_0 x 1
    have e0 := ValueKit.rect_emb_unit_val (s := S4096x512) ![0, 0] ![4096, 256] inb_S4096x512_S4096x256_0_0 x 0
    refine (lay_lo m c t x).trans (tile_lo m c t _ (x 0) _ (x 1) (e0.trans ?_) (e1.trans ?_)).symm
    · show 0 + (x 0 : ℕ) = x 0; omega
    · show 0 + (x 1 : ℕ) = x 1; omega

theorem carried_A (h0 : t.val % 8 = 0) (y : S4096x512.Idx) : (outsAt0 m c t.val t.isLt).2 y = tile m c t (y 0) (y 1) := by
  rw [outsAt0_A m c t h0]
  frame_open
  frame_out
  exact canon_tile m c t y

theorem carried : ∀ (n : ℕ) (hn : n < cfg0.N) (y : S4096x512.Idx),
    (outsAt0 m c n hn).2 y = tile m c ⟨n, hn⟩ (y 0) (y 1) := by
  intro n
  induction n using Nat.strong_induction_on with
  | _ n ih =>
    intro hn y
    by_cases h0 : n % 8 = 0
    · exact carried_A m c ⟨n, hn⟩ h0 y
    · have e : (outsAt0 m c n hn).2 = (outsAt0 m c (n - 1) (by omega)).2 := by
        rw [outsAt0_B m c ⟨n, hn⟩ h0]
        rfl
      rw [e, ih (n - 1) (by omega)]
      have : (n - 1) / 8 = n / 8 := by omega
      simp only [tile, cl, this]

theorem result (y : S2048x256.Idx) : (outsAt0 m c t.val t.isLt).1 y = k0_pay3 (iblk m c 0 t) (fun y => tile m c t (y 0) (y 1)) y := by
  by_cases h0 : t.val % 8 = 0
  · rw [outsAt0_A m c t h0]
    frame_open
    frame_out
    refine congrFun (congrArg (k0_pay3 (iblk m c 0 t)) ?_) y
    rw [View.readCov_eq_canon']
    funext j
    refine (canon_tile m c t _).trans (congrArg₂ (tile m c t) (Fin.ext ?_) (Fin.ext ?_))
    · show 0 + 1 * (j 0 : ℕ) = j 0; omega
    · show 0 + 1 * (j 1 : ℕ) = j 1; omega
  · have e := carried m c (t.val - 1) (by omega)
    rw [outsAt0_B m c t h0]
    frame_open
    frame_out
    refine congrFun (congrArg (k0_pay3 (iblk m c 0 t)) ?_) y
    refine (read_unread_whole _ _ _).trans (funext fun j => (e j).trans ?_)
    have : (t.val - 1) / 8 = t.val / 8 := by omega
    simp only [tile, cl, this]

/-- The result array. -/
abbrev OUT : Vec Ideal S16384x11008 .bf16 :=
  res (m ((c : Thread nD τ).loc main_arg0)) (m ((c : Thread nD τ).loc main_arg1)) (m ((c : Thread nD τ).loc main_arg2))

theorem final : (dats m 0 c).arrAt 3 cfg0.N = OUT m c := by
  refine (dats m 0 c).arrAt_eq_of_covers 3 (OUT m c) (by decide +kernel) fun t hf y => ?_
  have hN := lt_N t
  blk_simp [idx t]
  rw [after0_3]
  have hy0 : (y 0 : ℕ) < 2048 := (y 0).isLt
  have hy1 : (y 1 : ℕ) < 256 := (y 1).isLt
  have e0 : (win0_3.blk t).view.emb y 0 = rw' t.val ⟨y 0, hy0⟩ := Fin.ext (by show ((win0_3.blk t).view.emb y 0 : ℕ) = 2048 * (t.val % 8) + (y 0 : ℕ); blk_simp [idx t]; omega)
  have e1 : (win0_3.blk t).view.emb y 1 = cl t ⟨y 1, hy1⟩ := Fin.ext (by show ((win0_3.blk t).view.emb y 1 : ℕ) = 256 * (t.val / 8) + (y 1 : ℕ); blk_simp [idx t]; omega)
  refine (result m c t y).trans ((pay3_apply _ _ y).trans (Eq.symm ((congrArg₂ (resAt _ _ _) e0 e1).trans ?_)))
  refine congrArg₂ gated (Finset.sum_congr rfl fun k _ => congrArg₂ (· * ·) (x_read m c t _ k).symm ?_)
    (Finset.sum_congr rfl fun k _ => congrArg₂ (· * ·) (x_read m c t _ k).symm ?_)
  · exact (tile_lo m c t k k _ ⟨y 1, hy1⟩ rfl rfl).symm
  · exact (tile_hi m c t k k _ ⟨y 1, hy1⟩ rfl rfl).symm

end Array

end Kernel

section Ref

open Cert.Reference2Ideal Cert.Reference2Ideal.Gen

theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem algebraic : Cert.algebraic_Kernel2Ideal_Reference2Ideal (hKernel2Ideal := Cert.Kernel2Ideal.Gen.facts)
    (hReference2Ideal := Cert.Reference2Ideal.Gen.facts) := by
  intro m g m' g' hpre hag
  refine ⟨fun c => OUT m c, ?_, ?_⟩
  · refine (θ_run Cert.Kernel2Ideal.defs _ _).mono (fun _ h c => ⟨(h c).1.trans (final m c), (h c).2⟩)
      (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    obtain ⟨e0, e1, e2⟩ := hag c
    have f0 : m' ((c.tc : Thread nD τ).loc main_arg0) = m ((c.tc : Thread Cert.Kernel2Ideal.nD Cert.Kernel2Ideal.τ).loc Cert.Kernel2Ideal.main_arg0) := e0
    have f1 : m' ((c.tc : Thread nD τ).loc main_arg1) = m ((c.tc : Thread Cert.Kernel2Ideal.nD Cert.Kernel2Ideal.τ).loc Cert.Kernel2Ideal.main_arg1) := e1
    have f2 : m' ((c.tc : Thread nD τ).loc main_arg2) = m ((c.tc : Thread Cert.Kernel2Ideal.nD Cert.Kernel2Ideal.τ).loc Cert.Kernel2Ideal.main_arg2) := e2
    rw [f0, f1, f2]
    funext y
    show _ = resAt _ _ _ (y 0) (y 1)
    unfold resAt gated
    pointwise []
    rfl

end Ref

end Cert.Proof.GateUp
end
-- ==== Proof.Norm.lean ====
/- Layer normalisation of one row, as a plain function of the row. -/
module

public import Idealize.ShloMosaic.Lib.Pointwise

@[expose] public section

noncomputable section

namespace Cert.Proof.Norm

open Idealize.ShloMosaic

/-- The row's mean. -/
def mean (v : Fin 4096 → EReal) : EReal := Ideal.div (∑ k, v k) (Ideal.ofBits .f32 0x45800000#32)

/-- The row's variance. -/
def var (v : Fin 4096 → EReal) : EReal :=
  Ideal.div (∑ k, (v k - mean v) * (v k - mean v)) (Ideal.ofBits .f32 0x45800000#32)

/-- The row normalised, at one place: over the root of the variance, scaled by `g` and shifted by `b`. -/
def lnorm (v : Fin 4096 → EReal) (g b : EReal) (n : Fin 4096) : EReal :=
  (v n - mean v) * Ideal.rsqrt (var v + Ideal.ofBits .f32 0x3727C5AC#32) * g + b

/-- The residual stream of a half-step: the input scaled by the depth's constant, and half of what the step adds. -/
def half (x h : EReal) : EReal := Ideal.ofBits .f32 0x3FB504F3#32 * x + Ideal.ofBits .f32 0x3F000000#32 * h

end Cert.Proof.Norm
end
-- ==== Proof.Down.lean ====
/- The down product of the feed-forward network onto the residual stream and the layer normalisation after it: the
   kernel's result array over its two calls, and the reference's. -/
module

public import proofs.«01_k».proof.Defs
public import proofs.«01_k».proof.Proof.Norm
public import proofs.«01_k».proof.Proof.Gen.Kernel3Ideal.Frame
public import proofs.«01_k».proof.Proof.Gen.Reference3Ideal.Run
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Down

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Cert.Proof.Norm

/-- The residual stream at a row (of both batches in turn) and a column: the input and the down product with the last layer's weights. -/
def streamAt (x : FVec Ideal ⟨3, ![2, 8192, 4096]⟩ .f32) (h : FVec Ideal ⟨2, ![16384, 11008]⟩ .bf16) (wd : FVec Ideal ⟨3, ![2, 11008, 4096]⟩ .f32)
    (r : Fin 16384) (n : Fin 4096) : EReal :=
  half (x (ix3 ⟨r.val / 8192, by omega⟩ ⟨r.val % 8192, by omega⟩ n)) (∑ k : Fin 11008, h (ix2 r k) * wd (ix3 1 k n))

/-- The half-step's result at a row and a column. -/
def resAt (x : FVec Ideal ⟨3, ![2, 8192, 4096]⟩ .f32) (h : FVec Ideal ⟨2, ![16384, 11008]⟩ .bf16) (wd : FVec Ideal ⟨3, ![2, 11008, 4096]⟩ .f32)
    (g b : FVec Ideal ⟨3, ![2, 3, 4096]⟩ .f32) (r : Fin 16384) (n : Fin 4096) : EReal :=
  lnorm (streamAt x h wd r) (g (ix3 1 2 n)) (b (ix3 1 2 n)) n

section Kernel

open Cert.Kernel3Ideal Cert.Kernel3Ideal.Gen

theorem pay0_apply (x : Vec Ideal S512x11008 .bf16) (w : Vec Ideal S1x11008x512 .bf16) (r : Vec Ideal S512x512 .f32) (y : S512x512.Idx) :
    k0_pay1 x w r y = half (r y) (∑ k : Fin 11008, x (ix2 (y 0) k) * w (ix3 0 k (y 1))) := by
  rw [half]
  pointwise [k0_pay1]

theorem pay1_apply (x : Vec Ideal S256x4096 .f32) (g b : Vec Ideal S1x4096 .f32) (y : S256x4096.Idx) :
    k1_pay1 x g b y = lnorm (fun n => x (ix2 (y 0) n)) (g (ix2 0 (y 1))) (b (ix2 0 (y 1))) (y 1) := by
  unfold lnorm var mean
  pointwise [k1_pay1]

variable (m : (ℓ : Loc nD τ sig) → Buf (Elt Ideal) ℓ) (ρ : Dev nD → PrngReg) (c : Dev nD)

set_option backward.isDefEq.respectTransparency.types false in
/-- The program's run: the result is what the second call's write-backs leave, the arguments are as launched. -/
theorem run : θ_run defs (onTc (τ := τ) (main (F := Ideal))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v9 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

section Region0

variable (t : Fin cfg0.N)

theorem lt_N0 : t.val < 256 := lt_of_lt_of_eq t.isLt N_0

theorem idx0 : ∀ t : Fin cfg0.N,
    win0_0.index t = ![t.val / 8, 0]
    ∧ win0_1.index t = ![1, 0, t.val % 8]
    ∧ win0_2.index t = ![t.val / 8, t.val % 8]
    ∧ win0_3.index t = ![t.val / 8, t.val % 8] :=
  (by decide +kernel : ∀ t : Fin grid0.N, _)

/-- The array's row and column of a block's. -/
abbrev rw0 (t : Fin cfg0.N) (r : Fin 512) : Fin 16384 := ⟨512 * (t.val / 8) + r, by have := lt_N0 t; omega⟩
abbrev cl0 (t : ℕ) (n : Fin 512) : Fin 4096 := ⟨512 * (t % 8) + n, by omega⟩

/-- The arguments the region finds, as plain functions. -/
abbrev A0 : FVec Ideal ⟨3, ![2, 8192, 4096]⟩ .f32 := m ((c : Thread nD τ).loc main_arg0)
abbrev A1 : FVec Ideal ⟨2, ![16384, 11008]⟩ .bf16 := m ((c : Thread nD τ).loc main_arg1)
abbrev A2 : FVec Ideal ⟨3, ![2, 11008, 4096]⟩ .f32 := m ((c : Thread nD τ).loc main_arg2)
abbrev A3 : FVec Ideal ⟨3, ![2, 3, 4096]⟩ .f32 := m ((c : Thread nD τ).loc main_arg3)
abbrev A4 : FVec Ideal ⟨3, ![2, 3, 4096]⟩ .f32 := m ((c : Thread nD τ).loc main_arg4)

theorem entry_x (r : Fin 16384) (n : Fin 4096) :
    StableHlo.after hostOps0 (W0 m ρ c) (Proc.devRef .tc main_v0) (ix2 r n) = A0 m c (ix3 ⟨r.val / 8192, by omega⟩ ⟨r.val % 8192, by omega⟩ n) := by
  entry_read
  pointwise []

theorem entry_w (l : Fin 2) (k : Fin 11008) (n : Fin 4096) :
    StableHlo.after hostOps0 (W0 m ρ c) (Proc.devRef .tc main_v1) (ix3 l k n) = A2 m c (ix3 l k n) := by
  entry_read
  pointwise []

theorem h_read (r : Fin 512) (k : Fin 11008) : iblk0 (V1 m ρ) c 0 t (ix2 r k) = A1 m c (ix2 (rw0 t r) k) := by
  blk_ext! [iblk0, idx0 t]

theorem w_read (k : Fin 11008) (n : Fin 512) : iblk0 (V1 m ρ) c 1 t (ix3 0 k n) = A2 m c (ix3 1 k (cl0 t.val n)) := by
  refine Eq.trans ?_ (entry_w m ρ c 1 k _)
  blk_ext! [iblk0, idx0 t]

theorem x_read (r n : Fin 512) : iblk0 (V1 m ρ) c 2 t (ix2 r n)
    = A0 m c (ix3 ⟨(rw0 t r).val / 8192, by omega⟩ ⟨(rw0 t r).val % 8192, by omega⟩ (cl0 t.val n)) := by
  refine Eq.trans ?_ (entry_x m ρ c (rw0 t r) _)
  blk_ext! [iblk0, idx0 t]

/-- What the first call leaves: the residual stream. -/
def OUT0 : FVec Ideal S16384x4096 .f32 := fun y => streamAt (A0 m c) (A1 m c) (A2 m c) (y 0) (y 1)

theorem final0 : (dat0 (V1 m ρ) c).arrAt 3 cfg0.N = OUT0 m c := by
  refine (dat0 (V1 m ρ) c).arrAt_eq_of_covers 3 (OUT0 m c) (by decide +kernel) fun t hf y => ?_
  have hN := lt_N0 t
  blk_simp [idx0 t]
  rw [after0_3]
  have hy0 : (y 0 : ℕ) < 512 := (y 0).isLt
  have hy1 : (y 1 : ℕ) < 512 := (y 1).isLt
  have e0 : (win0_3.blk t).view.emb y 0 = rw0 t ⟨y 0, hy0⟩ := Fin.ext (by show ((win0_3.blk t).view.emb y 0 : ℕ) = 512 * (t.val / 8) + (y 0 : ℕ); blk_simp [idx0 t]; omega)
  have e1 : (win0_3.blk t).view.emb y 1 = cl0 t ⟨y 1, hy1⟩ := Fin.ext (by show ((win0_3.blk t).view.emb y 1 : ℕ) = 512 * (t.val % 8) + (y 1 : ℕ); blk_simp [idx0 t]; omega)
  frame_open
  frame_out
  refine (pay0_apply _ _ _ y).trans (Eq.symm ((congrArg₂ (streamAt _ _ _) e0 e1).trans ?_))
  exact congrArg₂ half (x_read m ρ c t _ _).symm (Finset.sum_congr rfl fun k _ => congrArg₂ (· * ·) (h_read m ρ c t _ k).symm (w_read m ρ c t k _).symm)

end Region0

section Region1

variable (t : Fin cfg1.N)

theorem lt_N1 : t.val < 64 := lt_of_lt_of_eq t.isLt N_1

theorem idx1 : ∀ t : Fin cfg1.N,
    win1_0.index t = ![t.val, 0]
    ∧ win1_1.index t = ![0, 0]
    ∧ win1_2.index t = ![0, 0]
    ∧ win1_3.index t = ![t.val, 0] :=
  (by decide +kernel : ∀ t : Fin grid1.N, _)

/-- The array's row of a block's. -/
abbrev rw1 (t : Fin cfg1.N) (r : Fin 256) : Fin 16384 := ⟨256 * t.val + r, by have := lt_N1 t; omega⟩

theorem entry_v : V3 m ρ c main_v2 = OUT0 m c :=
  (W3_of m ρ c main_v2 (by decide)).trans ((W2_arr m ρ c 3).trans (final0 m ρ c))

theorem entry_g (n : Fin 4096) : StableHlo.after hostOps1 (W2 m ρ c) (Proc.devRef .tc main_v7) (ix2 0 n) = A3 m c (ix3 1 2 n) := by
  entry_read
  rw [W2_args m ρ c main_arg3 (by decide)]
  pointwise []

theorem entry_b (n : Fin 4096) : StableHlo.after hostOps1 (W2 m ρ c) (Proc.devRef .tc main_v8) (ix2 0 n) = A4 m c (ix3 1 2 n) := by
  entry_read
  rw [W2_args m ρ c main_arg4 (by decide)]
  pointwise []

theorem v_read (r : Fin 256) (n : Fin 4096) : iblk1 (V3 m ρ) c 0 t (ix2 r n) = streamAt (A0 m c) (A1 m c) (A2 m c) (rw1 t r) n := by
  refine Eq.trans ?_ (congrFun (entry_v m ρ c) (ix2 (rw1 t r) n))
  blk_ext! [iblk1, idx1 t]

theorem g_read (n : Fin 4096) : iblk1 (V3 m ρ) c 1 t (ix2 0 n) = A3 m c (ix3 1 2 n) := by
  refine Eq.trans ?_ (entry_g m ρ c n)
  blk_ext! [iblk1, idx1 t]

theorem b_read (n : Fin 4096) : iblk1 (V3 m ρ) c 2 t (ix2 0 n) = A4 m c (ix3 1 2 n) := by
  refine Eq.trans ?_ (entry_b m ρ c n)
  blk_ext! [iblk1, idx1 t]

/-- The result array. -/
def OUT1 : FVec Ideal S16384x4096 .f32 := fun y => resAt (A0 m c) (A1 m c) (A2 m c) (A3 m c) (A4 m c) (y 0) (y 1)

theorem final1 : (dat1 (V3 m ρ) c).arrAt 3 cfg1.N = OUT1 m c := by
  refine (dat1 (V3 m ρ) c).arrAt_eq_of_covers 3 (OUT1 m c) (by decide +kernel) fun t hf y => ?_
  have hN := lt_N1 t
  blk_simp [idx1 t]
  rw [after1_3]
  have hy0 : (y 0 : ℕ) < 256 := (y 0).isLt
  have hy1 : (y 1 : ℕ) < 4096 := (y 1).isLt
  have e0 : (win1_3.blk t).view.emb y 0 = rw1 t ⟨y 0, hy0⟩ := Fin.ext (by show ((win1_3.blk t).view.emb y 0 : ℕ) = 256 * t.val + (y 0 : ℕ); blk_simp [idx1 t]; omega)
  have e1 : (win1_3.blk t).view.emb y 1 = ⟨y 1, hy1⟩ := Fin.ext (by show ((win1_3.blk t).view.emb y 1 : ℕ) = (y 1 : ℕ); blk_simp [idx1 t])
  frame_open
  frame_out
  refine (pay1_apply _ _ _ y).trans (Eq.symm ((congrArg₂ (resAt _ _ _ _ _) e0 e1).trans ?_))
  unfold resAt
  refine congr (congr (congrArg₂ lnorm (funext fun n => (v_read m ρ c t _ n).symm) (g_read m ρ c t _).symm) (b_read m ρ c t _).symm) rfl

end Region1

end Kernel

section Ref

open Cert.Reference3Ideal Cert.Reference3Ideal.Gen

theorem frame_reference : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The reference's residual stream and its normalisation, as the program composes them. -/
def refStream (x : FVec Ideal S2x8192x4096 .f32) (h : FVec Ideal S16384x11008 .bf16) (wd : FVec Ideal S2x11008x4096 .f32) : FVec Ideal S2x8192x4096 .f32 :=
  addf (mulf (broadcastInDim S2x8192x4096 ![] bcast_S_S2x8192x4096 (constant S_ .f32 0x3FB504F3#32)) x)
    (mulf (broadcastInDim S2x8192x4096 ![] bcast_S_S2x8192x4096 (constant S_ .f32 0x3F000000#32))
      (Host.dotGeneral dot_S2x8192x11008_S11008x4096_S2x8192x4096_2_0_01_1_n_n none
        (shapeCast _ (extf .f32 h bitsLt_bf16_f32) shapeCasts_S16384x11008_S2x8192x11008)
        (shapeCast _ (extractStridedSlice S1x11008x4096 ![1, 0, 0] wd slices_S2x11008x4096_S1x11008x4096_1_0_0) shapeCasts_S1x11008x4096_S11008x4096)))

theorem refStream_apply (x : FVec Ideal S2x8192x4096 .f32) (h : FVec Ideal S16384x11008 .bf16) (wd : FVec Ideal S2x11008x4096 .f32)
    (r : Fin 16384) (n : Fin 4096) :
    refStream x h wd (ix3 ⟨r.val / 8192, by omega⟩ ⟨r.val % 8192, by omega⟩ n) = streamAt x h wd r n := by
  have e : (⟨r.val / 8192 * 8192 + r.val % 8192, by omega⟩ : Fin 16384) = r := Fin.ext (by show r.val / 8192 * 8192 + r.val % 8192 = r.val; omega)
  unfold streamAt half
  pointwise [refStream]

def refMean (v : FVec Ideal S2x8192x4096 .f32) : FVec Ideal S2x8192x1 .f32 :=
  Host.divf (broadcastInDim S2x8192x1 ![0, 1] bcast_S2x8192_S2x8192x1_0_1 (Host.reduceAdd v (constant S_ .f32 0x00000000#32) reducesTo_S2x8192x4096_S2x8192_d2 h_S_))
    (broadcastInDim S2x8192x1 ![] bcast_S_S2x8192x1 (constant S_ .f32 0x45800000#32))

def refNorm (v : FVec Ideal S2x8192x4096 .f32) (g b : FVec Ideal S2x3x4096 .f32) : FVec Ideal S16384x4096 .f32 :=
  shapeCast _ (addf (mulf (mulf (subf v (broadcastInDim S2x8192x4096 ![0, 1, 2] bcast_S2x8192x1_S2x8192x4096_0_1_2 (refMean v)))
      (broadcastInDim S2x8192x4096 ![0, 1, 2] bcast_S2x8192x1_S2x8192x4096_0_1_2 (Host.rsqrt (addf
        (refMean (mulf (subf v (broadcastInDim S2x8192x4096 ![0, 1, 2] bcast_S2x8192x1_S2x8192x4096_0_1_2 (refMean v))) (subf v (broadcastInDim S2x8192x4096 ![0, 1, 2] bcast_S2x8192x1_S2x8192x4096_0_1_2 (refMean v)))))
        (broadcastInDim S2x8192x1 ![] bcast_S_S2x8192x1 (constant S_ .f32 0x3727C5AC#32))))))
      (broadcastInDim S2x8192x4096 ![0, 1, 2] bcast_S1x1x4096_S2x8192x4096_0_1_2 (broadcastInDim S1x1x4096 ![2] bcast_S4096_S1x1x4096_2 (shapeCast _ (extractStridedSlice S1x1x4096 ![1, 2, 0] g slices_S2x3x4096_S1x1x4096_1_2_0) shapeCasts_S1x1x4096_S4096))))
    (broadcastInDim S2x8192x4096 ![0, 1, 2] bcast_S1x1x4096_S2x8192x4096_0_1_2 (broadcastInDim S1x1x4096 ![2] bcast_S4096_S1x1x4096_2 (shapeCast _ (extractStridedSlice S1x1x4096 ![1, 2, 0] b slices_S2x3x4096_S1x1x4096_1_2_0) shapeCasts_S1x1x4096_S4096)))) shapeCasts_S2x8192x4096_S16384x4096

theorem refNorm_apply (v : FVec Ideal S2x8192x4096 .f32) (g b : FVec Ideal S2x3x4096 .f32) (y : S16384x4096.Idx) :
    refNorm v g b y = lnorm (fun n => v (ix3 ⟨(y 0).val / 8192, Nat.div_lt_of_lt_mul (y 0).isLt⟩ ⟨(y 0).val % 8192, Nat.mod_lt _ (by decide)⟩ n)) (g (ix3 1 2 (y 1))) (b (ix3 1 2 (y 1))) (y 1) := by
  unfold lnorm var mean
  pointwise [refNorm, refMean]

theorem algebraic : Cert.algebraic_Kernel3Ideal_Reference3Ideal (hKernel3Ideal := Cert.Kernel3Ideal.Gen.facts)
    (hReference3Ideal := Cert.Reference3Ideal.Gen.facts) := by
  intro m g m' g' hpre hag
  refine ⟨fun c => OUT1 m c, ?_, ?_⟩
  · exact (θ_run Cert.Kernel3Ideal.defs _ _).mono (fun _ h c => ⟨(h c).1.trans (final1 m g c), (h c).2⟩) (run m g)
  · refine (θ_run Cert.Reference3Ideal.defs _ _).mono (fun _ h c => ⟨(h c).1.trans ?_, (h c).2⟩) (Cert.Reference3Ideal.Value.run (F := Ideal) m' g')
    obtain ⟨e0, e1, e2, e3, e4⟩ := hag c
    have f0 : m' ((c.tc : Thread nD τ).loc main_arg0) = A0 m c := e0
    have f1 : m' ((c.tc : Thread nD τ).loc main_arg1) = A1 m c := e1
    have f2 : m' ((c.tc : Thread nD τ).loc main_arg2) = A2 m c := e2
    have f3 : m' ((c.tc : Thread nD τ).loc main_arg3) = A3 m c := e3
    have f4 : m' ((c.tc : Thread nD τ).loc main_arg4) = A4 m c := e4
    have h : Cert.Reference3Ideal.Value.res_main_v38 m' c = refNorm (refStream (A0 m c) (A1 m c) (A2 m c)) (A3 m c) (A4 m c) := by
      unfold Cert.Reference3Ideal.Value.res_main_v38
      rw [f0, f1, f2, f3, f4]
      rfl
    refine h.trans (funext fun y => (refNorm_apply _ _ _ y).trans ?_)
    show lnorm _ _ _ _ = lnorm _ _ _ _
    exact congr (congr (congrArg₂ lnorm (funext fun n => refStream_apply _ _ _ (y 0) n) rfl) rfl) rfl

end Ref

end Cert.Proof.Down
end
-- ==== Proof.MixOut.lean ====
/- A mixer's output product onto the residual stream and the layer normalisation after it: the kernel's result arrays
   over its two calls, and the reference's. -/
module

public import proofs.«01_k».proof.Defs
public import proofs.«01_k».proof.Proof.Norm
public import proofs.«01_k».proof.Proof.Gen.Kernel4Ideal.Frame
public import proofs.«01_k».proof.Proof.Gen.Reference4Ideal.Run
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixOut

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Cert.Proof.Norm

/-- The residual stream at a row (of both batches in turn) and a column: the input and the product of the mixer's two halves
    with the output weights, one after the other. -/
def streamAt (x : FVec Ideal ⟨3, ![2, 8192, 4096]⟩ .f32) (p q : FVec Ideal ⟨2, ![16384, 2048]⟩ .bf16) (w : FVec Ideal ⟨2, ![4096, 4096]⟩ .f32)
    (r : Fin 16384) (n : Fin 4096) : EReal :=
  Ideal.ofBits .f32 0x3FB504F3#32 * x (ix3 ⟨r.val / 8192, by omega⟩ ⟨r.val % 8192, by omega⟩ n)
    + ((∑ k : Fin 2048, p (ix2 r k) * w (ix2 ⟨k.val, by omega⟩ n)) + ∑ k : Fin 2048, q (ix2 r k) * w (ix2 ⟨2048 + k.val, by omega⟩ n))

/-- The sub-layer's result at a row and a column. -/
def resAt (x : FVec Ideal ⟨3, ![2, 8192, 4096]⟩ .f32) (p q : FVec Ideal ⟨2, ![16384, 2048]⟩ .bf16) (w : FVec Ideal ⟨2, ![4096, 4096]⟩ .f32)
    (g b : FVec Ideal ⟨3, ![2, 3, 4096]⟩ .f32) (r : Fin 16384) (n : Fin 4096) : EReal :=
  lnorm (streamAt x p q w r) (g (ix3 1 1 n)) (b (ix3 1 1 n)) n

section Kernel

open Cert.Kernel4Ideal Cert.Kernel4Ideal.Gen

theorem pay0_apply (p : Vec Ideal S1024x2048 .bf16) (u : Vec Ideal S2048x1024 .bf16) (q : Vec Ideal S1024x2048 .bf16) (w : Vec Ideal S2048x1024 .bf16)
    (x : Vec Ideal S1024x1024 .f32) (y : S1024x1024.Idx) :
    k0_pay1 p u q w x y = Ideal.ofBits .f32 0x3FB504F3#32 * x y
      + ((∑ k : Fin 2048, p (ix2 (y 0) k) * u (ix2 k (y 1))) + ∑ k : Fin 2048, q (ix2 (y 0) k) * w (ix2 k (y 1))) := by
  pointwise [k0_pay1]

theorem pay1_apply (x : Vec Ideal S256x4096 .f32) (g b : Vec Ideal S1x4096 .f32) (y : S256x4096.Idx) :
    k1_pay1 x g b y = lnorm (fun n => x (ix2 (y 0) n)) (g (ix2 0 (y 1))) (b (ix2 0 (y 1))) (y 1) := by
  unfold lnorm var mean
  pointwise [k1_pay1]

theorem pay2_apply (x : Vec Ideal S256x4096 .f32) (g b : Vec Ideal S1x4096 .f32) (y : S256x4096.Idx) :
    k1_pay2 x g b y = lnorm (fun n => x (ix2 (y 0) n)) (g (ix2 0 (y 1))) (b (ix2 0 (y 1))) (y 1) := by
  refine Eq.trans ?_ (pay1_apply x g b y)
  pointwise [k1_pay2]

variable (m : (ℓ : Loc nD τ sig) → Buf (Elt Ideal) ℓ) (ρ : Dev nD → PrngReg) (c : Dev nD)

set_option backward.isDefEq.respectTransparency.types false in
/-- The program's run: the results are what the calls' write-backs leave, the arguments are as launched. -/
theorem run : θ_run defs (onTc (τ := τ) (main (F := Ideal))) ⟨m, fun _ => 0, ρ⟩ (fun r => ∀ c : Dev nD,
      r.2.mem ((c.tc : Thread nD τ).loc main_v11_0) = (dat1 (V3 m ρ) c).arrAt 3 cfg1.N
      ∧ r.2.mem ((c.tc : Thread nD τ).loc main_v11_1) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v11_0 (by decide))).trans (W4_arr m ρ c 3),
       (h c _ (mem_uc main_v11_1 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

section Region0

variable (t : Fin cfg0.N)

theorem lt_N0 : t.val < 64 := lt_of_lt_of_eq t.isLt N_0

theorem idx0 : ∀ t : Fin cfg0.N,
    win0_0.index t = ![t.val / 4, 0]
    ∧ win0_1.index t = ![t.val / 4, 0]
    ∧ win0_2.index t = ![0, t.val % 4]
    ∧ win0_3.index t = ![0, t.val % 4]
    ∧ win0_4.index t = ![t.val / 4, t.val % 4]
    ∧ win0_5.index t = ![t.val / 4, t.val % 4] :=
  (by decide +kernel : ∀ t : Fin grid0.N, _)

/-- The array's row and column of a block's. -/
abbrev rw0 (t : Fin cfg0.N) (r : Fin 1024) : Fin 16384 := ⟨1024 * (t.val / 4) + r, by have := lt_N0 t; omega⟩
abbrev cl0 (t : ℕ) (n : Fin 1024) : Fin 4096 := ⟨1024 * (t % 4) + n, by omega⟩

/-- The arguments the region finds, as plain functions. -/
abbrev A0 : FVec Ideal ⟨3, ![2, 8192, 4096]⟩ .f32 := m ((c : Thread nD τ).loc main_arg0)
abbrev A1 : FVec Ideal ⟨2, ![16384, 2048]⟩ .bf16 := m ((c : Thread nD τ).loc main_arg1)
abbrev A2 : FVec Ideal ⟨2, ![16384, 2048]⟩ .bf16 := m ((c : Thread nD τ).loc main_arg2)
abbrev A3 : FVec Ideal ⟨2, ![4096, 4096]⟩ .f32 := m ((c : Thread nD τ).loc main_arg3)
abbrev A4 : FVec Ideal ⟨3, ![2, 3, 4096]⟩ .f32 := m ((c : Thread nD τ).loc main_arg4)
abbrev A5 : FVec Ideal ⟨3, ![2, 3, 4096]⟩ .f32 := m ((c : Thread nD τ).loc main_arg5)

theorem entry_x (r : Fin 16384) (n : Fin 4096) :
    StableHlo.after hostOps0 (W0 m ρ c) (Proc.devRef .tc main_v0) (ix2 r n) = A0 m c (ix3 ⟨r.val / 8192, by omega⟩ ⟨r.val % 8192, by omega⟩ n) := by
  entry_read
  pointwise []

theorem entry_u (k : Fin 2048) (n : Fin 4096) :
    StableHlo.after hostOps0 (W0 m ρ c) (Proc.devRef .tc main_v2) (ix2 k n) = A3 m c (ix2 ⟨k.val, by omega⟩ n) := by
  entry_read
  pointwise []

theorem entry_w (k : Fin 2048) (n : Fin 4096) :
    StableHlo.after hostOps0 (W0 m ρ c) (Proc.devRef .tc main_v3) (ix2 k n) = A3 m c (ix2 ⟨2048 + k.val, by omega⟩ n) := by
  entry_read
  pointwise []

theorem p_read (r : Fin 1024) (k : Fin 2048) : iblk0 (V1 m ρ) c 0 t (ix2 r k) = A1 m c (ix2 (rw0 t r) k) := by
  blk_ext! [iblk0, idx0 t]

theorem q_read (r : Fin 1024) (k : Fin 2048) : iblk0 (V1 m ρ) c 1 t (ix2 r k) = A2 m c (ix2 (rw0 t r) k) := by
  blk_ext! [iblk0, idx0 t]

theorem u_read (k : Fin 2048) (n : Fin 1024) : iblk0 (V1 m ρ) c 2 t (ix2 k n) = A3 m c (ix2 ⟨k.val, by omega⟩ (cl0 t.val n)) := by
  refine Eq.trans ?_ (entry_u m ρ c k _)
  blk_ext! [iblk0, idx0 t]

theorem w_read (k : Fin 2048) (n : Fin 1024) : iblk0 (V1 m ρ) c 3 t (ix2 k n) = A3 m c (ix2 ⟨2048 + k.val, by omega⟩ (cl0 t.val n)) := by
  refine Eq.trans ?_ (entry_w m ρ c k _)
  blk_ext! [iblk0, idx0 t]

theorem x_read (r n : Fin 1024) : iblk0 (V1 m ρ) c 4 t (ix2 r n)
    = A0 m c (ix3 ⟨(rw0 t r).val / 8192, by omega⟩ ⟨(rw0 t r).val % 8192, by omega⟩ (cl0 t.val n)) := by
  refine Eq.trans ?_ (entry_x m ρ c (rw0 t r) _)
  blk_ext! [iblk0, idx0 t]

/-- What the first call leaves: the residual stream. -/
def OUT0 : FVec Ideal S16384x4096 .f32 := fun y => streamAt (A0 m c) (A1 m c) (A2 m c) (A3 m c) (y 0) (y 1)

theorem final0 : (dat0 (V1 m ρ) c).arrAt 5 cfg0.N = OUT0 m c := by
  refine (dat0 (V1 m ρ) c).arrAt_eq_of_covers 5 (OUT0 m c) (by decide +kernel) fun t hf y => ?_
  have hN := lt_N0 t
  blk_simp [idx0 t]
  rw [after0_5]
  have hy0 : (y 0 : ℕ) < 1024 := (y 0).isLt
  have hy1 : (y 1 : ℕ) < 1024 := (y 1).isLt
  have e0 : (win0_5.blk t).view.emb y 0 = rw0 t ⟨y 0, hy0⟩ := Fin.ext (by show ((win0_5.blk t).view.emb y 0 : ℕ) = 1024 * (t.val / 4) + (y 0 : ℕ); blk_simp [idx0 t]; omega)
  have e1 : (win0_5.blk t).view.emb y 1 = cl0 t ⟨y 1, hy1⟩ := Fin.ext (by show ((win0_5.blk t).view.emb y 1 : ℕ) = 1024 * (t.val % 4) + (y 1 : ℕ); blk_simp [idx0 t]; omega)
  frame_open
  frame_out
  refine (pay0_apply _ _ _ _ _ y).trans (Eq.symm ((congrArg₂ (streamAt _ _ _ _) e0 e1).trans ?_))
  exact congrArg₂ (· + ·) (congrArg (Ideal.ofBits .f32 0x3FB504F3#32 * ·) (x_read m ρ c t _ _).symm) (congrArg₂ (· + ·)
    (Finset.sum_congr rfl fun k _ => congrArg₂ (· * ·) (p_read m ρ c t _ k).symm (u_read m ρ c t k _).symm)
    (Finset.sum_congr rfl fun k _ => congrArg₂ (· * ·) (q_read m ρ c t _ k).symm (w_read m ρ c t k _).symm))

end Region0

section Region1

variable (t : Fin cfg1.N)

theorem lt_N1 : t.val < 64 := lt_of_lt_of_eq t.isLt N_1

theorem idx1 : ∀ t : Fin cfg1.N,
    win1_0.index t = ![t.val, 0]
    ∧ win1_1.index t = ![0, 0]
    ∧ win1_2.index t = ![0, 0]
    ∧ win1_3.index t = ![t.val, 0]
    ∧ win1_4.index t = ![t.val, 0] :=
  (by decide +kernel : ∀ t : Fin grid1.N, _)

/-- The array's row of a block's. -/
abbrev rw1 (t : Fin cfg1.N) (r : Fin 256) : Fin 16384 := ⟨256 * t.val + r, by have := lt_N1 t; omega⟩

theorem entry_v : V3 m ρ c main_v4 = OUT0 m c :=
  (W3_of m ρ c main_v4 (by decide)).trans ((W2_arr m ρ c 5).trans (final0 m ρ c))

theorem entry_g (n : Fin 4096) : StableHlo.after hostOps1 (W2 m ρ c) (Proc.devRef .tc main_v9) (ix2 0 n) = A4 m c (ix3 1 1 n) := by
  entry_read
  rw [W2_args m ρ c main_arg4 (by decide)]
  pointwise []

theorem entry_b (n : Fin 4096) : StableHlo.after hostOps1 (W2 m ρ c) (Proc.devRef .tc main_v10) (ix2 0 n) = A5 m c (ix3 1 1 n) := by
  entry_read
  rw [W2_args m ρ c main_arg5 (by decide)]
  pointwise []

theorem v_read (r : Fin 256) (n : Fin 4096) : iblk1 (V3 m ρ) c 0 t (ix2 r n) = streamAt (A0 m c) (A1 m c) (A2 m c) (A3 m c) (rw1 t r) n := by
  refine Eq.trans ?_ (congrFun (entry_v m ρ c) (ix2 (rw1 t r) n))
  blk_ext! [iblk1, idx1 t]

theorem g_read (n : Fin 4096) : iblk1 (V3 m ρ) c 1 t (ix2 0 n) = A4 m c (ix3 1 1 n) := by
  refine Eq.trans ?_ (entry_g m ρ c n)
  blk_ext! [iblk1, idx1 t]

theorem b_read (n : Fin 4096) : iblk1 (V3 m ρ) c 2 t (ix2 0 n) = A5 m c (ix3 1 1 n) := by
  refine Eq.trans ?_ (entry_b m ρ c n)
  blk_ext! [iblk1, idx1 t]

/-- The result array. -/
def OUT1 : FVec Ideal S16384x4096 .f32 := fun y => resAt (A0 m c) (A1 m c) (A2 m c) (A3 m c) (A4 m c) (A5 m c) (y 0) (y 1)

theorem final1 : (dat1 (V3 m ρ) c).arrAt 3 cfg1.N = OUT1 m c := by
  refine (dat1 (V3 m ρ) c).arrAt_eq_of_covers 3 (OUT1 m c) (by decide +kernel) fun t hf y => ?_
  have hN := lt_N1 t
  blk_simp [idx1 t]
  rw [after1_3]
  have hy0 : (y 0 : ℕ) < 256 := (y 0).isLt
  have hy1 : (y 1 : ℕ) < 4096 := (y 1).isLt
  have e0 : (win1_3.blk t).view.emb y 0 = rw1 t ⟨y 0, hy0⟩ := Fin.ext (by show ((win1_3.blk t).view.emb y 0 : ℕ) = 256 * t.val + (y 0 : ℕ); blk_simp [idx1 t]; omega)
  have e1 : (win1_3.blk t).view.emb y 1 = ⟨y 1, hy1⟩ := Fin.ext (by show ((win1_3.blk t).view.emb y 1 : ℕ) = (y 1 : ℕ); blk_simp [idx1 t])
  frame_open
  frame_out
  refine (pay1_apply _ _ _ y).trans (Eq.symm ((congrArg₂ (resAt _ _ _ _ _ _) e0 e1).trans ?_))
  unfold resAt
  refine congr (congr (congrArg₂ lnorm (funext fun n => (v_read m ρ c t _ n).symm) (g_read m ρ c t _).symm) (b_read m ρ c t _).symm) rfl

/-- The bfloat16 copy of the result. -/
def OUT2 : FVec Ideal S16384x4096 .bf16 := OUT1 m c

theorem final2 : (dat1 (V3 m ρ) c).arrAt 4 cfg1.N = OUT2 m c := by
  refine (dat1 (V3 m ρ) c).arrAt_eq_of_covers 4 (OUT2 m c) (by decide +kernel) fun t hf y => ?_
  have hN := lt_N1 t
  blk_simp [idx1 t]
  rw [after1_4]
  have hy0 : (y 0 : ℕ) < 256 := (y 0).isLt
  have hy1 : (y 1 : ℕ) < 4096 := (y 1).isLt
  have e0 : (win1_4.blk t).view.emb y 0 = rw1 t ⟨y 0, hy0⟩ := Fin.ext (by show ((win1_4.blk t).view.emb y 0 : ℕ) = 256 * t.val + (y 0 : ℕ); blk_simp [idx1 t]; omega)
  have e1 : (win1_4.blk t).view.emb y 1 = ⟨y 1, hy1⟩ := Fin.ext (by show ((win1_4.blk t).view.emb y 1 : ℕ) = (y 1 : ℕ); blk_simp [idx1 t])
  frame_open
  frame_out
  refine (pay2_apply _ _ _ y).trans (Eq.symm ((congrArg₂ (resAt _ _ _ _ _ _) e0 e1).trans ?_))
  unfold resAt
  refine congr (congr (congrArg₂ lnorm (funext fun n => (v_read m ρ c t _ n).symm) (g_read m ρ c t _).symm) (b_read m ρ c t _).symm) rfl

end Region1

end Kernel

section Ref

open Cert.Reference4Ideal Cert.Reference4Ideal.Gen

theorem frame_reference : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

/-- The reference's residual stream and its normalisation, as the program composes them. -/
def refStream (x : FVec Ideal S2x8192x4096 .f32) (p q : FVec Ideal S16384x2048 .bf16) (w : FVec Ideal S4096x4096 .f32) : FVec Ideal S2x8192x4096 .f32 :=
  addf (mulf (broadcastInDim S2x8192x4096 ![] bcast_S_S2x8192x4096 (constant S_ .f32 0x3FB504F3#32)) x)
    (Host.dotGeneral dot_S2x8192x4096_S4096x4096_S2x8192x4096_2_0_01_1_n_n none
      (shapeCast _ (extf .f32 (concatenate S16384x4096 1 [⟨S16384x2048, p⟩, ⟨S16384x2048, q⟩] concatenates_S16384x2048_S16384x2048_S16384x4096_d1) bitsLt_bf16_f32) shapeCasts_S16384x4096_S2x8192x4096) w)

theorem refStream_apply (x : FVec Ideal S2x8192x4096 .f32) (p q : FVec Ideal S16384x2048 .bf16) (w : FVec Ideal S4096x4096 .f32)
    (r : Fin 16384) (n : Fin 4096) :
    refStream x p q w (ix3 ⟨r.val / 8192, by omega⟩ ⟨r.val % 8192, by omega⟩ n) = streamAt x p q w r n := by
  have e : (⟨r.val / 8192 * 8192 + r.val % 8192, by omega⟩ : Fin 16384) = r := Fin.ext (by show r.val / 8192 * 8192 + r.val % 8192 = r.val; omega)
  unfold streamAt
  pointwise [refStream]

def refMean (v : FVec Ideal S2x8192x4096 .f32) : FVec Ideal S2x8192x1 .f32 :=
  Host.divf (broadcastInDim S2x8192x1 ![0, 1] bcast_S2x8192_S2x8192x1_0_1 (Host.reduceAdd v (constant S_ .f32 0x00000000#32) reducesTo_S2x8192x4096_S2x8192_d2 h_S_))
    (broadcastInDim S2x8192x1 ![] bcast_S_S2x8192x1 (constant S_ .f32 0x45800000#32))

def refNorm (v : FVec Ideal S2x8192x4096 .f32) (g b : FVec Ideal S2x3x4096 .f32) : FVec Ideal S16384x4096 .f32 :=
  shapeCast _ (addf (mulf (mulf (subf v (broadcastInDim S2x8192x4096 ![0, 1, 2] bcast_S2x8192x1_S2x8192x4096_0_1_2 (refMean v)))
      (broadcastInDim S2x8192x4096 ![0, 1, 2] bcast_S2x8192x1_S2x8192x4096_0_1_2 (Host.rsqrt (addf
        (refMean (mulf (subf v (broadcastInDim S2x8192x4096 ![0, 1, 2] bcast_S2x8192x1_S2x8192x4096_0_1_2 (refMean v))) (subf v (broadcastInDim S2x8192x4096 ![0, 1, 2] bcast_S2x8192x1_S2x8192x4096_0_1_2 (refMean v)))))
        (broadcastInDim S2x8192x1 ![] bcast_S_S2x8192x1 (constant S_ .f32 0x3727C5AC#32))))))
      (broadcastInDim S2x8192x4096 ![0, 1, 2] bcast_S1x1x4096_S2x8192x4096_0_1_2 (broadcastInDim S1x1x4096 ![2] bcast_S4096_S1x1x4096_2 (shapeCast _ (extractStridedSlice S1x1x4096 ![1, 1, 0] g slices_S2x3x4096_S1x1x4096_1_1_0) shapeCasts_S1x1x4096_S4096))))
    (broadcastInDim S2x8192x4096 ![0, 1, 2] bcast_S1x1x4096_S2x8192x4096_0_1_2 (broadcastInDim S1x1x4096 ![2] bcast_S4096_S1x1x4096_2 (shapeCast _ (extractStridedSlice S1x1x4096 ![1, 1, 0] b slices_S2x3x4096_S1x1x4096_1_1_0) shapeCasts_S1x1x4096_S4096)))) shapeCasts_S2x8192x4096_S16384x4096

theorem refNorm_apply (v : FVec Ideal S2x8192x4096 .f32) (g b : FVec Ideal S2x3x4096 .f32) (y : S16384x4096.Idx) :
    refNorm v g b y = lnorm (fun n => v (ix3 ⟨(y 0).val / 8192, Nat.div_lt_of_lt_mul (y 0).isLt⟩ ⟨(y 0).val % 8192, Nat.mod_lt _ (by decide)⟩ n)) (g (ix3 1 1 (y 1))) (b (ix3 1 1 (y 1))) (y 1) := by
  unfold lnorm var mean
  pointwise [refNorm, refMean]

theorem copy_apply (v : FVec Ideal S16384x4096 .f32) (y : S16384x4096.Idx) : truncf .bf16 v bitsLt_bf16_f32 y = v y := by
  pointwise []

theorem algebraic : Cert.algebraic_Kernel4Ideal_Reference4Ideal (hKernel4Ideal := Cert.Kernel4Ideal.Gen.facts)
    (hReference4Ideal := Cert.Reference4Ideal.Gen.facts) := by
  intro m g m' g' hpre hag
  refine ⟨fun c => OUT1 m c, fun c => OUT2 m c, ?_, ?_⟩
  · exact (θ_run Cert.Kernel4Ideal.defs _ _).mono (fun _ h c => ⟨(h c).1.trans (final1 m g c), (h c).2.1.trans (final2 m g c), (h c).2.2⟩) (run m g)
  · have hr : ∀ c : Dev nD, Cert.Reference4Ideal.Value.res_main_v35 m' c = OUT1 m c := by
      intro c
      obtain ⟨e0, e1, e2, e3, e4, e5⟩ := hag c
      have f0 : m' ((c.tc : Thread nD τ).loc main_arg0) = A0 m c := e0
      have f1 : m' ((c.tc : Thread nD τ).loc main_arg1) = A1 m c := e1
      have f2 : m' ((c.tc : Thread nD τ).loc main_arg2) = A2 m c := e2
      have f3 : m' ((c.tc : Thread nD τ).loc main_arg3) = A3 m c := e3
      have f4 : m' ((c.tc : Thread nD τ).loc main_arg4) = A4 m c := e4
      have f5 : m' ((c.tc : Thread nD τ).loc main_arg5) = A5 m c := e5
      have h : Cert.Reference4Ideal.Value.res_main_v35 m' c = refNorm (refStream (A0 m c) (A1 m c) (A2 m c) (A3 m c)) (A4 m c) (A5 m c) := by
        unfold Cert.Reference4Ideal.Value.res_main_v35
        rw [f0, f1, f2, f3, f4, f5]
        rfl
      refine h.trans (funext fun y => (refNorm_apply _ _ _ y).trans ?_)
      show lnorm _ _ _ _ = lnorm _ _ _ _
      exact congr (congr (congrArg₂ lnorm (funext fun n => refStream_apply _ _ _ _ (y 0) n) rfl) rfl) rfl
    have hb : ∀ c : Dev nD, Cert.Reference4Ideal.Value.res_main_v36 m' c = OUT2 m c := fun c => funext fun y =>
      (copy_apply (Cert.Reference4Ideal.Value.res_main_v35 m' c) y).trans (congrFun (hr c) y)
    exact (θ_run Cert.Reference4Ideal.defs _ _).mono (fun _ h c => ⟨(h c).1.trans (hr c), (h c).2.1.trans (hb c), (h c).2.2⟩) (Cert.Reference4Ideal.Value.run (F := Ideal) m' g')

end Ref

end Cert.Proof.MixOut
end
-- ==== Proof.MixIn.lean ====
/- A mixer's input projection with the short convolution and the forget gate that follow it: the kernel's result arrays
   over its three calls, and the reference's. -/
module

public import proofs.«01_k».proof.Defs
public import proofs.«01_k».proof.Proof.Gen.Kernel5Ideal.Frame
public import proofs.«01_k».proof.Proof.Gen.Reference5Ideal.Run
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MixIn

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

/-- The projection at a row (of both batches in turn) and a column. -/
def zAt (x : FVec Ideal ⟨3, ![2, 8192, 4096]⟩ .f32) (w : FVec Ideal ⟨2, ![4096, 12304]⟩ .f32) (r : Fin 16384) (n : Fin 12304) : EReal :=
  ∑ k : Fin 4096, x (ix3 ⟨r.val / 8192, by omega⟩ ⟨r.val % 8192, by omega⟩ k) * w (ix2 k n)

/-- What the convolution runs over: the product of two columns of the projection. -/
def uAt (z : Fin 16384 → Fin 12304 → EReal) (r : Fin 16384) (n : Fin 2048) : EReal :=
  z r ⟨2048 + n.val, by omega⟩ * z r ⟨4096 + n.val, by omega⟩

/-- The same `d` positions back in its batch, zero before the first. -/
def backAt (z : Fin 16384 → Fin 12304 → EReal) (d : ℕ) (r : Fin 16384) (n : Fin 2048) : EReal :=
  if r.val % 8192 < d then 0 else uAt z ⟨r.val - d, by omega⟩ n

/-- The convolution's result, gated. -/
def convAt (z : Fin 16384 → Fin 12304 → EReal) (w : FVec Ideal ⟨2, ![3, 2048]⟩ .f32) (r : Fin 16384) (n : Fin 2048) : EReal :=
  z r ⟨n.val, by omega⟩ * (w (ix2 0 n) * backAt z 2 r n + w (ix2 1 n) * backAt z 1 r n + w (ix2 2 n) * uAt z r n)

/-- The forget gate's log decay from the value before the sigmoid. -/
def decay (p : EReal) : EReal :=
  Ideal.div (0 - (max (0 - p) 0 + Ideal.log1p (Ideal.exp (0 - FloatOps.absf (F := Ideal) (φ := .f32) p)))) (Ideal.ofBits .f32 0x41800000#32)

/-- The value before the sigmoid: the low-rank columns of the projection taken up to the heads' decays. -/
def preAt (z : Fin 16384 → Fin 12304 → EReal) (w : FVec Ideal ⟨2, ![16, 1024]⟩ .f32) (b : FVec Ideal ⟨1, ![1024]⟩ .f32) (r : Fin 16384) (n : Fin 1024) : EReal :=
  (∑ j : Fin 16, z r ⟨12288 + j.val, by omega⟩ * w (ix2 j n)) + b (ix1 n)

/-- A two-axis position is the pair of its coordinates. -/
theorem eq_ix2 {a b : ℕ} (y : (⟨2, ![a, b]⟩ : Shape).Idx) : y = ix2 (y 0) (y 1) := by
  funext d
  fin_cases d <;> rfl

section Kernel

open Cert.Kernel5Ideal Cert.Kernel5Ideal.Gen

theorem pay0_apply (x : Vec Ideal S1024x4096 .bf16) (w : Vec Ideal S1x4096x1024 .bf16) (y : S1024x1024.Idx) :
    k0_pay1 x w y = ∑ k : Fin 4096, x (ix2 (y 0) k) * w (ix3 0 k (y 1)) := by
  pointwise [k0_pay1]

theorem pay1_apply (x : Vec Ideal S1024x4096 .bf16) (w : Vec Ideal S4096x128 .bf16) (v : Vec Ideal S128x1024 .bf16) (b : Vec Ideal S1x1024 .f32) (y : S1024x1024.Idx) :
    k1_pay1 x w v b y = decay ((∑ j : Fin 128, (∑ k : Fin 4096, x (ix2 (y 0) k) * w (ix2 k j)) * v (ix2 j (y 1))) + b (ix2 0 (y 1))) := by
  unfold decay
  pointwise [k1_pay1]

theorem first_tile (n : Fin 32) :
    Scalar.cmpi CmpIPredicate.eq
        (Scalar.select
          (Scalar.andi
            (Scalar.xori
              (Scalar.cmpi CmpIPredicate.slt
                (Scalar.remsi (BitVec.ofNat 32 n.val) (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (Scalar.cmpi CmpIPredicate.ne
              (Scalar.remsi (BitVec.ofNat 32 n.val) (Scalar.select (Scalar.cmpi CmpIPredicate.eq 16#32 0#32) 1#32 16#32))
              0#32))
          (Scalar.addi
            (Scalar.remsi (BitVec.ofNat 32 n.val) (Scalar.select (Scalar.cmpi CmpIPredicate.eq 16#32 0#32) 1#32 16#32))
            (Scalar.select (Scalar.cmpi CmpIPredicate.eq 16#32 0#32) 1#32 16#32))
          (Scalar.remsi (BitVec.ofNat 32 n.val) (Scalar.select (Scalar.cmpi CmpIPredicate.eq 16#32 0#32) 1#32 16#32)))
        0#32 = if n.val % 16 = 0 then 1#1 else 0#1 := by
  revert n
  decide +kernel

theorem row_zero (r : Fin 512) : IntOp.cmpi CmpIPredicate.eq (BitVec.ofNat 32 r.val) 0#32 = if r.val = 0 then 1#1 else 0#1 := by
  revert r
  decide +kernel

theorem row_one (r : Fin 512) : IntOp.cmpi CmpIPredicate.eq (BitVec.ofNat 32 r.val) 1#32 = if r.val = 1 then 1#1 else 0#1 := by
  revert r
  decide +kernel

theorem no_word : FloatOps.sitofp (F := Ideal) FTy.f32 0#32 = (0 : EReal) := by
  show (((0#32).toInt : ℝ) : EReal) = 0
  simp

theorem select_if {α : Type} (p : Prop) [Decidable p] (a b : α) : Scalar.select (if p then 1#1 else 0#1) a b = if p then a else b := by
  by_cases h : p <;> simp [h, Scalar.select]

/-- The eight rows before a tile: empty at a batch's first tile. -/
theorem pay3_apply (i : grid2.Coords) (a b : Vec Ideal S8x512 .f32) (y : S8x512.Idx) :
    k2_pay3 i a b y = if (i 0).val % 16 = 0 then 0 else a y * b y := by
  pointwise [k2_pay3]
  exact (congrArg (fun v => Scalar.select v _ _) (first_tile (i 0))).trans (select_if _ _ _)

/-- The tile's product one and two rows back. -/
theorem pay4_apply (i : grid2.Coords) (g h : Vec Ideal S512x512 .f32) (a b : Vec Ideal S8x512 .f32) (r n : Fin 512) :
    k2_pay4 i g h a b (ix2 r n) = if r.val = 0 then (if (i 0).val % 16 = 0 then 0 else a (ix2 7 n) * b (ix2 7 n))
      else g (ix2 ⟨r.val - 1, by omega⟩ n) * h (ix2 ⟨r.val - 1, by omega⟩ n) := by
  pointwise [k2_pay4, k2_pay2]
  refine (congrArg (fun v => Scalar.select v _ _) (row_zero r)).trans ((select_if _ _ _).trans ?_)
  show (if r.val = 0 then _ else _) = _
  by_cases hr : r.val = 0
  · rw [if_pos hr, if_pos hr, pay3_apply]
  · have e : (⟨(r.val + 512 - 1) % 512, Nat.mod_lt _ (by decide)⟩ : Fin 512) = ⟨r.val - 1, by omega⟩ := Fin.ext (by show (r.val + 512 - 1) % 512 = r.val - 1; omega)
    rw [if_neg hr, if_neg hr]
    simp only [e]

theorem pay1c_apply (i : grid2.Coords) (x g h : Vec Ideal S512x512 .f32) (a b : Vec Ideal S8x512 .f32) (w : Vec Ideal S3x512 .f32) (r n : Fin 512) :
    k2_pay1 (k2_pay2 g h) (k2_pay4 i g h a b) k2_pay5 (k2_pay6 i a b) k2_pay7 (k2_pay8 i a b) 2#32 w x (ix2 r n)
      = x (ix2 r n) * (w (ix2 0 n) * (if r.val < 2 then (if (i 0).val % 16 = 0 then 0 else a (ix2 ⟨6 + r.val % 2, by omega⟩ n) * b (ix2 ⟨6 + r.val % 2, by omega⟩ n))
            else g (ix2 ⟨r.val - 2, by omega⟩ n) * h (ix2 ⟨r.val - 2, by omega⟩ n))
          + w (ix2 1 n) * (if r.val = 0 then (if (i 0).val % 16 = 0 then 0 else a (ix2 7 n) * b (ix2 7 n))
            else g (ix2 ⟨r.val - 1, by omega⟩ n) * h (ix2 ⟨r.val - 1, by omega⟩ n))
          + w (ix2 2 n) * (g (ix2 r n) * h (ix2 r n))) := by
  pointwise [k2_pay1, k2_pay2, k2_pay5, k2_pay6, k2_pay7, k2_pay8]
  refine congrArg (x (ix2 r n) * ·) (congrArg (· + w (ix2 2 n) * (g (ix2 r n) * h (ix2 r n)))
    (congrArg₂ (· + ·) (congrArg (w (ix2 0 n) * ·) ?_) (congrArg (w (ix2 1 n) * ·) (pay4_apply i g h a b r n))))
  rw [row_zero, row_one, select_if, select_if, pay3_apply, pay3_apply]
  by_cases h0 : r.val = 0
  · have e : (⟨6 + r.val % 2, by omega⟩ : Fin 8) = 6 := Fin.ext (by show 6 + r.val % 2 = 6; omega)
    rw [if_pos h0, if_pos (show r.val < 2 by omega), e]
  · by_cases h1 : r.val = 1
    · have e : (⟨6 + r.val % 2, by omega⟩ : Fin 8) = 7 := Fin.ext (by show 6 + r.val % 2 = 7; omega)
      rw [if_neg h0, if_pos h1, if_pos (show r.val < 2 by omega), e]
    · have e : (⟨(r.val + 512 - 2) % 512, Nat.mod_lt _ (by decide)⟩ : Fin 512) = ⟨r.val - 2, by omega⟩ := Fin.ext (by show (r.val + 512 - 2) % 512 = r.val - 2; omega)
      rw [if_neg h0, if_neg h1, if_neg (show ¬ r.val < 2 by omega), ← e]

variable (m : (ℓ : Loc nD τ sig) → Buf (Elt Ideal) ℓ) (ρ : Dev nD → PrngReg) (c : Dev nD)

set_option backward.isDefEq.respectTransparency.types false in
/-- The program's run: the results are what the calls' write-backs leave, the arguments are as launched. -/
theorem run : θ_run defs (onTc (τ := τ) (main (F := Ideal))) ⟨m, fun _ => 0, ρ⟩ (fun r => ∀ c : Dev nD,
      r.2.mem ((c.tc : Thread nD τ).loc main_v13) = (dat2 (V8 m ρ) c).arrAt 6 cfg2.N
      ∧ r.2.mem ((c.tc : Thread nD τ).loc main_v5) = (dat0 (V1 m ρ) c).arrAt 2 cfg0.N
      ∧ r.2.mem ((c.tc : Thread nD τ).loc main_v12) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨(h c _ (mem_uc main_v13 (by decide))).trans (W9_arr m ρ c 6),
       (h c _ (mem_uc main_v5 (by decide))).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_arr m ρ c 2)))))))),
       (h c _ (mem_uc main_v12 (by decide))).trans ((W9_of m ρ c main_v12 (by decide)).trans (W8_arr m ρ c 4)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

/-- The arguments, as plain functions. -/
abbrev A0 : FVec Ideal ⟨3, ![2, 8192, 4096]⟩ .f32 := m ((c : Thread nD τ).loc main_arg0)
abbrev A1 : FVec Ideal ⟨2, ![4096, 12304]⟩ .f32 := m ((c : Thread nD τ).loc main_arg1)
abbrev A2 : FVec Ideal ⟨2, ![3, 2048]⟩ .f32 := m ((c : Thread nD τ).loc main_arg2)
abbrev A3 : FVec Ideal ⟨2, ![16, 1024]⟩ .f32 := m ((c : Thread nD τ).loc main_arg3)
abbrev A4 : FVec Ideal ⟨1, ![1024]⟩ .f32 := m ((c : Thread nD τ).loc main_arg4)

theorem entry_x (r : Fin 16384) (n : Fin 4096) :
    StableHlo.after hostOps0 (W0 m ρ c) (Proc.devRef .tc main_v1) (ix2 r n) = A0 m c (ix3 ⟨r.val / 8192, by omega⟩ ⟨r.val % 8192, by omega⟩ n) := by
  entry_read
  pointwise []

section Region0

variable (t : Fin cfg0.N)

theorem lt_N0 : t.val < 192 := lt_of_lt_of_eq t.isLt N_0

theorem idx0 : ∀ t : Fin cfg0.N,
    win0_0.index t = ![t.val / 12, 0]
    ∧ win0_1.index t = ![0, 0, t.val % 12]
    ∧ win0_2.index t = ![t.val / 12, t.val % 12] :=
  (by decide +kernel : ∀ t : Fin grid0.N, _)

/-- The array's row and column of a block's. -/
abbrev rw0 (t : Fin cfg0.N) (r : Fin 1024) : Fin 16384 := ⟨1024 * (t.val / 12) + r, by have := lt_N0 t; omega⟩
abbrev cl0 (t : ℕ) (n : Fin 1024) : Fin 12288 := ⟨1024 * (t % 12) + n, by omega⟩

theorem entry_w (k : Fin 4096) (n : Fin 12288) :
    StableHlo.after hostOps0 (W0 m ρ c) (Proc.devRef .tc main_v4) (ix3 0 k n) = A1 m c (ix2 k ⟨n.val, by omega⟩) := by
  entry_read
  pointwise []

theorem x_read (r : Fin 1024) (k : Fin 4096) : iblk0 (V1 m ρ) c 0 t (ix2 r k)
    = A0 m c (ix3 ⟨(rw0 t r).val / 8192, by omega⟩ ⟨(rw0 t r).val % 8192, by omega⟩ k) := by
  refine Eq.trans ?_ (entry_x m ρ c (rw0 t r) _)
  blk_ext! [iblk0, idx0 t]

theorem w_read (k : Fin 4096) (n : Fin 1024) : iblk0 (V1 m ρ) c 1 t (ix3 0 k n) = A1 m c (ix2 k ⟨(cl0 t.val n).val, by omega⟩) := by
  refine Eq.trans ?_ (entry_w m ρ c k _)
  blk_ext! [iblk0, idx0 t]

/-- What the first call leaves: the projection without its last columns. -/
def OUT0 : FVec Ideal S16384x12288 .f32 := fun y => zAt (A0 m c) (A1 m c) (y 0) ⟨(y 1).val, Nat.lt_of_lt_of_le (y 1).isLt (by decide)⟩

theorem final0 : (dat0 (V1 m ρ) c).arrAt 2 cfg0.N = OUT0 m c := by
  refine (dat0 (V1 m ρ) c).arrAt_eq_of_covers 2 (OUT0 m c) (by decide +kernel) fun t hf y => ?_
  have hN := lt_N0 t
  blk_simp [idx0 t]
  rw [after0_2]
  have hy0 : (y 0 : ℕ) < 1024 := (y 0).isLt
  have hy1 : (y 1 : ℕ) < 1024 := (y 1).isLt
  have e0 : (win0_2.blk t).view.emb y 0 = rw0 t ⟨y 0, hy0⟩ := Fin.ext (by show ((win0_2.blk t).view.emb y 0 : ℕ) = 1024 * (t.val / 12) + (y 0 : ℕ); blk_simp [idx0 t]; omega)
  have e1 : (⟨((win0_2.blk t).view.emb y 1).val, Nat.lt_of_lt_of_le ((win0_2.blk t).view.emb y 1).isLt (show 12288 ≤ 12304 by decide)⟩ : Fin 12304) = ⟨(cl0 t ⟨y 1, hy1⟩).val, by omega⟩ :=
    Fin.ext (by show ((win0_2.blk t).view.emb y 1 : ℕ) = 1024 * (t.val % 12) + (y 1 : ℕ); blk_simp [idx0 t]; omega)
  frame_open
  frame_out
  refine (pay0_apply _ _ y).trans (Eq.symm ((congrArg₂ (zAt _ _) e0 e1).trans ?_))
  exact Finset.sum_congr rfl fun k _ => congrArg₂ (· * ·) (x_read m ρ c t _ k).symm (w_read m ρ c t k _).symm

end Region0

section Region1

variable (t : Fin cfg1.N)

theorem lt_N1 : t.val < 16 := lt_of_lt_of_eq t.isLt N_1

theorem idx1 : ∀ t : Fin cfg1.N,
    win1_0.index t = ![t.val, 0]
    ∧ win1_1.index t = ![0, 0]
    ∧ win1_2.index t = ![0, 0]
    ∧ win1_3.index t = ![0, 0]
    ∧ win1_4.index t = ![t.val, 0] :=
  (by decide +kernel : ∀ t : Fin grid1.N, _)

/-- The array's row of a block's. -/
abbrev rw1 (t : Fin cfg1.N) (r : Fin 1024) : Fin 16384 := ⟨1024 * t.val + r, by have := lt_N1 t; omega⟩

theorem entry_za (k : Fin 4096) (j : Fin 128) :
    W7 m ρ c (Proc.devRef .tc main_v8) (ix2 k j) = if h : j.val < 16 then A1 m c (ix2 k ⟨12288 + j.val, by omega⟩) else 0 := by
  rw [W7_of m ρ c main_v8 (by decide), W6_of m ρ c main_v8 (by decide)]
  show StableHlo.after hostOps1_2 (W4 m ρ c) (Proc.devRef .tc main_v8) (ix2 k j) = _
  entry_read
  simp only [StableHlo.TRef.toBuf, StableHlo.TRef.ofBuf, cast_eq]
  rw [W2_args m ρ c main_arg1 (by decide)]
  pointwise []
  rw [no_word]

theorem entry_a2 (j : Fin 128) (n : Fin 1024) :
    W7 m ρ c (Proc.devRef .tc main_v10) (ix2 j n) = if h : j.val < 16 then A3 m c (ix2 ⟨j.val, h⟩ n) else 0 := by
  show StableHlo.after hostOps1_4 (W6 m ρ c) (Proc.devRef .tc main_v10) (ix2 j n) = _
  entry_read
  simp only [StableHlo.TRef.toBuf, StableHlo.TRef.ofBuf, cast_eq]
  rw [W2_args m ρ c main_arg3 (by decide)]
  pointwise []
  rw [no_word]

theorem entry_b (n : Fin 1024) : W7 m ρ c (Proc.devRef .tc main_v11) (ix2 0 n) = A4 m c (ix1 n) := by
  show StableHlo.after hostOps1_4 (W6 m ρ c) (Proc.devRef .tc main_v11) (ix2 0 n) = _
  entry_read
  rw [W2_args m ρ c main_arg4 (by decide)]
  pointwise []

theorem entry_x1 : V7 m ρ c main_v1 = StableHlo.after hostOps0 (W0 m ρ c) (Proc.devRef .tc main_v1) :=
  (W7_of m ρ c main_v1 (by decide)).trans ((W6_of m ρ c main_v1 (by decide)).trans ((W5_of m ρ c main_v1 (by decide)).trans
    ((W4_of m ρ c main_v1 (by decide)).trans ((W3_of m ρ c main_v1 (by decide)).trans (W2_of m ρ c main_v1 (by decide))))))

theorem x1_read (r : Fin 1024) (k : Fin 4096) : iblk1 (V7 m ρ) c 0 t (ix2 r k)
    = A0 m c (ix3 ⟨(rw1 t r).val / 8192, by omega⟩ ⟨(rw1 t r).val % 8192, by omega⟩ k) := by
  refine Eq.trans ?_ ((congrFun (entry_x1 m ρ c) (ix2 (rw1 t r) k)).trans (entry_x m ρ c (rw1 t r) _))
  blk_ext! [iblk1, idx1 t]

theorem za_read (k : Fin 4096) (j : Fin 128) : iblk1 (V7 m ρ) c 1 t (ix2 k j) = if h : j.val < 16 then A1 m c (ix2 k ⟨12288 + j.val, by omega⟩) else 0 := by
  refine Eq.trans ?_ (entry_za m ρ c k j)
  blk_ext! [iblk1, idx1 t]

theorem a2_read (j : Fin 128) (n : Fin 1024) : iblk1 (V7 m ρ) c 2 t (ix2 j n) = if h : j.val < 16 then A3 m c (ix2 ⟨j.val, h⟩ n) else 0 := by
  refine Eq.trans ?_ (entry_a2 m ρ c j n)
  blk_ext! [iblk1, idx1 t]

theorem b_read (n : Fin 1024) : iblk1 (V7 m ρ) c 3 t (ix2 0 n) = A4 m c (ix1 n) := by
  refine Eq.trans ?_ (entry_b m ρ c n)
  blk_ext! [iblk1, idx1 t]

/-- A sum over the padded columns is the one over the columns there are. -/
theorem sum_pad (f : Fin 128 → EReal) (g : Fin 16 → EReal) (hf : ∀ j : Fin 128, f j = if h : j.val < 16 then g ⟨j.val, h⟩ else 0) :
    ∑ j, f j = ∑ j, g j := by
  rw [show (∑ j, f j) = ∑ j : Fin (16 + 112), f j from rfl, Fin.sum_univ_add]
  rw [Finset.sum_congr rfl fun (j : Fin 16) _ => (hf (Fin.castAdd 112 j)).trans (dif_pos j.isLt),
    Finset.sum_congr rfl fun (j : Fin 112) _ => (hf (Fin.natAdd 16 j)).trans (dif_neg (by simp))]
  simp

/-- What the second call leaves: the log decays. -/
def OUT1 : FVec Ideal S16384x1024 .f32 := fun y => decay (preAt (zAt (A0 m c) (A1 m c)) (A3 m c) (A4 m c) (y 0) (y 1))

theorem final1 : (dat1 (V7 m ρ) c).arrAt 4 cfg1.N = OUT1 m c := by
  refine (dat1 (V7 m ρ) c).arrAt_eq_of_covers 4 (OUT1 m c) (by decide +kernel) fun t hf y => ?_
  have hN := lt_N1 t
  blk_simp [idx1 t]
  rw [after1_4]
  have hy0 : (y 0 : ℕ) < 1024 := (y 0).isLt
  have hy1 : (y 1 : ℕ) < 1024 := (y 1).isLt
  have e0 : (win1_4.blk t).view.emb y 0 = rw1 t ⟨y 0, hy0⟩ := Fin.ext (by show ((win1_4.blk t).view.emb y 0 : ℕ) = 1024 * t.val + (y 0 : ℕ); blk_simp [idx1 t]; omega)
  have e1 : (win1_4.blk t).view.emb y 1 = ⟨y 1, hy1⟩ := Fin.ext (by show ((win1_4.blk t).view.emb y 1 : ℕ) = (y 1 : ℕ); blk_simp [idx1 t])
  frame_open
  frame_out
  refine (pay1_apply _ _ _ _ y).trans (Eq.symm ((congrArg decay (congrArg₂ (preAt _ _ _) e0 e1)).trans (congrArg decay (Eq.symm ?_))))
  unfold preAt
  refine congrArg₂ (· + ·) (sum_pad _ (fun j : Fin 16 => zAt (A0 m c) (A1 m c) (rw1 t ⟨y 0, hy0⟩) ⟨12288 + j.val, by omega⟩ * A3 m c (ix2 j ⟨y 1, hy1⟩)) fun j => ?_) (b_read m ρ c t ⟨y 1, hy1⟩)
  by_cases hj : j.val < 16
  · refine Eq.trans ?_ (dif_pos hj).symm
    exact congrArg₂ (· * ·) (Finset.sum_congr rfl fun k _ => congrArg₂ (· * ·) (x1_read m ρ c t ⟨y 0, hy0⟩ k) ((za_read m ρ c t k j).trans (dif_pos hj)))
      ((a2_read m ρ c t j ⟨y 1, hy1⟩).trans (dif_pos hj))
  · refine Eq.trans ?_ (dif_neg hj).symm
    exact (congrArg (_ * ·) ((a2_read m ρ c t j ⟨y 1, hy1⟩).trans (dif_neg hj))).trans (mul_zero _)

end Region1

section Region2

variable (t : Fin cfg2.N)

theorem lt_N2 : t.val < 128 := lt_of_lt_of_eq t.isLt N_2

theorem idx2 : ∀ t : Fin cfg2.N,
    win2_0.index t = ![t.val / 4, t.val % 4]
    ∧ win2_1.index t = ![t.val / 4, 4 + t.val % 4]
    ∧ win2_2.index t = ![t.val / 4, 8 + t.val % 4]
    ∧ win2_3.index t = ![t.val / 4 * 64 - 1, 4 + t.val % 4]
    ∧ win2_4.index t = ![t.val / 4 * 64 - 1, 8 + t.val % 4]
    ∧ win2_5.index t = ![0, t.val % 4]
    ∧ win2_6.index t = ![t.val / 4, t.val % 4] :=
  (by decide +kernel : ∀ t : Fin grid2.N, _)

theorem tile2 : ∀ t : Fin cfg2.N, (grid2.coords t 0).val = t.val / 4 := (by decide +kernel : ∀ t : Fin grid2.N, _)

/-- The array's row and column of a block's. -/
abbrev rw2 (t : Fin cfg2.N) (r : Fin 512) : Fin 16384 := ⟨512 * (t.val / 4) + r, by have := lt_N2 t; omega⟩
abbrev cl2 (t : ℕ) (n : Fin 512) : Fin 2048 := ⟨512 * (t % 4) + n, by omega⟩

theorem entry_z : V8 m ρ c main_v5 = OUT0 m c :=
  (W8_of m ρ c main_v5 (by decide)).trans ((W7_of m ρ c main_v5 (by decide)).trans ((W6_of m ρ c main_v5 (by decide)).trans ((W5_of m ρ c main_v5 (by decide)).trans
    ((W4_of m ρ c main_v5 (by decide)).trans ((W3_of m ρ c main_v5 (by decide)).trans ((W2_arr m ρ c 2).trans (final0 m ρ c)))))))

theorem gb_read (r n : Fin 512) : iblk2 (V8 m ρ) c 0 t (ix2 r n) = zAt (A0 m c) (A1 m c) (rw2 t r) ⟨(cl2 t.val n).val, by omega⟩ := by
  have hN := lt_N2 t
  refine Eq.trans ?_ (congrFun (entry_z m ρ c) (ix2 (rw2 t r) ⟨512 * (t.val % 4) + n.val, by omega⟩))
  blk_ext! [iblk2, idx2 t]

theorem g_read (r n : Fin 512) : iblk2 (V8 m ρ) c 1 t (ix2 r n) = zAt (A0 m c) (A1 m c) (rw2 t r) ⟨2048 + (cl2 t.val n).val, by omega⟩ := by
  have hN := lt_N2 t
  refine Eq.trans ?_ (congrFun (entry_z m ρ c) (ix2 (rw2 t r) ⟨2048 + (512 * (t.val % 4) + n.val), by omega⟩))
  blk_ext! [iblk2, idx2 t]

theorem h_read (r n : Fin 512) : iblk2 (V8 m ρ) c 2 t (ix2 r n) = zAt (A0 m c) (A1 m c) (rw2 t r) ⟨4096 + (cl2 t.val n).val, by omega⟩ := by
  have hN := lt_N2 t
  refine Eq.trans ?_ (congrFun (entry_z m ρ c) (ix2 (rw2 t r) ⟨4096 + (512 * (t.val % 4) + n.val), by omega⟩))
  blk_ext! [iblk2, idx2 t]

/-- The array's row of one of the eight rows before a tile. -/
abbrev before2 (t : Fin cfg2.N) (q : Fin 8) : Fin 16384 := ⟨8 * (t.val / 4 * 64 - 1) + q, by have := lt_N2 t; omega⟩

theorem gp_read (q : Fin 8) (n : Fin 512) : iblk2 (V8 m ρ) c 3 t (ix2 q n) = zAt (A0 m c) (A1 m c) (before2 t q) ⟨2048 + (cl2 t.val n).val, by omega⟩ := by
  have hN := lt_N2 t
  refine Eq.trans ?_ (congrFun (entry_z m ρ c) (ix2 (before2 t q) ⟨2048 + (512 * (t.val % 4) + n.val), by omega⟩))
  blk_ext! [iblk2, idx2 t]

theorem hp_read (q : Fin 8) (n : Fin 512) : iblk2 (V8 m ρ) c 4 t (ix2 q n) = zAt (A0 m c) (A1 m c) (before2 t q) ⟨4096 + (cl2 t.val n).val, by omega⟩ := by
  have hN := lt_N2 t
  refine Eq.trans ?_ (congrFun (entry_z m ρ c) (ix2 (before2 t q) ⟨4096 + (512 * (t.val % 4) + n.val), by omega⟩))
  blk_ext! [iblk2, idx2 t]

theorem cw_read (k : Fin 3) (n : Fin 512) : iblk2 (V8 m ρ) c 5 t (ix2 k n) = A2 m c (ix2 k (cl2 t.val n)) := by
  refine Eq.trans ?_ (congrFun (W8_args m ρ c main_arg2 (by decide)) (ix2 k (cl2 t.val n)))
  blk_ext! [iblk2, idx2 t]

/-- The blocks of the two columns and of the rows before them. -/
abbrev vb1 : Vec Ideal S512x512 .f32 := iblk2 (V8 m ρ) c 1 t
abbrev vb2 : Vec Ideal S512x512 .f32 := iblk2 (V8 m ρ) c 2 t
abbrev vb3 : Vec Ideal S8x512 .f32 := iblk2 (V8 m ρ) c 3 t
abbrev vb4 : Vec Ideal S8x512 .f32 := iblk2 (V8 m ρ) c 4 t

theorem u_read (r n : Fin 512) : (vb1 m ρ c t (ix2 r n)) * (vb2 m ρ c t (ix2 r n))
    = uAt (zAt (A0 m c) (A1 m c)) (rw2 t r) (cl2 t.val n) := congrArg₂ (· * ·) (g_read m ρ c t r n) (h_read m ρ c t r n)

theorem up_read (q : Fin 8) (n : Fin 512) : (vb3 m ρ c t (ix2 q n)) * (vb4 m ρ c t (ix2 q n))
    = uAt (zAt (A0 m c) (A1 m c)) (before2 t q) (cl2 t.val n) := congrArg₂ (· * ·) (gp_read m ρ c t q n) (hp_read m ρ c t q n)

theorem back_two (r n : Fin 512) :
    (if r.val < 2 then (if (grid2.coords t 0).val % 16 = 0 then 0 else (vb3 m ρ c t (ix2 ⟨6 + r.val % 2, by omega⟩ n)) * (vb4 m ρ c t (ix2 ⟨6 + r.val % 2, by omega⟩ n)))
      else (vb1 m ρ c t (ix2 ⟨r.val - 2, by omega⟩ n)) * (vb2 m ρ c t (ix2 ⟨r.val - 2, by omega⟩ n)))
    = backAt (zAt (A0 m c) (A1 m c)) 2 (rw2 t r) (cl2 t.val n) := by
  have hN := lt_N2 t
  rw [up_read, u_read, tile2 t]
  unfold backAt
  by_cases h2 : r.val < 2
  · rw [if_pos h2]
    by_cases hi : t.val / 4 % 16 = 0
    · rw [if_pos hi, if_pos (show (512 * (t.val / 4) + r.val) % 8192 < 2 by omega)]
    · rw [if_neg hi, if_neg (show ¬ (512 * (t.val / 4) + r.val) % 8192 < 2 by omega)]
      exact congrArg (fun R => uAt _ R _) (Fin.ext (by show 8 * (t.val / 4 * 64 - 1) + (6 + r.val % 2) = 512 * (t.val / 4) + r.val - 2; omega))
  · rw [if_neg h2, if_neg (show ¬ (512 * (t.val / 4) + r.val) % 8192 < 2 by omega)]
    exact congrArg (fun R => uAt _ R _) (Fin.ext (by show 512 * (t.val / 4) + (r.val - 2) = 512 * (t.val / 4) + r.val - 2; omega))

theorem back_one (r n : Fin 512) :
    (if r.val = 0 then (if (grid2.coords t 0).val % 16 = 0 then 0 else (vb3 m ρ c t (ix2 7 n)) * (vb4 m ρ c t (ix2 7 n)))
      else (vb1 m ρ c t (ix2 ⟨r.val - 1, by omega⟩ n)) * (vb2 m ρ c t (ix2 ⟨r.val - 1, by omega⟩ n)))
    = backAt (zAt (A0 m c) (A1 m c)) 1 (rw2 t r) (cl2 t.val n) := by
  have hN := lt_N2 t
  rw [up_read, u_read, tile2 t]
  unfold backAt
  by_cases h2 : r.val = 0
  · rw [if_pos h2]
    by_cases hi : t.val / 4 % 16 = 0
    · rw [if_pos hi, if_pos (show (512 * (t.val / 4) + r.val) % 8192 < 1 by omega)]
    · rw [if_neg hi, if_neg (show ¬ (512 * (t.val / 4) + r.val) % 8192 < 1 by omega)]
      exact congrArg (fun R => uAt _ R _) (Fin.ext (by show 8 * (t.val / 4 * 64 - 1) + 7 = 512 * (t.val / 4) + r.val - 1; omega))
  · rw [if_neg h2, if_neg (show ¬ (512 * (t.val / 4) + r.val) % 8192 < 1 by omega)]
    exact congrArg (fun R => uAt _ R _) (Fin.ext (by show 512 * (t.val / 4) + (r.val - 1) = 512 * (t.val / 4) + r.val - 1; omega))

/-- What the third call leaves: the gated convolution. -/
def OUT2 : FVec Ideal S16384x2048 .bf16 := fun y => convAt (zAt (A0 m c) (A1 m c)) (A2 m c) (y 0) (y 1)

theorem final2 : (dat2 (V8 m ρ) c).arrAt 6 cfg2.N = OUT2 m c := by
  refine (dat2 (V8 m ρ) c).arrAt_eq_of_covers 6 (OUT2 m c) (by decide +kernel) fun t hf y => ?_
  have hN := lt_N2 t
  blk_simp [idx2 t]
  rw [after2_6]
  have hy0 : (y 0 : ℕ) < 512 := (y 0).isLt
  have hy1 : (y 1 : ℕ) < 512 := (y 1).isLt
  have e0 : (win2_6.blk t).view.emb y 0 = rw2 t ⟨y 0, hy0⟩ := Fin.ext (by show ((win2_6.blk t).view.emb y 0 : ℕ) = 512 * (t.val / 4) + (y 0 : ℕ); blk_simp [idx2 t]; omega)
  have e1 : (win2_6.blk t).view.emb y 1 = cl2 t.val ⟨y 1, hy1⟩ := Fin.ext (by show ((win2_6.blk t).view.emb y 1 : ℕ) = 512 * (t.val % 4) + (y 1 : ℕ); blk_simp [idx2 t]; omega)
  have ey : y = ix2 (⟨y 0, hy0⟩ : Fin 512) (⟨y 1, hy1⟩ : Fin 512) := by funext d; fin_cases d <;> rfl
  frame_open
  frame_out
  refine (congrArg _ ey).trans ((pay1c_apply (grid2.coords t) _ _ _ _ _ _ ⟨y 0, hy0⟩ ⟨y 1, hy1⟩).trans (Eq.symm ((congrArg₂ (convAt _ _) e0 e1).trans (Eq.symm ?_))))
  unfold convAt
  refine congrArg₂ (· * ·) (gb_read m ρ c t _ _) (congrArg₂ (· + ·) (congrArg₂ (· + ·) (congrArg₂ (· * ·) (cw_read m ρ c t 0 _) (back_two m ρ c t _ _))
    (congrArg₂ (· * ·) (cw_read m ρ c t 1 _) (back_one m ρ c t _ _))) (congrArg₂ (· * ·) (cw_read m ρ c t 2 _) (u_read m ρ c t _ _)))

end Region2

end Kernel

section Ref

open Cert.Reference5Ideal Cert.Reference5Ideal.Gen

theorem frame_reference : Cert.quiescent_Reference5Ideal (hReference5Ideal := Cert.Reference5Ideal.Gen.facts) := fun m g _ =>
  (θ_run Cert.Reference5Ideal.defs _ _).mono (fun r h => ⟨fun c => (h c).2.2.2, sem_eq_zero_of_no_sems (by decide) r.2⟩)
    (Cert.Reference5Ideal.Value.run (F := Ideal) m g)

/-- The reference's projection. -/
def refZ (x : FVec Ideal S2x8192x4096 .f32) (w : FVec Ideal S4096x12304 .f32) : FVec Ideal S2x8192x12304 .f32 :=
  Host.dotGeneral dot_S2x8192x4096_S4096x12304_S2x8192x12304_2_0_01_1_n_n none x w

theorem refZ_apply (x : FVec Ideal S2x8192x4096 .f32) (w : FVec Ideal S4096x12304 .f32) (r : Fin 16384) (n : Fin 12304) :
    refZ x w (ix3 ⟨r.val / 8192, by omega⟩ ⟨r.val % 8192, by omega⟩ n) = zAt x w r n := by
  unfold zAt
  pointwise [refZ]

/-- The reference's product of two columns, with two empty positions in front of each batch. -/
def refPad (z : FVec Ideal S2x8192x12304 .f32) : FVec Ideal S2x8194x2048 .f32 :=
  pad S2x8194x2048 ![0, 2, 0] ![0, 0, 0] ![0, 0, 0] (mulf (extractStridedSlice S2x8192x2048 ![0, 0, 2048] z slices_S2x8192x12304_S2x8192x2048_0_0_2048) (extractStridedSlice S2x8192x2048 ![0, 0, 4096] z slices_S2x8192x12304_S2x8192x2048_0_0_4096)) (sitofp .f32 (constantI S_ 32 0#32)) pads_S2x8192x2048_S2x8194x2048_000_200_000 h_S_

theorem refPad_apply (z : FVec Ideal S2x8192x12304 .f32) (b : Fin 2) (s : Fin 8194) (n : Fin 2048) :
    refPad z (ix3 b s n) = if h : 2 ≤ s.val then z (ix3 b ⟨s.val - 2, by omega⟩ ⟨2048 + n.val, by omega⟩) * z (ix3 b ⟨s.val - 2, by omega⟩ ⟨4096 + n.val, by omega⟩) else 0 := by
  pointwise [refPad]
  rw [no_word]
  by_cases hs : 2 ≤ s.val
  · rw [dif_pos (show 2 ≤ s.val ∧ s.val - 2 < 8192 by omega), dif_pos hs]
  · rw [dif_neg (fun h => hs h.1), dif_neg hs]

/-- The reference's convolution of the padded product, gated. -/
def refConv (z : FVec Ideal S2x8192x12304 .f32) (u : FVec Ideal S2x8194x2048 .f32) (w : FVec Ideal S3x2048 .f32) : FVec Ideal S16384x2048 .bf16 :=
  truncf .bf16 (shapeCast _ (mulf (extractStridedSlice S2x8192x2048 ![0, 0, 0] z slices_S2x8192x12304_S2x8192x2048_0_0_0) (addf (addf (mulf (extractStridedSlice S2x8192x2048 ![0, 0, 0] u slices_S2x8194x2048_S2x8192x2048_0_0_0) (broadcastInDim S2x8192x2048 ![0, 1, 2] bcast_S1x1x2048_S2x8192x2048_0_1_2 (broadcastInDim S1x1x2048 ![2] bcast_S2048_S1x1x2048_2 (shapeCast _ (extractStridedSlice S1x2048 ![0, 0] w slices_S3x2048_S1x2048_0_0) shapeCasts_S1x2048_S2048)))) (mulf (extractStridedSlice S2x8192x2048 ![0, 1, 0] u slices_S2x8194x2048_S2x8192x2048_0_1_0) (broadcastInDim S2x8192x2048 ![0, 1, 2] bcast_S1x1x2048_S2x8192x2048_0_1_2 (broadcastInDim S1x1x2048 ![2] bcast_S2048_S1x1x2048_2 (shapeCast _ (extractStridedSlice S1x2048 ![1, 0] w slices_S3x2048_S1x2048_1_0) shapeCasts_S1x2048_S2048))))) (mulf (extractStridedSlice S2x8192x2048 ![0, 2, 0] u slices_S2x8194x2048_S2x8192x2048_0_2_0) (broadcastInDim S2x8192x2048 ![0, 1, 2] bcast_S1x1x2048_S2x8192x2048_0_1_2 (broadcastInDim S1x1x2048 ![2] bcast_S2048_S1x1x2048_2 (shapeCast _ (extractStridedSlice S1x2048 ![2, 0] w slices_S3x2048_S1x2048_2_0) shapeCasts_S1x2048_S2048)))))) shapeCasts_S2x8192x2048_S16384x2048) bitsLt_bf16_f32

theorem refConv_apply (z : FVec Ideal S2x8192x12304 .f32) (u : FVec Ideal S2x8194x2048 .f32) (w : FVec Ideal S3x2048 .f32) (r : Fin 16384) (n : Fin 2048) :
    refConv z u w (ix2 r n) = z (ix3 ⟨r.val / 8192, by omega⟩ ⟨r.val % 8192, by omega⟩ ⟨n.val, by omega⟩)
      * (u (ix3 ⟨r.val / 8192, by omega⟩ ⟨r.val % 8192, by omega⟩ n) * w (ix2 0 n)
        + u (ix3 ⟨r.val / 8192, by omega⟩ ⟨1 + r.val % 8192, by omega⟩ n) * w (ix2 1 n)
        + u (ix3 ⟨r.val / 8192, by omega⟩ ⟨2 + r.val % 8192, by omega⟩ n) * w (ix2 2 n)) := by
  pointwise [refConv]

/-- The reference's projection without its last columns. -/
def refTake (z : FVec Ideal S2x8192x12304 .f32) : FVec Ideal S16384x12288 .f32 :=
  shapeCast _ (extractStridedSlice S2x8192x12288 ![0, 0, 0] z slices_S2x8192x12304_S2x8192x12288_0_0_0) shapeCasts_S2x8192x12288_S16384x12288

theorem refTake_apply (z : FVec Ideal S2x8192x12304 .f32) (r : Fin 16384) (n : Fin 12288) :
    refTake z (ix2 r n) = z (ix3 ⟨r.val / 8192, by omega⟩ ⟨r.val % 8192, by omega⟩ ⟨n.val, by omega⟩) := by
  pointwise [refTake]

/-- The reference's value before the sigmoid. -/
def refPre (z : FVec Ideal S2x8192x12304 .f32) (w : FVec Ideal S16x1024 .f32) (b : FVec Ideal S1024 .f32) : FVec Ideal S2x8192x1024 .f32 :=
  addf (Host.dotGeneral dot_S2x8192x16_S16x1024_S2x8192x1024_2_0_01_1_n_n none (extractStridedSlice S2x8192x16 ![0, 0, 12288] z slices_S2x8192x12304_S2x8192x16_0_0_12288) w) (broadcastInDim S2x8192x1024 ![0, 1, 2] bcast_S1x1x1024_S2x8192x1024_0_1_2 (broadcastInDim S1x1x1024 ![2] bcast_S1024_S1x1x1024_2 b))

theorem refPre_apply (z : FVec Ideal S2x8192x12304 .f32) (w : FVec Ideal S16x1024 .f32) (b : FVec Ideal S1024 .f32) (r : Fin 16384) (n : Fin 1024) :
    refPre z w b (ix3 ⟨r.val / 8192, by omega⟩ ⟨r.val % 8192, by omega⟩ n)
      = (∑ j : Fin 16, z (ix3 ⟨r.val / 8192, by omega⟩ ⟨r.val % 8192, by omega⟩ ⟨12288 + j.val, by omega⟩) * w (ix2 j n)) + b (ix1 n) := by
  pointwise [refPre]

/-- The reference's log sigmoid over the temperature. -/
def refDecay (p : FVec Ideal S2x8192x1024 .f32) : FVec Ideal S16384x1024 .f32 :=
  shapeCast _ (Host.divf (Host.negf (select (cmpf .une (subf (Host.negf p) (broadcastInDim S2x8192x1024 ![] bcast_S_S2x8192x1024 (constant S_ .f32 0x00000000#32))) (subf (Host.negf p) (broadcastInDim S2x8192x1024 ![] bcast_S_S2x8192x1024 (constant S_ .f32 0x00000000#32)))) (addf (Host.negf p) (broadcastInDim S2x8192x1024 ![] bcast_S_S2x8192x1024 (constant S_ .f32 0x00000000#32))) (addf (maximumf (Host.negf p) (broadcastInDim S2x8192x1024 ![] bcast_S_S2x8192x1024 (constant S_ .f32 0x00000000#32))) (Host.log1p (Host.exp (Host.negf (Host.absf (subf (Host.negf p) (broadcastInDim S2x8192x1024 ![] bcast_S_S2x8192x1024 (constant S_ .f32 0x00000000#32)))))))))) (broadcastInDim S2x8192x1024 ![] bcast_S_S2x8192x1024 (constant S_ .f32 0x41800000#32))) shapeCasts_S2x8192x1024_S16384x1024

theorem abs_neg_eq (x : EReal) : FloatOps.absf (F := Ideal) (φ := .f32) (-x) = FloatOps.absf (F := Ideal) (φ := .f32) x := by
  show max (-x) (- -x) = max x (-x)
  rw [neg_neg, max_comm]

theorem refDecay_apply (p : FVec Ideal S2x8192x1024 .f32) (r : Fin 16384) (n : Fin 1024) :
    refDecay p (ix2 r n) = decay (p (ix3 ⟨r.val / 8192, by omega⟩ ⟨r.val % 8192, by omega⟩ n)) := by
  unfold decay
  pointwise [refDecay]
  rw [if_neg (fun h => h rfl), abs_neg_eq]
  simp only [zero_sub]

/-- The padded product `d` positions on is the product `2 - d` positions back. -/
theorem pad_back (x : FVec Ideal S2x8192x4096 .f32) (w : FVec Ideal S4096x12304 .f32) (d : ℕ) (hd : d < 2) (r : Fin 16384) (n : Fin 2048) (h : d + r.val % 8192 < 8194) :
    refPad (refZ x w) (ix3 ⟨r.val / 8192, by omega⟩ ⟨d + r.val % 8192, h⟩ n) = backAt (zAt x w) (2 - d) r n := by
  rw [refPad_apply]
  unfold backAt
  by_cases hs : 2 ≤ d + r.val % 8192
  · rw [dif_pos hs, if_neg (show ¬ r.val % 8192 < 2 - d by omega)]
    have e (q : Fin 12304) : (ix3 (⟨r.val / 8192, by omega⟩ : Fin 2) (⟨d + r.val % 8192 - 2, by omega⟩ : Fin 8192) q) = ix3 (⟨(r.val - (2 - d)) / 8192, by omega⟩ : Fin 2) (⟨(r.val - (2 - d)) % 8192, by omega⟩ : Fin 8192) q :=
      congrArg₂ (fun (u : Fin 2) (v : Fin 8192) => ix3 u v q) (Fin.ext (by show r.val / 8192 = (r.val - (2 - d)) / 8192; omega)) (Fin.ext (by show d + r.val % 8192 - 2 = (r.val - (2 - d)) % 8192; omega))
    exact congrArg₂ (· * ·) ((congrArg (refZ x w) (e _)).trans (refZ_apply x w ⟨r.val - (2 - d), by omega⟩ _)) ((congrArg (refZ x w) (e _)).trans (refZ_apply x w ⟨r.val - (2 - d), by omega⟩ _))
  · rw [dif_neg hs, if_pos (show r.val % 8192 < 2 - d by omega)]

theorem pad_here (x : FVec Ideal S2x8192x4096 .f32) (w : FVec Ideal S4096x12304 .f32) (r : Fin 16384) (n : Fin 2048) :
    refPad (refZ x w) (ix3 ⟨r.val / 8192, by omega⟩ ⟨2 + r.val % 8192, by omega⟩ n) = uAt (zAt x w) r n := by
  rw [refPad_apply, dif_pos (show 2 ≤ 2 + r.val % 8192 by omega)]
  have e : (⟨2 + r.val % 8192 - 2, by omega⟩ : Fin 8192) = ⟨r.val % 8192, by omega⟩ := Fin.ext (by show 2 + r.val % 8192 - 2 = r.val % 8192; omega)
  unfold uAt
  simp only [e]
  exact congrArg₂ (· * ·) (refZ_apply x w r _) (refZ_apply x w r _)

theorem refConv_eq (x : FVec Ideal S2x8192x4096 .f32) (w : FVec Ideal S4096x12304 .f32) (v : FVec Ideal S3x2048 .f32) (r : Fin 16384) (n : Fin 2048) :
    refConv (refZ x w) (refPad (refZ x w)) v (ix2 r n) = convAt (zAt x w) v r n := by
  have e : (⟨r.val % 8192, by omega⟩ : Fin 8194) = ⟨0 + r.val % 8192, by omega⟩ := Fin.ext (Nat.zero_add _).symm
  have h0 := pad_back x w 0 (by decide) r n (by omega)
  rw [refConv_apply, refZ_apply, e, h0, pad_back x w 1 (by decide) r n (by omega), pad_here]
  unfold convAt
  rw [mul_comm (backAt (zAt x w) (2 - 0) r n), mul_comm (backAt (zAt x w) (2 - 1) r n), mul_comm (uAt (zAt x w) r n)]

theorem refDecay_eq (x : FVec Ideal S2x8192x4096 .f32) (w : FVec Ideal S4096x12304 .f32) (v : FVec Ideal S16x1024 .f32) (b : FVec Ideal S1024 .f32) (r : Fin 16384) (n : Fin 1024) :
    refDecay (refPre (refZ x w) v b) (ix2 r n) = decay (preAt (zAt x w) v b r n) := by
  rw [refDecay_apply, refPre_apply]
  unfold preAt
  simp only [refZ_apply]

theorem algebraic : Cert.algebraic_Kernel5Ideal_Reference5Ideal (hKernel5Ideal := Cert.Kernel5Ideal.Gen.facts)
    (hReference5Ideal := Cert.Reference5Ideal.Gen.facts) := by
  intro m g m' g' hpre hag
  refine ⟨fun c => OUT2 m c, fun c => OUT0 m c, fun c => OUT1 m c, ?_, ?_⟩
  · exact (θ_run Cert.Kernel5Ideal.defs _ _).mono (fun _ h c => ⟨(h c).1.trans (final2 m g c), (h c).2.1.trans (final0 m g c), (h c).2.2.1.trans (final1 m g c), (h c).2.2.2⟩) (run m g)
  · have hr : ∀ c : Dev nD, refConv (refZ (m' ((c.tc : Thread nD τ).loc main_arg0)) (m' ((c.tc : Thread nD τ).loc main_arg1))) (refPad (refZ (m' ((c.tc : Thread nD τ).loc main_arg0)) (m' ((c.tc : Thread nD τ).loc main_arg1)))) (m' ((c.tc : Thread nD τ).loc main_arg2)) = OUT2 m c := by
      intro c
      obtain ⟨e0, e1, e2, e3, e4⟩ := hag c
      have f0 : m' ((c.tc : Thread nD τ).loc main_arg0) = A0 m c := e0
      have f1 : m' ((c.tc : Thread nD τ).loc main_arg1) = A1 m c := e1
      have f2 : m' ((c.tc : Thread nD τ).loc main_arg2) = A2 m c := e2
      rw [f0, f1, f2]
      exact funext fun y => (congrArg _ (eq_ix2 y)).trans (refConv_eq _ _ _ (y 0) (y 1))
    have hz : ∀ c : Dev nD, refTake (refZ (m' ((c.tc : Thread nD τ).loc main_arg0)) (m' ((c.tc : Thread nD τ).loc main_arg1))) = OUT0 m c := by
      intro c
      obtain ⟨e0, e1, e2, e3, e4⟩ := hag c
      have f0 : m' ((c.tc : Thread nD τ).loc main_arg0) = A0 m c := e0
      have f1 : m' ((c.tc : Thread nD τ).loc main_arg1) = A1 m c := e1
      rw [f0, f1]
      exact funext fun y => (congrArg _ (eq_ix2 y)).trans ((refTake_apply _ (y 0) (y 1)).trans (refZ_apply _ _ (y 0) _))
    have hd : ∀ c : Dev nD, refDecay (refPre (refZ (m' ((c.tc : Thread nD τ).loc main_arg0)) (m' ((c.tc : Thread nD τ).loc main_arg1))) (m' ((c.tc : Thread nD τ).loc main_arg3)) (m' ((c.tc : Thread nD τ).loc main_arg4))) = OUT1 m c := by
      intro c
      obtain ⟨e0, e1, e2, e3, e4⟩ := hag c
      have f0 : m' ((c.tc : Thread nD τ).loc main_arg0) = A0 m c := e0
      have f1 : m' ((c.tc : Thread nD τ).loc main_arg1) = A1 m c := e1
      have f3 : m' ((c.tc : Thread nD τ).loc main_arg3) = A3 m c := e3
      have f4 : m' ((c.tc : Thread nD τ).loc main_arg4) = A4 m c := e4
      rw [f0, f1, f3, f4]
      exact funext fun y => (congrArg _ (eq_ix2 y)).trans (refDecay_eq _ _ _ _ (y 0) (y 1))
    exact (θ_run Cert.Reference5Ideal.defs _ _).mono (fun _ h c => ⟨(h c).1.trans (hr c), (h c).2.1.trans (hz c), (h c).2.2.1.trans (hd c), (h c).2.2.2⟩) (Cert.Reference5Ideal.Value.run (F := Ideal) m' g')

end Ref

end Cert.Proof.MixIn

end
-- ==== Proof.AttnIn.lean ====
/- The attention layer's input projections: the kernel's result arrays over its four calls, and the reference's. -/
module

public import proofs.«01_k».proof.Defs
public import proofs.«01_k».proof.Proof.Gen.Kernel6Ideal.Frame
public import proofs.«01_k».proof.Proof.Gen.Reference6Ideal.Run
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.AttnIn

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds

/-- The projection at a row (of both batches in turn) and a column. -/
def zAt (x : FVec Ideal ⟨3, ![2, 8192, 4096]⟩ .f32) (w : FVec Ideal ⟨2, ![4096, 11312]⟩ .f32) (r : Fin 16384) (n : Fin 11312) : EReal :=
  ∑ k : Fin 4096, x (ix3 ⟨r.val / 8192, by omega⟩ ⟨r.val % 8192, by omega⟩ k) * w (ix2 k n)

/-- The weight's column behind each result's: the selected and window keys and the second layer's keys; -/
def colN (n : Fin 3072) : Fin 11312 :=
  ⟨if n.val < 512 then 3072 + n.val else if n.val < 1024 then 3584 + n.val else 6192 + n.val, by split <;> [omega; split <;> omega]⟩

/-- the queries, the selected and window values, the second layer's queries and values. -/
def colT (n : Fin 7168) : Fin 11312 :=
  ⟨if n.val < 2048 then n.val else if n.val < 2560 then 1536 + n.val else if n.val < 3072 then 2048 + n.val else if n.val < 5120 then 2096 + n.val else 4144 + n.val, by
    split <;> [omega; split <;> [omega; split <;> [omega; split <;> omega]]]⟩

/-- The logistic function. -/
def sgm (p : EReal) : EReal := Ideal.div 1 (1 + Ideal.exp (-p))

/-- A two-axis position is the pair of its coordinates. -/
theorem eq_ix2 {a b : ℕ} (y : (⟨2, ![a, b]⟩ : Shape).Idx) : y = ix2 (y 0) (y 1) := by
  funext d
  fin_cases d <;> rfl

theorem no_word : FloatOps.sitofp (F := Ideal) FTy.f32 0#32 = (0 : EReal) := by
  show (((0#32).toInt : ℝ) : EReal) = 0
  simp

section Kernel

open Cert.Kernel6Ideal Cert.Kernel6Ideal.Gen

theorem pay0_apply (x : Vec Ideal S1024x4096 .bf16) (w : Vec Ideal S1x4096x1024 .bf16) (y : S1024x1024.Idx) :
    k0_pay1 x w y = ∑ k : Fin 4096, x (ix2 (y 0) k) * w (ix3 0 k (y 1)) := by
  pointwise [k0_pay1]

theorem pay1_apply (w x : Vec Ideal S1024x4096 .bf16) (y : S1024x1024.Idx) :
    k1_pay1 w x y = ∑ k : Fin 4096, w (ix2 (y 0) k) * x (ix2 (y 1) k) := by
  pointwise [k1_pay1]

theorem pay2_apply (x : Vec Ideal S1024x4096 .bf16) (w : Vec Ideal S1x4096x1024 .bf16) (y : S1024x1024.Idx) :
    k2_pay1 x w y = ∑ k : Fin 4096, x (ix2 (y 0) k) * w (ix3 0 k (y 1)) := by
  pointwise [k2_pay1]

theorem pay3_apply (w : Vec Ideal S128x4096 .bf16) (x : Vec Ideal S1024x4096 .bf16) (y : S128x1024.Idx) :
    k3_pay1 w x y = sgm (∑ k : Fin 4096, w (ix2 (y 0) k) * x (ix2 (y 1) k)) := by
  unfold sgm
  pointwise [k3_pay1]
  rfl

variable (m : (ℓ : Loc nD τ sig) → Buf (Elt Ideal) ℓ) (ρ : Dev nD → PrngReg) (c : Dev nD)

set_option backward.isDefEq.respectTransparency.types false in
/-- The program's run: the results are what the calls' write-backs leave, the arguments are as launched. -/
theorem run : θ_run defs (onTc (τ := τ) (main (F := Ideal))) ⟨m, fun _ => 0, ρ⟩ (fun r => ∀ c : Dev nD,
      r.2.mem ((c.tc : Thread nD τ).loc main_v22) = (dat0 (V3 m ρ) c).arrAt 2 cfg0.N
      ∧ r.2.mem ((c.tc : Thread nD τ).loc main_v23) = (dat1 (V4 m ρ) c).arrAt 2 cfg1.N
      ∧ r.2.mem ((c.tc : Thread nD τ).loc main_v25) = (dat2 (V6 m ρ) c).arrAt 2 cfg2.N
      ∧ r.2.mem ((c.tc : Thread nD τ).loc main_v27) = W9 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨(h c _ (mem_uc main_v22 (by decide))).trans ((W9_of m ρ c main_v22 (by decide)).trans ((W8_of m ρ c main_v22 (by decide)).trans ((W7_of m ρ c main_v22 (by decide)).trans ((W6_of m ρ c main_v22 (by decide)).trans ((W5_of m ρ c main_v22 (by decide)).trans (W4_arr m ρ c 2)))))),
       (h c _ (mem_uc main_v23 (by decide))).trans ((W9_of m ρ c main_v23 (by decide)).trans ((W8_of m ρ c main_v23 (by decide)).trans ((W7_of m ρ c main_v23 (by decide)).trans ((W6_of m ρ c main_v23 (by decide)).trans (W5_arr m ρ c 2))))),
       (h c _ (mem_uc main_v25 (by decide))).trans ((W9_of m ρ c main_v25 (by decide)).trans ((W8_of m ρ c main_v25 (by decide)).trans (W7_arr m ρ c 2))),
       (h c _ (mem_uc main_v27 (by decide))).trans (rfl),
       (h c _ (mem_uc main_arg0 (by decide))).trans (W9_main_arg0 m ρ c),
       (h c _ (mem_uc main_arg1 (by decide))).trans (W9_main_arg1 m ρ c)⟩)

abbrev A0 : FVec Ideal S2x8192x4096 .f32 := m ((c.tc : Thread nD τ).loc main_arg0)
abbrev A1 : FVec Ideal S4096x11312 .f32 := m ((c.tc : Thread nD τ).loc main_arg1)

/-- The rows as the calls find them: the input, both batches in turn. -/
theorem entry_x (r : Fin 16384) (k : Fin 4096) :
    V3 m ρ c main_v1 (ix2 r k) = A0 m c (ix3 ⟨r.val / 8192, by omega⟩ ⟨r.val % 8192, by omega⟩ k) := by
  refine (congrFun ((W3_of m ρ c main_v1 (by decide)).trans (W2_of m ρ c main_v1 (by decide))) (ix2 r k)).trans ?_
  show StableHlo.after hostOps0 (W0 m ρ c) (Proc.devRef .tc main_v1) (ix2 r k) = _
  entry_read
  pointwise []

theorem entry_x4 : V4 m ρ c main_v1 = V3 m ρ c main_v1 := W4_of m ρ c main_v1 (by decide)
theorem entry_x6 : V6 m ρ c main_v1 = V3 m ρ c main_v1 :=
  (W6_of m ρ c main_v1 (by decide)).trans ((W5_of m ρ c main_v1 (by decide)).trans (entry_x4 m ρ c))
theorem entry_x7 : V7 m ρ c main_v1 = V3 m ρ c main_v1 := (W7_of m ρ c main_v1 (by decide)).trans (entry_x6 m ρ c)

theorem cat_three (a b : FVec Ideal S4096x512 .f32) (d : FVec Ideal S4096x2048 .f32) (k : Fin 4096) (n : Fin 3072) :
    concatenate S4096x3072 1 [⟨S4096x512, a⟩, ⟨S4096x512, b⟩, ⟨S4096x2048, d⟩] concatenates_S4096x512_S4096x512_S4096x2048_S4096x3072_d1 (ix2 k n)
      = if h : n.val < 512 then a (ix2 k ⟨n.val, h⟩) else if h2 : n.val - 512 < 512 then b (ix2 k ⟨n.val - 512, h2⟩) else d (ix2 k ⟨n.val - 512 - 512, by omega⟩) := by
  pointwise []

theorem cat_five (a : FVec Ideal S4096x2048 .f32) (b d : FVec Ideal S4096x512 .f32) (e f : FVec Ideal S4096x2048 .f32) (k : Fin 4096) (n : Fin 7168) :
    concatenate S4096x7168 1 [⟨S4096x2048, a⟩, ⟨S4096x512, b⟩, ⟨S4096x512, d⟩, ⟨S4096x2048, e⟩, ⟨S4096x2048, f⟩] concatenates_S4096x2048_S4096x512_S4096x512_S4096x2048_S4096x2048_S4096x7168_d1 (ix2 k n)
      = if h : n.val < 2048 then a (ix2 k ⟨n.val, h⟩) else if h2 : n.val - 2048 < 512 then b (ix2 k ⟨n.val - 2048, h2⟩)
        else if h3 : n.val - 2048 - 512 < 512 then d (ix2 k ⟨n.val - 2048 - 512, h3⟩) else if h4 : n.val - 2048 - 512 - 512 < 2048 then e (ix2 k ⟨n.val - 2048 - 512 - 512, h4⟩)
        else f (ix2 k ⟨n.val - 2048 - 512 - 512 - 2048, by omega⟩) := by
  pointwise []

theorem trunc_apply {s : Shape} (v : FVec Ideal s .f32) (y : s.Idx) : truncf .bf16 v bitsLt_bf16_f32 y = v y := by
  pointwise []

/-- A slice of the weight's columns at a column. -/
theorem slice_apply (o w : ℕ) (v : FVec Ideal S4096x11312 .f32) (h : Shape.Slices S4096x11312 ![0, o] ⟨2, ![4096, w]⟩) (k : Fin 4096) (q : Fin w) (hq : o + q.val < 11312) :
    extractStridedSlice ⟨2, ![4096, w]⟩ ![0, o] v h (ix2 k q) = v (ix2 k ⟨o + q.val, hq⟩) := by
  pointwise []

theorem take_n (σ : Valuation τ sig (Elt Ideal)) (k : Fin 4096) (n : Fin 3072) :
    StableHlo.after hostOps0_2 σ (Proc.devRef .tc main_v21) (ix3 0 k n) = σ (Proc.devRef .tc main_v6) (ix2 k n) := by
  entry_read
  pointwise []

theorem take_f (σ : Valuation τ sig (Elt Ideal)) (k : Fin 4096) (n : Fin 1024) :
    StableHlo.after hostOps2 σ (Proc.devRef .tc main_v24) (ix3 0 k n) = σ (Proc.devRef .tc main_v16) (ix2 k n) := by
  entry_read
  pointwise []

theorem host_n : StableHlo.after hostOps0 (W0 m ρ c) (Proc.devRef .tc main_v6) = truncf .bf16 (concatenate S4096x3072 1 [⟨S4096x512, extractStridedSlice S4096x512 ![0, 3072] (A1 m c) slices_S4096x11312_S4096x512_0_3072⟩,
      ⟨S4096x512, extractStridedSlice S4096x512 ![0, 4096] (A1 m c) slices_S4096x11312_S4096x512_0_4096⟩, ⟨S4096x2048, extractStridedSlice S4096x2048 ![0, 7216] (A1 m c) slices_S4096x11312_S4096x2048_0_7216⟩] concatenates_S4096x512_S4096x512_S4096x2048_S4096x3072_d1) bitsLt_bf16_f32 := by
  unfold hostOps0
  after_results <;> rfl

theorem host_t : StableHlo.after hostOps0 (W0 m ρ c) (Proc.devRef .tc main_v14) = truncf .bf16 (transpose S7168x4096 [1, 0] (concatenate S4096x7168 1 [⟨S4096x2048, extractStridedSlice S4096x2048 ![0, 0] (A1 m c) slices_S4096x11312_S4096x2048_0_0⟩,
      ⟨S4096x512, extractStridedSlice S4096x512 ![0, 3584] (A1 m c) slices_S4096x11312_S4096x512_0_3584⟩, ⟨S4096x512, extractStridedSlice S4096x512 ![0, 4608] (A1 m c) slices_S4096x11312_S4096x512_0_4608⟩, ⟨S4096x2048, extractStridedSlice S4096x2048 ![0, 5168] (A1 m c) slices_S4096x11312_S4096x2048_0_5168⟩, ⟨S4096x2048, extractStridedSlice S4096x2048 ![0, 9264] (A1 m c) slices_S4096x11312_S4096x2048_0_9264⟩]
      concatenates_S4096x2048_S4096x512_S4096x512_S4096x2048_S4096x2048_S4096x7168_d1) transposes_S4096x7168_S7168x4096_1_0) bitsLt_bf16_f32 := by
  unfold hostOps0
  after_results <;> rfl

theorem host_f : StableHlo.after hostOps0 (W0 m ρ c) (Proc.devRef .tc main_v16) = truncf .bf16 (extractStridedSlice S4096x1024 ![0, 2048] (A1 m c) slices_S4096x11312_S4096x1024_0_2048) bitsLt_bf16_f32 := by
  unfold hostOps0
  after_results <;> rfl

theorem turn_apply (v : FVec Ideal S4096x7168 .f32) (n : Fin 7168) (k : Fin 4096) :
    truncf .bf16 (transpose S7168x4096 [1, 0] v transposes_S4096x7168_S7168x4096_1_0) bitsLt_bf16_f32 (ix2 n k) = v (ix2 k n) := by
  pointwise []

/-- The weights as the calls find them: the columns gathered, the last with the padding's zeros. -/
theorem entry_wn (k : Fin 4096) (n : Fin 3072) : V3 m ρ c main_v21 (ix3 0 k n) = A1 m c (ix2 k (colN n)) := by
  refine (take_n (W2 m ρ c) k n).trans ((congrFun ((W2_of m ρ c main_v6 (by decide)).trans (host_n m ρ c)) (ix2 k n)).trans ((trunc_apply _ _).trans ((cat_three _ _ _ k n).trans ?_)))
  by_cases h : n.val < 512
  · rw [dif_pos h, slice_apply 3072 512 _ _ k ⟨n.val, h⟩ (by show 3072 + n.val < 11312; omega)]
    exact congrArg (fun q => A1 m c (ix2 k q)) (Fin.ext (if_pos h).symm)
  · by_cases h2 : n.val - 512 < 512
    · rw [dif_neg h, dif_pos h2, slice_apply 4096 512 _ _ k ⟨n.val - 512, h2⟩ (by show 4096 + (n.val - 512) < 11312; omega)]
      exact congrArg (fun q => A1 m c (ix2 k q)) (Fin.ext (by simp only [colN]; split_ifs <;> omega))
    · rw [dif_neg h, dif_neg h2, slice_apply 7216 2048 _ _ k ⟨n.val - 512 - 512, by omega⟩ (by show 7216 + (n.val - 512 - 512) < 11312; omega)]
      exact congrArg (fun q => A1 m c (ix2 k q)) (Fin.ext (by simp only [colN]; split_ifs <;> omega))

theorem entry_wt (n : Fin 7168) (k : Fin 4096) : V3 m ρ c main_v14 (ix2 n k) = A1 m c (ix2 k (colT n)) := by
  refine (congrFun ((W3_of m ρ c main_v14 (by decide)).trans ((W2_of m ρ c main_v14 (by decide)).trans (host_t m ρ c))) (ix2 n k)).trans ((turn_apply _ n k).trans ((cat_five _ _ _ _ _ k n).trans ?_))
  by_cases h : n.val < 2048
  · rw [dif_pos h, slice_apply 0 2048 _ _ k ⟨n.val, h⟩ (by show 0 + n.val < 11312; omega)]
    exact congrArg (fun q => A1 m c (ix2 k q)) (Fin.ext (by simp only [colT]; split_ifs <;> omega))
  · by_cases h2 : n.val - 2048 < 512
    · rw [dif_neg h, dif_pos h2, slice_apply 3584 512 _ _ k ⟨n.val - 2048, h2⟩ (by show 3584 + (n.val - 2048) < 11312; omega)]
      exact congrArg (fun q => A1 m c (ix2 k q)) (Fin.ext (by simp only [colT]; split_ifs <;> omega))
    · by_cases h3 : n.val - 2048 - 512 < 512
      · rw [dif_neg h, dif_neg h2, dif_pos h3, slice_apply 4608 512 _ _ k ⟨n.val - 2048 - 512, h3⟩ (by show 4608 + (n.val - 2048 - 512) < 11312; omega)]
        exact congrArg (fun q => A1 m c (ix2 k q)) (Fin.ext (by simp only [colT]; split_ifs <;> omega))
      · by_cases h4 : n.val - 2048 - 512 - 512 < 2048
        · rw [dif_neg h, dif_neg h2, dif_neg h3, dif_pos h4, slice_apply 5168 2048 _ _ k ⟨n.val - 2048 - 512 - 512, h4⟩ (by show 5168 + (n.val - 2048 - 512 - 512) < 11312; omega)]
          exact congrArg (fun q => A1 m c (ix2 k q)) (Fin.ext (by simp only [colT]; split_ifs <;> omega))
        · rw [dif_neg h, dif_neg h2, dif_neg h3, dif_neg h4, slice_apply 9264 2048 _ _ k ⟨n.val - 2048 - 512 - 512 - 2048, by omega⟩ (by show 9264 + (n.val - 2048 - 512 - 512 - 2048) < 11312; omega)]
          exact congrArg (fun q => A1 m c (ix2 k q)) (Fin.ext (by simp only [colT]; split_ifs <;> omega))

theorem entry_wf (k : Fin 4096) (n : Fin 1024) : V6 m ρ c main_v24 (ix3 0 k n) = A1 m c (ix2 k ⟨2048 + n.val, by omega⟩) := by
  refine (take_f (W5 m ρ c) k n).trans ((congrFun ((W5_of m ρ c main_v16 (by decide)).trans ((W4_of m ρ c main_v16 (by decide)).trans ((W3_of m ρ c main_v16 (by decide)).trans
    ((W2_of m ρ c main_v16 (by decide)).trans (host_f m ρ c))))) (ix2 k n)).trans ((trunc_apply _ _).trans ?_))
  exact slice_apply 2048 1024 _ _ k n _

theorem entry_wg (n : Fin 128) (k : Fin 4096) : V3 m ρ c main_v20 (ix2 n k) = if h : n.val < 48 then A1 m c (ix2 k ⟨5120 + n.val, by omega⟩) else 0 := by
  show StableHlo.after hostOps0_2 (W2 m ρ c) (Proc.devRef .tc main_v20) (ix2 n k) = _
  entry_read
  simp only [StableHlo.TRef.toBuf, StableHlo.TRef.ofBuf, cast_eq]
  pointwise []
  rw [no_word]

section Region0

variable (t : Fin cfg0.N)

theorem lt_N0 : t.val < 48 := lt_of_lt_of_eq t.isLt N_0

theorem idx0 : ∀ t : Fin cfg0.N,
    win0_0.index t = ![t.val / 3, 0]
    ∧ win0_1.index t = ![0, 0, t.val % 3]
    ∧ win0_2.index t = ![t.val / 3, t.val % 3] :=
  (by decide +kernel : ∀ t : Fin grid0.N, _)

/-- The array's row of a block's. -/
abbrev rw0 (t : Fin cfg0.N) (r : Fin 1024) : Fin 16384 := ⟨1024 * (t.val / 3) + r, by have := lt_N0 t; omega⟩

theorem x_read0 (r : Fin 1024) (k : Fin 4096) : iblk0 (V3 m ρ) c 0 t (ix2 r k)
    = A0 m c (ix3 ⟨(rw0 t r).val / 8192, by omega⟩ ⟨(rw0 t r).val % 8192, by omega⟩ k) := by
  refine Eq.trans ?_ (entry_x m ρ c (rw0 t r) k)
  blk_ext! [iblk0, idx0 t]

/-- The array's column of a block's. -/
abbrev cl0 (t : ℕ) (n : Fin 1024) : Fin 3072 := ⟨1024 * (t % 3) + n, by omega⟩

theorem w_read0 (k : Fin 4096) (n : Fin 1024) : iblk0 (V3 m ρ) c 1 t (ix3 0 k n) = A1 m c (ix2 k (colN (cl0 t.val n))) := by
  refine Eq.trans ?_ (entry_wn m ρ c k (cl0 t.val n))
  blk_ext! [iblk0, idx0 t]

/-- What the first call leaves: the keys. -/
def OUT0 : FVec Ideal S16384x3072 .bf16 := fun y => zAt (A0 m c) (A1 m c) (y 0) (colN (y 1))

theorem final0 : (dat0 (V3 m ρ) c).arrAt 2 cfg0.N = OUT0 m c := by
  refine (dat0 (V3 m ρ) c).arrAt_eq_of_covers 2 (OUT0 m c) (by decide +kernel) fun t hf y => ?_
  have hN := lt_N0 t
  blk_simp [idx0 t]
  rw [after0_2]
  have hy0 : (y 0 : ℕ) < 1024 := (y 0).isLt
  have hy1 : (y 1 : ℕ) < 1024 := (y 1).isLt
  have e0 : (win0_2.blk t).view.emb y 0 = rw0 t ⟨y 0, hy0⟩ := Fin.ext (by show ((win0_2.blk t).view.emb y 0 : ℕ) = 1024 * (t.val / 3) + (y 0 : ℕ); blk_simp [idx0 t]; omega)
  have e1 : (win0_2.blk t).view.emb y 1 = cl0 t.val ⟨y 1, hy1⟩ := Fin.ext (by show ((win0_2.blk t).view.emb y 1 : ℕ) = 1024 * (t.val % 3) + (y 1 : ℕ); blk_simp [idx0 t]; omega)
  frame_open
  frame_out
  refine (pay0_apply _ _ y).trans (Eq.symm ((congrArg₂ (fun r n => zAt (A0 m c) (A1 m c) r (colN n)) e0 e1).trans ?_))
  exact Finset.sum_congr rfl fun k _ => congrArg₂ (· * ·) (x_read0 m ρ c t _ k).symm (w_read0 m ρ c t k _).symm

end Region0

section Region1

variable (t : Fin cfg1.N)

theorem lt_N1 : t.val < 112 := lt_of_lt_of_eq t.isLt N_1

theorem idx1 : ∀ t : Fin cfg1.N,
    win1_0.index t = ![t.val % 7, 0]
    ∧ win1_1.index t = ![t.val / 7, 0]
    ∧ win1_2.index t = ![t.val % 7, t.val / 7] :=
  (by decide +kernel : ∀ t : Fin grid1.N, _)

/-- The array's row of a block's. -/
abbrev rw1 (t : Fin cfg1.N) (r : Fin 1024) : Fin 16384 := ⟨1024 * (t.val / 7) + r, by have := lt_N1 t; omega⟩

theorem x_read1 (r : Fin 1024) (k : Fin 4096) : iblk1 (V4 m ρ) c 1 t (ix2 r k)
    = A0 m c (ix3 ⟨(rw1 t r).val / 8192, by omega⟩ ⟨(rw1 t r).val % 8192, by omega⟩ k) := by
  refine Eq.trans ?_ ((congrFun (entry_x4 m ρ c) (ix2 (rw1 t r) k)).trans (entry_x m ρ c (rw1 t r) k))
  blk_ext! [iblk1, idx1 t]

/-- The array's column of a block's. -/
abbrev cl1 (t : ℕ) (n : Fin 1024) : Fin 7168 := ⟨1024 * (t % 7) + n, by omega⟩

theorem w_read1 (n : Fin 1024) (k : Fin 4096) : iblk1 (V4 m ρ) c 0 t (ix2 n k) = A1 m c (ix2 k (colT (cl1 t.val n))) := by
  refine Eq.trans ?_ ((congrFun (W4_of m ρ c main_v14 (by decide)) (ix2 (cl1 t.val n) k)).trans (entry_wt m ρ c (cl1 t.val n) k))
  blk_ext! [iblk1, idx1 t]

/-- What the second call leaves, turned: the queries and values. -/
def OUT1 : FVec Ideal S7168x16384 .bf16 := fun y => zAt (A0 m c) (A1 m c) (y 1) (colT (y 0))

theorem final1 : (dat1 (V4 m ρ) c).arrAt 2 cfg1.N = OUT1 m c := by
  refine (dat1 (V4 m ρ) c).arrAt_eq_of_covers 2 (OUT1 m c) (by decide +kernel) fun t hf y => ?_
  have hN := lt_N1 t
  blk_simp [idx1 t]
  rw [after1_2]
  have hy0 : (y 0 : ℕ) < 1024 := (y 0).isLt
  have hy1 : (y 1 : ℕ) < 1024 := (y 1).isLt
  have e0 : (win1_2.blk t).view.emb y 0 = cl1 t.val ⟨y 0, hy0⟩ := Fin.ext (by show ((win1_2.blk t).view.emb y 0 : ℕ) = 1024 * (t.val % 7) + (y 0 : ℕ); blk_simp [idx1 t]; omega)
  have e1 : (win1_2.blk t).view.emb y 1 = rw1 t ⟨y 1, hy1⟩ := Fin.ext (by show ((win1_2.blk t).view.emb y 1 : ℕ) = 1024 * (t.val / 7) + (y 1 : ℕ); blk_simp [idx1 t]; omega)
  frame_open
  frame_out
  refine (pay1_apply _ _ y).trans (Eq.symm ((congrArg₂ (fun n r => zAt (A0 m c) (A1 m c) r (colT n)) e0 e1).trans ?_))
  exact Finset.sum_congr rfl fun k _ => (mul_comm _ _).trans (congrArg₂ (· * ·) (w_read1 m ρ c t _ k).symm (x_read1 m ρ c t _ k).symm)

end Region1

section Region2

variable (t : Fin cfg2.N)

theorem lt_N2 : t.val < 16 := lt_of_lt_of_eq t.isLt N_2

theorem idx2 : ∀ t : Fin cfg2.N,
    win2_0.index t = ![t.val, 0]
    ∧ win2_1.index t = ![0, 0, 0]
    ∧ win2_2.index t = ![t.val, 0] :=
  (by decide +kernel : ∀ t : Fin grid2.N, _)

/-- The array's row of a block's. -/
abbrev rw2 (t : Fin cfg2.N) (r : Fin 1024) : Fin 16384 := ⟨1024 * (t.val) + r, by have := lt_N2 t; omega⟩

theorem x_read2 (r : Fin 1024) (k : Fin 4096) : iblk2 (V6 m ρ) c 0 t (ix2 r k)
    = A0 m c (ix3 ⟨(rw2 t r).val / 8192, by omega⟩ ⟨(rw2 t r).val % 8192, by omega⟩ k) := by
  refine Eq.trans ?_ ((congrFun (entry_x6 m ρ c) (ix2 (rw2 t r) k)).trans (entry_x m ρ c (rw2 t r) k))
  blk_ext! [iblk2, idx2 t]

theorem w_read2 (k : Fin 4096) (n : Fin 1024) : iblk2 (V6 m ρ) c 1 t (ix3 0 k n) = A1 m c (ix2 k ⟨2048 + n.val, by omega⟩) := by
  refine Eq.trans ?_ (entry_wf m ρ c k n)
  blk_ext! [iblk2, idx2 t]

/-- What the third call leaves: what the compressed keys and values are made of. -/
def OUT2 : FVec Ideal S16384x1024 .f32 := fun y => zAt (A0 m c) (A1 m c) (y 0) ⟨2048 + (y 1).val, Nat.lt_of_lt_of_le (Nat.add_lt_add_left (y 1).isLt 2048) (show 2048 + 1024 ≤ 11312 by decide)⟩

theorem final2 : (dat2 (V6 m ρ) c).arrAt 2 cfg2.N = OUT2 m c := by
  refine (dat2 (V6 m ρ) c).arrAt_eq_of_covers 2 (OUT2 m c) (by decide +kernel) fun t hf y => ?_
  have hN := lt_N2 t
  blk_simp [idx2 t]
  rw [after2_2]
  have hy0 : (y 0 : ℕ) < 1024 := (y 0).isLt
  have hy1 : (y 1 : ℕ) < 1024 := (y 1).isLt
  have e0 : (win2_2.blk t).view.emb y 0 = rw2 t ⟨y 0, hy0⟩ := Fin.ext (by show ((win2_2.blk t).view.emb y 0 : ℕ) = 1024 * t.val + (y 0 : ℕ); blk_simp [idx2 t]; omega)
  have e1 : (win2_2.blk t).view.emb y 1 = ⟨y 1, hy1⟩ := Fin.ext (by show ((win2_2.blk t).view.emb y 1 : ℕ) = (y 1 : ℕ); blk_simp [idx2 t])
  frame_open
  frame_out
  refine (pay2_apply _ _ y).trans (Eq.symm ((congrArg₂ (fun (r : Fin 16384) (n : Fin 1024) => zAt (A0 m c) (A1 m c) r ⟨2048 + n.val, by omega⟩) e0 e1).trans ?_))
  exact Finset.sum_congr rfl fun k _ => congrArg₂ (· * ·) (x_read2 m ρ c t _ k).symm (w_read2 m ρ c t k _).symm

end Region2

section Region3

variable (t : Fin cfg3.N)

theorem lt_N3 : t.val < 16 := lt_of_lt_of_eq t.isLt N_3

theorem idx3 : ∀ t : Fin cfg3.N,
    win3_0.index t = ![0, 0]
    ∧ win3_1.index t = ![t.val, 0]
    ∧ win3_2.index t = ![0, t.val] :=
  (by decide +kernel : ∀ t : Fin grid3.N, _)

/-- The array's row of a block's. -/
abbrev rw3 (t : Fin cfg3.N) (r : Fin 1024) : Fin 16384 := ⟨1024 * (t.val) + r, by have := lt_N3 t; omega⟩

theorem x_read3 (r : Fin 1024) (k : Fin 4096) : iblk3 (V7 m ρ) c 1 t (ix2 r k)
    = A0 m c (ix3 ⟨(rw3 t r).val / 8192, by omega⟩ ⟨(rw3 t r).val % 8192, by omega⟩ k) := by
  refine Eq.trans ?_ ((congrFun (entry_x7 m ρ c) (ix2 (rw3 t r) k)).trans (entry_x m ρ c (rw3 t r) k))
  blk_ext! [iblk3, idx3 t]

theorem w_read3 (n : Fin 128) (k : Fin 4096) : iblk3 (V7 m ρ) c 0 t (ix2 n k) = if h : n.val < 48 then A1 m c (ix2 k ⟨5120 + n.val, by omega⟩) else 0 := by
  refine Eq.trans ?_ ((congrFun ((W7_of m ρ c main_v20 (by decide)).trans ((W6_of m ρ c main_v20 (by decide)).trans ((W5_of m ρ c main_v20 (by decide)).trans (W4_of m ρ c main_v20 (by decide))))) (ix2 n k)).trans (entry_wg m ρ c n k))
  blk_ext! [iblk3, idx3 t]

/-- What the fourth call leaves, turned: the gates, with the padding's rows after them. -/
def OUT3 : FVec Ideal S128x16384 .f32 := fun y => sgm (∑ k : Fin 4096, (if h : (y 0).val < 48 then A1 m c (ix2 k ⟨5120 + (y 0).val, by omega⟩) else 0)
  * A0 m c (ix3 ⟨(y 1).val / 8192, Nat.div_lt_of_lt_mul (y 1).isLt⟩ ⟨(y 1).val % 8192, Nat.mod_lt _ (by decide)⟩ k))

theorem final3 : (dat3 (V7 m ρ) c).arrAt 2 cfg3.N = OUT3 m c := by
  refine (dat3 (V7 m ρ) c).arrAt_eq_of_covers 2 (OUT3 m c) (by decide +kernel) fun t hf y => ?_
  have hN := lt_N3 t
  blk_simp [idx3 t]
  rw [after3_2]
  have hy0 : (y 0 : ℕ) < 128 := (y 0).isLt
  have hy1 : (y 1 : ℕ) < 1024 := (y 1).isLt
  have e0 : (win3_2.blk t).view.emb y 0 = ⟨y 0, hy0⟩ := Fin.ext (by show ((win3_2.blk t).view.emb y 0 : ℕ) = (y 0 : ℕ); blk_simp [idx3 t])
  have e1 : (win3_2.blk t).view.emb y 1 = rw3 t ⟨y 1, hy1⟩ := Fin.ext (by show ((win3_2.blk t).view.emb y 1 : ℕ) = 1024 * t.val + (y 1 : ℕ); blk_simp [idx3 t]; omega)
  frame_open
  frame_out
  refine (pay3_apply _ _ y).trans (Eq.symm ((congrArg₂ (fun (n : Fin 128) (r : Fin 16384) => sgm (∑ k : Fin 4096, (if h : n.val < 48 then A1 m c (ix2 k ⟨5120 + n.val, by omega⟩) else 0)
    * A0 m c (ix3 ⟨r.val / 8192, by omega⟩ ⟨r.val % 8192, by omega⟩ k))) e0 e1).trans ?_))
  exact congrArg sgm (Finset.sum_congr rfl fun k _ => congrArg₂ (· * ·) (w_read3 m ρ c t _ k).symm (x_read3 m ρ c t _ k).symm)

end Region3

/-- The gates. -/
def OUT4 : FVec Ideal S48x16384 .f32 := fun y => sgm (zAt (A0 m c) (A1 m c) (y 1) ⟨5120 + (y 0).val, Nat.lt_of_lt_of_le (Nat.add_lt_add_left (y 0).isLt 5120) (show 5120 + 48 ≤ 11312 by decide)⟩)

theorem final4 : W9 m ρ c (Proc.devRef .tc main_v27) = OUT4 m c := by
  funext y
  refine (congrArg _ (eq_ix2 y)).trans ?_
  have hy0 : (y 0 : ℕ) < 48 := (y 0).isLt
  have h : (W8 m ρ c) (Proc.devRef .tc main_v26) = OUT3 m c := (W8_arr m ρ c 2).trans (final3 m ρ c)
  show StableHlo.after hostOps4 (W8 m ρ c) (Proc.devRef .tc main_v27) (ix2 (y 0) (y 1)) = _
  entry_read
  rw [h]
  pointwise []
  unfold OUT3 OUT4 zAt
  refine congrArg sgm (Finset.sum_congr rfl fun k _ => ?_)
  exact (congrArg (· * _) (dif_pos hy0)).trans (mul_comm _ _)

end Kernel

section Ref

open Cert.Reference6Ideal Cert.Reference6Ideal.Gen

theorem frame_reference : Cert.quiescent_Reference6Ideal (hReference6Ideal := Cert.Reference6Ideal.Gen.facts) := fun m g _ =>
  (θ_run Cert.Reference6Ideal.defs _ _).mono (fun r h => ⟨fun c => (h c).2.2.2.2, sem_eq_zero_of_no_sems (by decide) r.2⟩)
    (Cert.Reference6Ideal.Value.run (F := Ideal) m g)

/-- The reference's projection, both batches in turn. -/
def refZ (x : FVec Ideal S2x8192x4096 .f32) (w : FVec Ideal S4096x11312 .f32) : FVec Ideal S16384x11312 .f32 :=
  shapeCast _ (Host.dotGeneral dot_S2x8192x4096_S4096x11312_S2x8192x11312_2_0_01_1_n_n none x w) shapeCasts_S2x8192x11312_S16384x11312

theorem refZ_apply (x : FVec Ideal S2x8192x4096 .f32) (w : FVec Ideal S4096x11312 .f32) (r : Fin 16384) (n : Fin 11312) : refZ x w (ix2 r n) = zAt x w r n := by
  unfold zAt
  pointwise [refZ]

/-- The reference's four results, of the projection. -/
def refN (z : FVec Ideal S16384x11312 .f32) : FVec Ideal S16384x3072 .bf16 :=
  truncf .bf16 ((concatenate S16384x3072 1 [⟨S16384x512, ((extractStridedSlice S16384x512 ![0, 3072] z slices_S16384x11312_S16384x512_0_3072) : (⟨S16384x512, .f32⟩ : BufTy).Contents (Elt Ideal))⟩, ⟨S16384x512, ((extractStridedSlice S16384x512 ![0, 4096] z slices_S16384x11312_S16384x512_0_4096) : (⟨S16384x512, .f32⟩ : BufTy).Contents (Elt Ideal))⟩, ⟨S16384x2048, ((extractStridedSlice S16384x2048 ![0, 7216] z slices_S16384x11312_S16384x2048_0_7216) : (⟨S16384x2048, .f32⟩ : BufTy).Contents (Elt Ideal))⟩] concatenates_S16384x512_S16384x512_S16384x2048_S16384x3072_d1 : (⟨S16384x3072, .f32⟩ : BufTy).Contents (Elt Ideal))) bitsLt_bf16_f32

def refT (z : FVec Ideal S16384x11312 .f32) : FVec Ideal S7168x16384 .bf16 :=
  truncf .bf16 (transpose S7168x16384 [1, 0] ((concatenate S16384x7168 1 [⟨S16384x2048, ((extractStridedSlice S16384x2048 ![0, 0] z slices_S16384x11312_S16384x2048_0_0) : (⟨S16384x2048, .f32⟩ : BufTy).Contents (Elt Ideal))⟩, ⟨S16384x512, ((extractStridedSlice S16384x512 ![0, 3584] z slices_S16384x11312_S16384x512_0_3584) : (⟨S16384x512, .f32⟩ : BufTy).Contents (Elt Ideal))⟩, ⟨S16384x512, ((extractStridedSlice S16384x512 ![0, 4608] z slices_S16384x11312_S16384x512_0_4608) : (⟨S16384x512, .f32⟩ : BufTy).Contents (Elt Ideal))⟩, ⟨S16384x2048, ((extractStridedSlice S16384x2048 ![0, 5168] z slices_S16384x11312_S16384x2048_0_5168) : (⟨S16384x2048, .f32⟩ : BufTy).Contents (Elt Ideal))⟩, ⟨S16384x2048, ((extractStridedSlice S16384x2048 ![0, 9264] z slices_S16384x11312_S16384x2048_0_9264) : (⟨S16384x2048, .f32⟩ : BufTy).Contents (Elt Ideal))⟩] concatenates_S16384x2048_S16384x512_S16384x512_S16384x2048_S16384x2048_S16384x7168_d1 : (⟨S16384x7168, .f32⟩ : BufTy).Contents (Elt Ideal))) transposes_S16384x7168_S7168x16384_1_0) bitsLt_bf16_f32

def refF (z : FVec Ideal S16384x11312 .f32) : FVec Ideal S16384x1024 .f32 :=
  concatenate S16384x1024 1 [⟨S16384x512, (extractStridedSlice S16384x512 ![0, 2048] z slices_S16384x11312_S16384x512_0_2048)⟩, ⟨S16384x512, (extractStridedSlice S16384x512 ![0, 2560] z slices_S16384x11312_S16384x512_0_2560)⟩] concatenates_S16384x512_S16384x512_S16384x1024_d1

def refG (z : FVec Ideal S16384x11312 .f32) : FVec Ideal S48x16384 .f32 :=
  transpose S48x16384 [1, 0] (Host.divf (broadcastInDim S16384x48 ![] bcast_S_S16384x48 (constant S_ .f32 0x3F800000#32)) (addf (broadcastInDim S16384x48 ![] bcast_S_S16384x48 (constant S_ .f32 0x3F800000#32)) (Host.exp (Host.negf (extractStridedSlice S16384x48 ![0, 5120] z slices_S16384x11312_S16384x48_0_5120))))) transposes_S16384x48_S48x16384_1_0

theorem refN_apply (z : FVec Ideal S16384x11312 .f32) (r : Fin 16384) (n : Fin 3072) : refN z (ix2 r n) = z (ix2 r (colN n)) := by
  pointwise [refN]
  split_ifs <;> exact congrArg (fun q => z (ix2 r q)) (Fin.ext (by simp only [colN]; split_ifs <;> omega))

theorem refT_apply (z : FVec Ideal S16384x11312 .f32) (n : Fin 7168) (r : Fin 16384) : refT z (ix2 n r) = z (ix2 r (colT n)) := by
  pointwise [refT]
  split_ifs <;> exact congrArg (fun q => z (ix2 r q)) (Fin.ext (by simp only [colT]; split_ifs <;> omega))

theorem refF_apply (z : FVec Ideal S16384x11312 .f32) (r : Fin 16384) (n : Fin 1024) : refF z (ix2 r n) = z (ix2 r ⟨2048 + n.val, by omega⟩) := by
  pointwise [refF]
  by_cases h : n.val < 512
  · rw [dif_pos h]
  · rw [dif_neg h]
    exact congrArg (fun q => z (ix2 r q)) (Fin.ext (by show 2560 + (n.val - 512) = 2048 + n.val; omega))

theorem refG_apply (z : FVec Ideal S16384x11312 .f32) (n : Fin 48) (r : Fin 16384) : refG z (ix2 n r) = sgm (z (ix2 r ⟨5120 + n.val, by omega⟩)) := by
  unfold sgm
  pointwise [refG]

theorem algebraic : Cert.algebraic_Kernel6Ideal_Reference6Ideal (hKernel6Ideal := Cert.Kernel6Ideal.Gen.facts)
    (hReference6Ideal := Cert.Reference6Ideal.Gen.facts) := by
  intro m g m' g' hpre hag
  refine ⟨fun c => OUT0 m c, fun c => OUT1 m c, fun c => OUT2 m c, fun c => OUT4 m c, ?_, ?_⟩
  · exact (θ_run Cert.Kernel6Ideal.defs _ _).mono (fun _ h c => ⟨(h c).1.trans (final0 m g c), (h c).2.1.trans (final1 m g c), (h c).2.2.1.trans (final2 m g c),
      (h c).2.2.2.1.trans (final4 m g c), (h c).2.2.2.2⟩) (run m g)
  · have hz : ∀ c : Dev nD, refZ (m' ((c.tc : Thread nD τ).loc main_arg0)) (m' ((c.tc : Thread nD τ).loc main_arg1)) = refZ (A0 m c) (A1 m c) := by
      intro c
      obtain ⟨e0, e1⟩ := hag c
      have f0 : m' ((c.tc : Thread nD τ).loc main_arg0) = A0 m c := e0
      have f1 : m' ((c.tc : Thread nD τ).loc main_arg1) = A1 m c := e1
      rw [f0, f1]
    have h0 : ∀ c : Dev nD, refN (refZ (A0 m c) (A1 m c)) = OUT0 m c := fun c => funext fun y =>
      (congrArg _ (eq_ix2 y)).trans ((refN_apply _ (y 0) (y 1)).trans (refZ_apply _ _ (y 0) _))
    have h1 : ∀ c : Dev nD, refT (refZ (A0 m c) (A1 m c)) = OUT1 m c := fun c => funext fun y =>
      (congrArg _ (eq_ix2 y)).trans ((refT_apply _ (y 0) (y 1)).trans (refZ_apply _ _ (y 1) _))
    have h2 : ∀ c : Dev nD, refF (refZ (A0 m c) (A1 m c)) = OUT2 m c := fun c => funext fun y =>
      (congrArg _ (eq_ix2 y)).trans ((refF_apply _ (y 0) (y 1)).trans (refZ_apply _ _ (y 0) _))
    have h3 : ∀ c : Dev nD, refG (refZ (A0 m c) (A1 m c)) = OUT4 m c := fun c => funext fun y =>
      (congrArg _ (eq_ix2 y)).trans ((refG_apply _ (y 0) (y 1)).trans (congrArg sgm (refZ_apply _ _ (y 1) _)))
    exact (θ_run Cert.Reference6Ideal.defs _ _).mono (fun _ h c => ⟨(h c).1.trans ((congrArg refN (hz c)).trans (h0 c)), (h c).2.1.trans ((congrArg refT (hz c)).trans (h1 c)),
      (h c).2.2.1.trans ((congrArg refF (hz c)).trans (h2 c)), (h c).2.2.2.1.trans ((congrArg refG (hz c)).trans (h3 c)), (h c).2.2.2.2⟩) (Cert.Reference6Ideal.Value.run (F := Ideal) m' g')

end Ref

end Cert.Proof.AttnIn

end
-- ==== Proof.Compress.lean ====
/- The compression of keys and values into overlapping blocks: the kernel's two result arrays and the reference's. -/
module

public import proofs.«01_k».proof.Defs
public import proofs.«01_k».proof.Proof.Norm
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal.Run
public import Idealize.ShloMosaic.Lib.Claim
public import Idealize.ShloMosaic.Lib.Quiescent
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Proof.Compress

open Idealize.ShloMosaic Idealize.ShloMosaic.TcCoe Idealize.SL.Sem

section Kernel

open Cert.Kernel7Ideal Cert.Kernel7Ideal.Gen

section Payload

/-- Row `i` with a positional row added, times column `n` of a block of the first weight. -/
def tm (x : FVec Ideal S512x128 .f32) (b : FVec Ideal S1x1x128 .f32) (w : FVec Ideal S1x128x128 .bf16) (i : Fin 512) (n : Fin 128) : EReal :=
  ∑ d : Fin 128, (x (ix2 i d) + b (ix3 0 0 d)) * w (ix3 0 d n)

/-- The tanh form of the Gaussian error linear unit. -/
def gelu (s : EReal) : EReal :=
  s * (Ideal.ofBits .f32 0x3F000000#32 * (Ideal.ofBits .f32 0x3F800000#32 +
    Ideal.tanh (Ideal.ofBits .f32 0x3F4C422A#32 * (s + Ideal.ofBits .f32 0x3D372713#32 * (s * (s * s))))))

theorem pay3_apply (x b w) (i : Fin 512) (n : Fin 128) : (k0_pay3 x b w : FVec Ideal S512x128 .f32) (ix2 i n) = tm x b w i n := by
  pointwise [k0_pay3, tm]

theorem pay12_apply (x b w) (i : Fin 512) (n : Fin 128) : (k0_pay12 x b w : FVec Ideal S512x128 .f32) (ix2 i n) = tm x b w i n := by
  pointwise [k0_pay12, tm]

variable (x : Fin 16 → FVec Ideal S512x128 .f32) (b : Fin 32 → FVec Ideal S1x1x128 .f32) (w : Fin 32 → FVec Ideal S1x128x128 .bf16)
  (v : FVec Ideal S1x128x128 .bf16)

/-- The running sum over the first fifteen rows of a chunk, against the first half of the weight. -/
def low : FVec Ideal S512x128 .f32 :=
  k0_pay30 (k0_pay26 (k0_pay25 (k0_pay21 (k0_pay18 (k0_pay13 (k0_pay11 (k0_pay7 (k0_pay3 (x 0) (b 0) (w 0)) (k0_pay5 (x 1) (b 1)) (w 1) (x 2) (b 2) (w 2)) (x 3) (k0_pay9 (b 3)) (w 3) (x 4) (b 4) (w 4)) (x 5) (b 5) (w 5)) (k0_pay15 (x 6) (b 6)) (k0_pay17 (w 6)) (x 7) (b 7) (w 7)) (k0_pay20 (x 8) (b 8)) (w 8) (x 9) (b 9) (w 9)) (x 10) (b 10) (w 10) (x 11) (b 11) (w 11)) (x 12) (b 12) (w 12)) (k0_pay28 (x 13) (b 13)) (w 13) (x 14) (b 14) (w 14)

/-- The same against the second half of the weight. -/
def high : FVec Ideal S512x128 .f32 :=
  k0_pay31 (k0_pay27 (k0_pay23 (k0_pay22 (k0_pay19 (k0_pay14 (k0_pay10 (k0_pay8 (k0_pay4 (x 0) (b 16) (w 16)) (k0_pay6 (x 1) (b 17)) (w 17) (x 2) (b 18) (w 18)) (x 3) (b 19) (w 19)) (k0_pay12 (x 4) (b 20) (w 20)) (x 5) (b 21) (w 21)) (k0_pay16 (x 6) (b 22)) (w 22) (x 7) (b 23) (w 23)) (x 8) (b 24) (w 24) (x 9) (b 25) (w 25)) (x 10) (b 26) (w 26)) (k0_pay24 (x 11) (b 27)) (w 27) (x 12) (b 28) (w 28)) (k0_pay29 (x 13) (b 29)) (w 29) (x 14) (b 30) (w 30)

/-- The running sum, term by term. -/
def run (q : Fin 16 → Fin 32) : FVec Ideal S512x128 .f32 :=
  addf (addf (addf (addf (addf (addf (addf (addf (addf (addf (addf (addf (addf (addf (k0_pay3 (x 0) (b (q 0)) (w (q 0))) (k0_pay12 (x 1) (b (q 1)) (w (q 1)))) (k0_pay12 (x 2) (b (q 2)) (w (q 2)))) (k0_pay12 (x 3) (b (q 3)) (w (q 3)))) (k0_pay12 (x 4) (b (q 4)) (w (q 4)))) (k0_pay12 (x 5) (b (q 5)) (w (q 5)))) (k0_pay12 (x 6) (b (q 6)) (w (q 6)))) (k0_pay12 (x 7) (b (q 7)) (w (q 7)))) (k0_pay12 (x 8) (b (q 8)) (w (q 8)))) (k0_pay12 (x 9) (b (q 9)) (w (q 9)))) (k0_pay12 (x 10) (b (q 10)) (w (q 10)))) (k0_pay12 (x 11) (b (q 11)) (w (q 11)))) (k0_pay12 (x 12) (b (q 12)) (w (q 12)))) (k0_pay12 (x 13) (b (q 13)) (w (q 13)))) (k0_pay12 (x 14) (b (q 14)) (w (q 14)))

theorem low_eq : low x b w = run x b w ![0, 1, 2, 3, 4, 5, 6, 7, 8, 9, 10, 11, 12, 13, 14, 15] := rfl

theorem high_eq : high x b w = run x b w ![16, 17, 18, 19, 20, 21, 22, 23, 24, 25, 26, 27, 28, 29, 30, 31] := rfl

theorem add_ix (a b : FVec Ideal S512x128 .f32) (y : S512x128.Idx) : (addf a b y : EReal) = a y + b y := rfl

theorem sum16 (f : Fin 16 → EReal) : f 0 + f 1 + f 2 + f 3 + f 4 + f 5 + f 6 + f 7 + f 8 + f 9 + f 10 + f 11 + f 12 + f 13 + f 14 + f 15 = ∑ p, f p := by
  simp only [Fin.sum_univ_castSucc, Fin.sum_univ_zero, zero_add]
  rfl

theorem run_apply (q : Fin 16 → Fin 32) (i : Fin 512) (n : Fin 128) :
    run x b w q (ix2 i n) + tm (x 15) (b (q 15)) (w (q 15)) i n = ∑ p : Fin 16, tm (x p) (b (q p)) (w (q p)) i n := by
  refine Eq.trans ?_ (sum16 fun p => tm (x p) (b (q p)) (w (q p)) i n)
  unfold run
  simp only [add_ix, pay3_apply, pay12_apply]

/-- The row after `i`, the last row's being the first. -/
def nx (i : Fin 512) : Fin 512 := ⟨(i.val + 512 - 511) % 512, Nat.mod_lt _ (by decide)⟩

theorem pay33_apply (l h : FVec Ideal S512x128 .f32) (x' b1 b2 w1 w2) (i : Fin 512) (n : Fin 128) :
    (k0_pay33 l h x' (k0_pay32 b1) b2 w1 w2 v : FVec Ideal S512x128 .f32) (ix2 i n)
      = ∑ j : Fin 128, gelu ((l (ix2 i j) + tm x' b1 w1 i j)
          + (h (ix2 (nx i) j) + tm x' b2 w2 (nx i) j)) * v (ix3 0 j n) := by
  unfold gelu tm nx
  pointwise [k0_pay33, k0_pay32]

end Payload

section Array

variable (m : (ℓ : Loc nD τ sig) → Buf (Elt Ideal) ℓ) (c : Dev nD) (t : Fin cfg0.N)

theorem lt_N : t.val < 16 := lt_of_lt_of_eq t.isLt N_0

theorem idx : ∀ t : Fin cfg0.N,
    win0_0.index t = ![t.val / 8, t.val % 8]
    ∧ win0_1.index t = ![t.val % 8 / 4, 0, 0]
    ∧ win0_2.index t = ![t.val % 8 / 4, 0, 0]
    ∧ win0_3.index t = ![t.val % 8 / 4, 0, 0]
    ∧ win0_4.index t = ![t.val / 8, t.val % 8, 0, 0]
    ∧ win0_5.index t = ![t.val / 8, t.val % 8, 0, 0] :=
  (by decide +kernel : ∀ t : Fin grid0.N, _)

theorem inb_row (q : Fin 32) : ∀ a, (![0, q.val, 0] : Fin 3 → Nat) a + S1x1x128.size a ≤ S1x32x128.size a := by
  revert q; decide

theorem inb_wrow (q : Fin 32) : ∀ a, (![0, 128 * q.val, 0] : Fin 3 → Nat) a + S1x128x128.size a ≤ S1x4096x128.size a := by
  revert q; decide

theorem inb_str (p : Fin 16) : ∀ a, S512x128.size a = 0 ∨ (![p.val, 0] : Fin 2 → Nat) a + (![16, 1] : Fin 2 → Nat) a * (S512x128.size a - 1) < S8192x128.size a := by
  revert p; decide

/-- Every sixteenth row of the point's block from row `p` on; a positional row; a block of the first weight. -/
def rows (p : Fin 16) : FVec Ideal S512x128 .f32 :=
  View.readAt (Elt Ideal) (ms0_0 t).view (⟨![p.val, 0], S512x128.size, ![16, 1], inb_str p⟩ : LoadRect S8192x128) ((hs0_0 t).unread (iblk m c 0 t))
def prow (q : Fin 32) : FVec Ideal S1x1x128 .f32 := View.ld (iblk m c 1 t) (Rect.unit (s := S1x32x128) ![0, q.val, 0] S1x1x128.size (inb_row q))
def wrow (q : Fin 32) : FVec Ideal S1x128x128 .bf16 := View.ld (iblk m c 2 t) (Rect.unit (s := S1x4096x128) ![0, 128 * q.val, 0] S1x128x128.size (inb_wrow q))

theorem rows_apply (p : Fin 16) (i : Fin 512) (d : Fin 128) :
    rows m c t p (ix2 i d) = iblk m c 0 t (ix2 ⟨16 * i.val + p.val, by omega⟩ d) := by
  refine ((hs0_0 t).readAt_unread (iblk m c 0 t) _ _).trans (congrArg (iblk m c 0 t) (funext fun a => ?_))
  refine Fin.cases ?_ (fun a => Fin.cases ?_ (fun a => a.elim0) a) a
  · exact Fin.ext (by show p.val + 16 * i.val = 16 * i.val + p.val; omega)
  · exact Fin.ext (by show 0 + 1 * d.val = d.val; omega)

theorem prow_apply (q : Fin 32) (d : Fin 128) : prow m c t q (ix3 0 0 d) = iblk m c 1 t (ix3 0 q d) := by
  refine congrArg (iblk m c 1 t) (funext fun a => ?_)
  refine Fin.cases ?_ (fun a => Fin.cases ?_ (fun a => Fin.cases ?_ (fun a => a.elim0) a) a) a
  · exact Fin.ext rfl
  · exact Fin.ext (by show q.val + 1 * 0 = q.val; omega)
  · exact Fin.ext (by show 0 + 1 * d.val = d.val; omega)

theorem wrow_apply (q : Fin 32) (d n : Fin 128) : wrow m c t q (ix3 0 d n) = iblk m c 2 t (ix3 0 ⟨128 * q.val + d.val, by omega⟩ n) := by
  refine congrArg (iblk m c 2 t) (funext fun a => ?_)
  refine Fin.cases ?_ (fun a => Fin.cases ?_ (fun a => Fin.cases ?_ (fun a => a.elim0) a) a) a
  · exact Fin.ext rfl
  · exact Fin.ext (by show 128 * q.val + 1 * d.val = 128 * q.val + d.val; omega)
  · exact Fin.ext (by show 0 + 1 * n.val = n.val; omega)

/-- The point's block of the compressed rows, before it is written in either order. -/
abbrev comp : FVec Ideal S512x128 .f32 :=
  k0_pay33 (low (rows m c t) (prow m c t) (wrow m c t)) (high (rows m c t) (prow m c t) (wrow m c t)) (rows m c t 15) (k0_pay32 (prow m c t 15)) (prow m c t 31)
    (wrow m c t 15) (wrow m c t 31) (iblk m c 3 t)

theorem out4 (y : S1x1x512x128.Idx) : (outsAt0 m c t).1 y = comp m c t (ix2 (y 2) (y 3)) := by
  have h : ∀ (v : FVec Ideal S512x128 .f32) (y : S1x1x512x128.Idx), k0_pay1 (truncf .bf16 v bitsLt_bf16_f32) y = v (ix2 (y 2) (y 3)) := fun v y => by
    pointwise [k0_pay1]
  refine Eq.trans ?_ (h (comp m c t) y)
  unfold outsAt0
  frame_open
  frame_out
  rfl

theorem out5 (y : S1x1x128x512.Idx) : (outsAt0 m c t).2 y = comp m c t (ix2 (y 3) (y 2)) := by
  have h : ∀ (v : FVec Ideal S512x128 .f32) (y : S1x1x128x512.Idx), k0_pay2 v y = v (ix2 (y 3) (y 2)) := fun v y => by
    pointwise [k0_pay2]
  refine Eq.trans ?_ (h (comp m c t) y)
  unfold outsAt0
  frame_open
  frame_out
  rfl

/-- The arguments. -/
abbrev A0 : FVec Ideal S16384x1024 .f32 := m ((c.tc : Thread nD τ).loc main_arg0)
abbrev A1 : FVec Ideal S32x128 .f32 := m ((c.tc : Thread nD τ).loc main_arg1)
abbrev A2 : FVec Ideal S4096x128 .f32 := m ((c.tc : Thread nD τ).loc main_arg2)
abbrev A3 : FVec Ideal S128x128 .f32 := m ((c.tc : Thread nD τ).loc main_arg3)
abbrev A4 : FVec Ideal S32x128 .f32 := m ((c.tc : Thread nD τ).loc main_arg4)
abbrev A5 : FVec Ideal S4096x128 .f32 := m ((c.tc : Thread nD τ).loc main_arg5)
abbrev A6 : FVec Ideal S128x128 .f32 := m ((c.tc : Thread nD τ).loc main_arg6)

theorem x_read (r : Fin 8192) (d : Fin 128) :
    iblk m c 0 t (ix2 r d) = A0 m c (ix2 ⟨8192 * (t.val / 8) + r.val, by have := lt_N t; omega⟩ ⟨128 * (t.val % 8) + d.val, by omega⟩) := by
  blk_ext! [iblk, V, idx t]

theorem host_pos : V m c main_v2 = concatenate S2x32x128 0 [⟨S1x32x128, broadcastInDim S1x32x128 ![1, 2] bcast_S32x128_S1x32x128_1_2 (A1 m c)⟩,
    ⟨S1x32x128, broadcastInDim S1x32x128 ![1, 2] bcast_S32x128_S1x32x128_1_2 (A4 m c)⟩] concatenates_S1x32x128_S1x32x128_S2x32x128_d0 := by
  unfold V hostOps0
  after_results <;> rfl

theorem host_w1 : V m c main_v6 = truncf .bf16 (concatenate S2x4096x128 0 [⟨S1x4096x128, broadcastInDim S1x4096x128 ![1, 2] bcast_S4096x128_S1x4096x128_1_2 (A2 m c)⟩,
    ⟨S1x4096x128, broadcastInDim S1x4096x128 ![1, 2] bcast_S4096x128_S1x4096x128_1_2 (A5 m c)⟩] concatenates_S1x4096x128_S1x4096x128_S2x4096x128_d0) bitsLt_bf16_f32 := by
  unfold V hostOps0
  after_results <;> rfl

theorem host_w2 : V m c main_v10 = truncf .bf16 (concatenate S2x128x128 0 [⟨S1x128x128, broadcastInDim S1x128x128 ![1, 2] bcast_S128x128_S1x128x128_1_2 (A3 m c)⟩,
    ⟨S1x128x128, broadcastInDim S1x128x128 ![1, 2] bcast_S128x128_S1x128x128_1_2 (A6 m c)⟩] concatenates_S1x128x128_S1x128x128_S2x128x128_d0) bitsLt_bf16_f32 := by
  unfold V hostOps0
  after_results <;> rfl

theorem pair_pos (a b : FVec Ideal S32x128 .f32) (s : Fin 2) (q : Fin 32) (d : Fin 128) :
    concatenate S2x32x128 0 [⟨S1x32x128, broadcastInDim S1x32x128 ![1, 2] bcast_S32x128_S1x32x128_1_2 a⟩,
      ⟨S1x32x128, broadcastInDim S1x32x128 ![1, 2] bcast_S32x128_S1x32x128_1_2 b⟩] concatenates_S1x32x128_S1x32x128_S2x32x128_d0 (ix3 s q d)
      = if (s : ℕ) = 0 then a (ix2 q d) else b (ix2 q d) := by
  rcases Fin.exists_fin_two.mp ⟨s, rfl⟩ with h | h <;> subst h <;> pointwise []

theorem pair_w1 (a b : FVec Ideal S4096x128 .f32) (s : Fin 2) (q : Fin 4096) (d : Fin 128) :
    truncf .bf16 (concatenate S2x4096x128 0 [⟨S1x4096x128, broadcastInDim S1x4096x128 ![1, 2] bcast_S4096x128_S1x4096x128_1_2 a⟩,
      ⟨S1x4096x128, broadcastInDim S1x4096x128 ![1, 2] bcast_S4096x128_S1x4096x128_1_2 b⟩] concatenates_S1x4096x128_S1x4096x128_S2x4096x128_d0) bitsLt_bf16_f32 (ix3 s q d)
      = if (s : ℕ) = 0 then a (ix2 q d) else b (ix2 q d) := by
  rcases Fin.exists_fin_two.mp ⟨s, rfl⟩ with h | h <;> subst h <;> pointwise []

theorem pair_w2 (a b : FVec Ideal S128x128 .f32) (s : Fin 2) (q : Fin 128) (d : Fin 128) :
    truncf .bf16 (concatenate S2x128x128 0 [⟨S1x128x128, broadcastInDim S1x128x128 ![1, 2] bcast_S128x128_S1x128x128_1_2 a⟩,
      ⟨S1x128x128, broadcastInDim S1x128x128 ![1, 2] bcast_S128x128_S1x128x128_1_2 b⟩] concatenates_S1x128x128_S1x128x128_S2x128x128_d0) bitsLt_bf16_f32 (ix3 s q d)
      = if (s : ℕ) = 0 then a (ix2 q d) else b (ix2 q d) := by
  rcases Fin.exists_fin_two.mp ⟨s, rfl⟩ with h | h <;> subst h <;> pointwise []

/-- The set of weights a point uses: the keys' for the first four groups, the values' for the others. -/
abbrev side : Fin 2 := ⟨t.val % 8 / 4, by omega⟩

theorem p_read (q : Fin 32) (d : Fin 128) : iblk m c 1 t (ix3 0 q d) = if (side t : ℕ) = 0 then A1 m c (ix2 q d) else A4 m c (ix2 q d) := by
  refine Eq.trans ?_ ((congrFun (host_pos m c) (ix3 (side t) q d)).trans (pair_pos _ _ _ q d))
  blk_ext! [iblk, idx t]

theorem w1_read (q : Fin 4096) (d : Fin 128) : iblk m c 2 t (ix3 0 q d) = if (side t : ℕ) = 0 then A2 m c (ix2 q d) else A5 m c (ix2 q d) := by
  refine Eq.trans ?_ ((congrFun (host_w1 m c) (ix3 (side t) q d)).trans (pair_w1 _ _ _ q d))
  blk_ext! [iblk, idx t]

theorem w2_read (q : Fin 128) (d : Fin 128) : iblk m c 3 t (ix3 0 q d) = if (side t : ℕ) = 0 then A3 m c (ix2 q d) else A6 m c (ix2 q d) := by
  refine Eq.trans ?_ ((congrFun (host_w2 m c) (ix3 (side t) q d)).trans (pair_w2 _ _ _ q d))
  blk_ext! [iblk, idx t]

/-- One compressed entry under one set of weights: thirty-two rows from row `16 * i` on, with their positional rows, through the two-layer network.
The last block's second half is the first sixteen rows. -/
def cell (X : FVec Ideal S16384x1024 .f32) (P : FVec Ideal S32x128 .f32) (W : FVec Ideal S4096x128 .f32) (U : FVec Ideal S128x128 .f32)
    (bt : Fin 2) (g : Fin 8) (i : Fin 512) (n : Fin 128) : EReal :=
  ∑ j : Fin 128, gelu (∑ p : Fin 32, ∑ d : Fin 128,
    (X (ix2 ⟨8192 * bt.val + (16 * i.val + p.val) % 8192, by omega⟩ ⟨128 * g.val + d.val, by omega⟩) + P (ix2 p d))
      * W (ix2 ⟨128 * p.val + d.val, by omega⟩ j)) * U (ix2 j n)

/-- The compressed entry of a group: the first four are keys, the others values. -/
def resAt (X : FVec Ideal S16384x1024 .f32) (Pk : FVec Ideal S32x128 .f32) (Wk : FVec Ideal S4096x128 .f32) (Uk : FVec Ideal S128x128 .f32)
    (Pv : FVec Ideal S32x128 .f32) (Wv : FVec Ideal S4096x128 .f32) (Uv : FVec Ideal S128x128 .f32)
    (bt : Fin 2) (g : Fin 8) (i : Fin 512) (n : Fin 128) : EReal :=
  if g.val / 4 = 0 then cell X Pk Wk Uk bt g i n else cell X Pv Wv Uv bt g i n

abbrev bt : Fin 2 := ⟨t.val / 8, by have := lt_N t; omega⟩
abbrev gr : Fin 8 := ⟨t.val % 8, by omega⟩

theorem split32 (f : Fin 32 → EReal) :
    (∑ p : Fin 16, f (![0, 1, 2, 3, 4, 5, 6, 7, 8, 9, 10, 11, 12, 13, 14, 15] p))
      + (∑ p : Fin 16, f (![16, 17, 18, 19, 20, 21, 22, 23, 24, 25, 26, 27, 28, 29, 30, 31] p)) = ∑ p : Fin 32, f p := by
  refine Eq.trans ?_ (Fin.sum_univ_add (a := 16) (b := 16) f).symm
  refine congrArg₂ (· + ·) (Finset.sum_congr rfl fun p _ => congrArg f ?_) (Finset.sum_congr rfl fun p _ => congrArg f ?_)
  · revert p; decide
  · revert p; decide

theorem val16 : ∀ p : Fin 16, ((![0, 1, 2, 3, 4, 5, 6, 7, 8, 9, 10, 11, 12, 13, 14, 15] : Fin 16 → Fin 32) p : ℕ) = p.val := by decide
theorem val32 : ∀ p : Fin 16, ((![16, 17, 18, 19, 20, 21, 22, 23, 24, 25, 26, 27, 28, 29, 30, 31] : Fin 16 → Fin 32) p : ℕ) = 16 + p.val := by decide

/-- The point's block under the set of weights it reads. -/
theorem comp_cell (P : FVec Ideal S32x128 .f32) (W : FVec Ideal S4096x128 .f32) (U : FVec Ideal S128x128 .f32)
    (hP : ∀ q d, iblk m c 1 t (ix3 0 q d) = P (ix2 q d)) (hW : ∀ q d, iblk m c 2 t (ix3 0 q d) = W (ix2 q d))
    (hU : ∀ q d, iblk m c 3 t (ix3 0 q d) = U (ix2 q d)) (i : Fin 512) (n : Fin 128) :
    comp m c t (ix2 i n) = cell (A0 m c) P W U (bt t) (gr t) i n := by
  have hN := lt_N t
  refine (pay33_apply (iblk m c 3 t) _ _ _ _ _ _ _ i n).trans (Finset.sum_congr rfl fun j _ => congrArg₂ (· * ·) (congrArg gelu ?_) (hU j n))
  rw [low_eq, high_eq]
  refine (congrArg₂ (· + ·) (run_apply _ _ _ _ i j) (run_apply _ _ _ _ (nx i) j)).trans (Eq.trans ?_ (split32 _))
  refine congrArg₂ (· + ·) (Finset.sum_congr rfl fun p _ => Finset.sum_congr rfl fun d _ => ?_) (Finset.sum_congr rfl fun p _ => Finset.sum_congr rfl fun d _ => ?_)
  · rw [rows_apply, prow_apply, wrow_apply, x_read, hP, hW]
    refine congrArg₂ (· * ·) (congrArg₂ (· + ·) (congrArg (A0 m c) (congrArg₂ ix2 (Fin.ext ?_) rfl)) rfl) rfl
    have := val16 p
    show 8192 * (t.val / 8) + (16 * i.val + p.val) = 8192 * (t.val / 8) + (16 * i.val + _) % 8192
    omega
  · rw [rows_apply, prow_apply, wrow_apply, x_read, hP, hW]
    refine congrArg₂ (· * ·) (congrArg₂ (· + ·) (congrArg (A0 m c) (congrArg₂ ix2 (Fin.ext ?_) rfl)) rfl) rfl
    have := val32 p
    show 8192 * (t.val / 8) + (16 * ((i.val + 512 - 511) % 512) + p.val) = 8192 * (t.val / 8) + (16 * i.val + _) % 8192
    omega

theorem comp_apply (i : Fin 512) (n : Fin 128) :
    comp m c t (ix2 i n) = resAt (A0 m c) (A1 m c) (A2 m c) (A3 m c) (A4 m c) (A5 m c) (A6 m c) (bt t) (gr t) i n := by
  unfold resAt
  by_cases h : t.val % 8 / 4 = 0
  · rw [if_pos h]
    exact comp_cell m c t _ _ _ (fun q d => (p_read m c t q d).trans (if_pos h)) (fun q d => (w1_read m c t q d).trans (if_pos h))
      (fun q d => (w2_read m c t q d).trans (if_pos h)) i n
  · rw [if_neg h]
    exact comp_cell m c t _ _ _ (fun q d => (p_read m c t q d).trans (if_neg h)) (fun q d => (w1_read m c t q d).trans (if_neg h))
      (fun q d => (w2_read m c t q d).trans (if_neg h)) i n

/-- The two result arrays: block by block, and transposed. -/
def OUT4 : FVec Ideal S2x8x512x128 .bf16 := fun y =>
  resAt (A0 m c) (A1 m c) (A2 m c) (A3 m c) (A4 m c) (A5 m c) (A6 m c) (y 0) (y 1) (y 2) (y 3)
def OUT5 : FVec Ideal S2x8x128x512 .bf16 := fun y =>
  resAt (A0 m c) (A1 m c) (A2 m c) (A3 m c) (A4 m c) (A5 m c) (A6 m c) (y 0) (y 1) (y 3) (y 2)

theorem final4 : (dats m 0 c).arrAt 4 cfg0.N = OUT4 m c := by
  refine (dats m 0 c).arrAt_eq_of_covers 4 (OUT4 m c) (by decide +kernel) fun t hf y => ?_
  have hN := lt_N t
  blk_simp [idx t]
  rw [after0_4]
  have hy0 : (y 0 : ℕ) < 1 := (y 0).isLt
  have hy1 : (y 1 : ℕ) < 1 := (y 1).isLt
  have hy2 : (y 2 : ℕ) < 512 := (y 2).isLt
  have hy3 : (y 3 : ℕ) < 128 := (y 3).isLt
  have e0 : (win0_4.blk t).view.emb y 0 = bt t := Fin.ext (by show ((win0_4.blk t).view.emb y 0 : ℕ) = t.val / 8; blk_simp [idx t])
  have e1 : (win0_4.blk t).view.emb y 1 = gr t := Fin.ext (by show ((win0_4.blk t).view.emb y 1 : ℕ) = t.val % 8; blk_simp [idx t])
  have e2 : (win0_4.blk t).view.emb y 2 = ⟨y 2, hy2⟩ := Fin.ext (by show ((win0_4.blk t).view.emb y 2 : ℕ) = (y 2 : ℕ); blk_simp [idx t])
  have e3 : (win0_4.blk t).view.emb y 3 = ⟨y 3, hy3⟩ := Fin.ext (by show ((win0_4.blk t).view.emb y 3 : ℕ) = (y 3 : ℕ); blk_simp [idx t])
  refine (out4 m c t y).trans ((comp_apply m c t _ _).trans ?_)
  exact (congr (congr (congrArg₂ (resAt _ _ _ _ _ _ _) e0 e1) e2) e3).symm

theorem final5 : (dats m 0 c).arrAt 5 cfg0.N = OUT5 m c := by
  refine (dats m 0 c).arrAt_eq_of_covers 5 (OUT5 m c) (by decide +kernel) fun t hf y => ?_
  have hN := lt_N t
  blk_simp [idx t]
  rw [after0_5]
  have hy0 : (y 0 : ℕ) < 1 := (y 0).isLt
  have hy1 : (y 1 : ℕ) < 1 := (y 1).isLt
  have hy2 : (y 2 : ℕ) < 128 := (y 2).isLt
  have hy3 : (y 3 : ℕ) < 512 := (y 3).isLt
  have e0 : (win0_5.blk t).view.emb y 0 = bt t := Fin.ext (by show ((win0_5.blk t).view.emb y 0 : ℕ) = t.val / 8; blk_simp [idx t])
  have e1 : (win0_5.blk t).view.emb y 1 = gr t := Fin.ext (by show ((win0_5.blk t).view.emb y 1 : ℕ) = t.val % 8; blk_simp [idx t])
  have e2 : (win0_5.blk t).view.emb y 2 = ⟨y 2, hy2⟩ := Fin.ext (by show ((win0_5.blk t).view.emb y 2 : ℕ) = (y 2 : ℕ); blk_simp [idx t])
  have e3 : (win0_5.blk t).view.emb y 3 = ⟨y 3, hy3⟩ := Fin.ext (by show ((win0_5.blk t).view.emb y 3 : ℕ) = (y 3 : ℕ); blk_simp [idx t])
  refine (out5 m c t y).trans ((comp_apply m c t _ _).trans ?_)
  exact (congr (congr (congrArg₂ (resAt _ _ _ _ _ _ _) e0 e1) e3) e2).symm

end Array

end Kernel

section Ref

open Cert.Reference7Ideal Cert.Reference7Ideal.Gen

theorem frame_reference : Cert.quiescent_Reference7Ideal (hReference7Ideal := Cert.Reference7Ideal.Gen.facts) := fun m g _ =>
  (θ_run Cert.Reference7Ideal.defs _ _).mono (fun r h => ⟨fun c => (h c).2.2, sem_eq_zero_of_no_sems (by decide) r.2⟩)
    (Cert.Reference7Ideal.Value.run (F := Ideal) m g)

/-- The reference's stages as the program composes them: the chunks of sixteen rows, the next chunk, the blocks with their positional rows as one long row. -/
def chunk (k : FVec Ideal S16384x512 .f32) : FVec Ideal S2x512x16x4x128 .f32 := shapeCast _ k shapeCasts_S16384x512_S2x512x16x4x128

def next (h : FVec Ideal S2x512x16x4x128 .f32) : FVec Ideal S2x512x16x4x128 .f32 :=
  concatenate S2x512x16x4x128 1 [⟨S2x511x16x4x128, extractStridedSlice S2x511x16x4x128 ![0, 1, 0, 0, 0] h slices_S2x512x16x4x128_S2x511x16x4x128_0_1_0_0_0⟩,
    ⟨S2x1x16x4x128, extractStridedSlice S2x1x16x4x128 ![0, 0, 0, 0, 0] h slices_S2x512x16x4x128_S2x1x16x4x128_0_0_0_0_0⟩] concatenates_S2x511x16x4x128_S2x1x16x4x128_S2x512x16x4x128_d1

def join (h e : FVec Ideal S2x512x16x4x128 .f32) : FVec Ideal S2x512x32x4x128 .f32 :=
  concatenate S2x512x32x4x128 2 [⟨S2x512x16x4x128, h⟩, ⟨S2x512x16x4x128, e⟩] concatenates_S2x512x16x4x128_S2x512x16x4x128_S2x512x32x4x128_d2

def long (j : FVec Ideal S2x512x32x4x128 .f32) (P : FVec Ideal S32x128 .f32) : FVec Ideal S2x512x4x4096 .f32 :=
  shapeCast _ (transpose S2x512x4x32x128 [0, 1, 3, 2, 4] (addf j (broadcastInDim S2x512x32x4x128 ![0, 1, 2, 3, 4] bcast_S1x1x32x1x128_S2x512x32x4x128_0_1_2_3_4
    (broadcastInDim S1x1x32x1x128 ![2, 4] bcast_S32x128_S1x1x32x1x128_2_4 P))) transposes_S2x512x32x4x128_S2x512x4x32x128_0_1_3_2_4) shapeCasts_S2x512x4x32x128_S2x512x4x4096

def act (s : FVec Ideal S2x512x4x128 .f32) : FVec Ideal S2x512x4x128 .f32 :=
  mulf s (mulf (broadcastInDim S2x512x4x128 ![] bcast_S_S2x512x4x128 (constant S_ .f32 0x3F000000#32)) (addf (broadcastInDim S2x512x4x128 ![] bcast_S_S2x512x4x128 (constant S_ .f32 0x3F800000#32))
    (Host.tanh (mulf (broadcastInDim S2x512x4x128 ![] bcast_S_S2x512x4x128 (constant S_ .f32 0x3F4C422A#32))
      (addf s (mulf (broadcastInDim S2x512x4x128 ![] bcast_S_S2x512x4x128 (constant S_ .f32 0x3D372713#32)) (mulf (mulf s s) s)))))))

def part (k : FVec Ideal S16384x512 .f32) (P : FVec Ideal S32x128 .f32) (W : FVec Ideal S4096x128 .f32) (U : FVec Ideal S128x128 .f32) : FVec Ideal S2x512x4x128 .f32 :=
  Host.dotGeneral dot_S2x512x4x128_S128x128_S2x512x4x128_3_0_012_1_n_n none
    (act (Host.dotGeneral dot_S2x512x4x4096_S4096x128_S2x512x4x128_3_0_012_1_n_n none (long (join (chunk k) (next (chunk k))) P) W)) U

theorem chunk_apply (k : FVec Ideal S16384x512 .f32) (b : Fin 2) (i : Fin 512) (p : Fin 16) (g : Fin 4) (d : Fin 128) :
    chunk k (ix5 b i p g d) = k (ix2 ⟨8192 * b.val + (16 * i.val + p.val), by omega⟩ ⟨128 * g.val + d.val, by omega⟩) := by
  have e : chunk k (ix5 b i p g d) = k (ix2 ⟨b.val * 8192 + i.val * 16 + p.val, by omega⟩ ⟨g.val * 128 + d.val, by omega⟩) := by
    pointwise [chunk]
  refine e.trans (congrArg k (congrArg₂ ix2 (Fin.ext ?_) (Fin.ext ?_)))
  · show b.val * 8192 + i.val * 16 + p.val = 8192 * b.val + (16 * i.val + p.val)
    omega
  · show g.val * 128 + d.val = 128 * g.val + d.val
    omega

theorem next_apply (h : FVec Ideal S2x512x16x4x128 .f32) (b : Fin 2) (i : Fin 512) (p : Fin 16) (g : Fin 4) (d : Fin 128) :
    next h (ix5 b i p g d) = h (ix5 b ⟨(i.val + 1) % 512, Nat.mod_lt _ (by decide)⟩ p g d) := by
  have e : next h (ix5 b i p g d) = if w : i.val < 511 then h (ix5 b ⟨1 + i.val, by omega⟩ p g d) else h (ix5 b ⟨i.val - 511, by omega⟩ p g d) := by
    pointwise [next]
  rw [e]
  by_cases w : i.val < 511
  · rw [dif_pos w]
    exact congrArg (fun q => h (ix5 b q p g d)) (Fin.ext (by show 1 + i.val = (i.val + 1) % 512; omega))
  · rw [dif_neg w]
    exact congrArg (fun q => h (ix5 b q p g d)) (Fin.ext (by show i.val - 511 = (i.val + 1) % 512; omega))

theorem join_apply (h e : FVec Ideal S2x512x16x4x128 .f32) (b : Fin 2) (i : Fin 512) (p : Fin 32) (g : Fin 4) (d : Fin 128) :
    join h e (ix5 b i p g d) = if w : p.val < 16 then h (ix5 b i ⟨p.val, w⟩ g d) else e (ix5 b i ⟨p.val - 16, by omega⟩ g d) := by
  pointwise [join]

theorem long_apply (j : FVec Ideal S2x512x32x4x128 .f32) (P : FVec Ideal S32x128 .f32) (b : Fin 2) (i : Fin 512) (g : Fin 4) (p : Fin 32) (d : Fin 128) :
    long j P (ix4 b i g ⟨128 * p.val + d.val, by omega⟩) = j (ix5 b i p g d) + P (ix2 p d) := by
  pointwise [long]

theorem act_apply (s : FVec Ideal S2x512x4x128 .f32) (y : S2x512x4x128.Idx) : act s y = gelu (s y) := by
  have e : s y * (s y * s y) = s y * s y * s y := mul_comm _ _
  unfold gelu
  rw [e]
  pointwise [act]

theorem row_apply (k : FVec Ideal S16384x512 .f32) (P : FVec Ideal S32x128 .f32) (b : Fin 2) (i : Fin 512) (g : Fin 4) (p : Fin 32) (d : Fin 128) :
    long (join (chunk k) (next (chunk k))) P (ix4 b i g ⟨128 * p.val + d.val, by omega⟩)
      = k (ix2 ⟨8192 * b.val + (16 * i.val + p.val) % 8192, by omega⟩ ⟨128 * g.val + d.val, by omega⟩) + P (ix2 p d) := by
  rw [long_apply, join_apply]
  by_cases w : p.val < 16
  · rw [dif_pos w, chunk_apply]
    refine congrArg₂ (· + ·) (congrArg k (congrArg₂ ix2 (Fin.ext ?_) rfl)) rfl
    show 8192 * b.val + (16 * i.val + p.val) = 8192 * b.val + (16 * i.val + p.val) % 8192
    omega
  · rw [dif_neg w, next_apply, chunk_apply]
    refine congrArg₂ (· + ·) (congrArg k (congrArg₂ ix2 (Fin.ext ?_) rfl)) rfl
    show 8192 * b.val + (16 * ((i.val + 1) % 512) + (p.val - 16)) = 8192 * b.val + (16 * i.val + p.val) % 8192
    omega

theorem sum4096 (f : Fin 4096 → EReal) : ∑ k, f k = ∑ p : Fin 32, ∑ d : Fin 128, f ⟨128 * p.val + d.val, by omega⟩ := by
  refine ((Fintype.sum_equiv (finProdFinEquiv (m := 32) (n := 128)) (fun q => f ⟨128 * q.1.val + q.2.val, by omega⟩) f fun q => congrArg f (Fin.ext ?_)).symm).trans
    (Fintype.sum_prod_type _)
  show 128 * q.1.val + q.2.val = q.2.val + 128 * q.1.val
  omega

theorem first_apply (L : FVec Ideal S2x512x4x4096 .f32) (W : FVec Ideal S4096x128 .f32) (b : Fin 2) (i : Fin 512) (g : Fin 4) (j : Fin 128) :
    Host.dotGeneral dot_S2x512x4x4096_S4096x128_S2x512x4x128_3_0_012_1_n_n none L W (ix4 b i g j) = ∑ k : Fin 4096, L (ix4 b i g k) * W (ix2 k j) := by
  pointwise []

theorem second_apply (L : FVec Ideal S2x512x4x128 .f32) (U : FVec Ideal S128x128 .f32) (b : Fin 2) (i : Fin 512) (g : Fin 4) (n : Fin 128) :
    Host.dotGeneral dot_S2x512x4x128_S128x128_S2x512x4x128_3_0_012_1_n_n none L U (ix4 b i g n) = ∑ j : Fin 128, L (ix4 b i g j) * U (ix2 j n) := by
  pointwise []

theorem part_apply (k : FVec Ideal S16384x512 .f32) (P : FVec Ideal S32x128 .f32) (W : FVec Ideal S4096x128 .f32) (U : FVec Ideal S128x128 .f32)
    (X : FVec Ideal S16384x1024 .f32) (h : Fin 8) (b : Fin 2) (i : Fin 512) (g : Fin 4) (n : Fin 128)
    (hk : ∀ (r : Fin 16384) (d : Fin 128), k (ix2 r ⟨128 * g.val + d.val, by omega⟩) = X (ix2 r ⟨128 * h.val + d.val, by omega⟩)) :
    part k P W U (ix4 b i g n) = cell X P W U b h i n := by
  unfold part
  refine (second_apply _ _ b i g n).trans (Finset.sum_congr rfl fun j _ => congrArg₂ (· * ·) ((act_apply _ _).trans (congrArg gelu ?_)) rfl)
  refine (first_apply _ _ b i g j).trans ((sum4096 _).trans (Finset.sum_congr rfl fun p _ => Finset.sum_congr rfl fun d _ => congrArg₂ (· * ·) ?_ rfl))
  exact (row_apply k P b i g p d).trans (congrArg₂ (· + ·) (hk _ d) rfl)

/-- Keys and values side by side. -/
def both (x y : FVec Ideal S2x512x4x128 .f32) : FVec Ideal S2x512x8x128 .f32 :=
  concatenate S2x512x8x128 2 [⟨S2x512x4x128, x⟩, ⟨S2x512x4x128, y⟩] concatenates_S2x512x4x128_S2x512x4x128_S2x512x8x128_d2

theorem both_apply (x y : FVec Ideal S2x512x4x128 .f32) (b : Fin 2) (i : Fin 512) (g : Fin 8) (n : Fin 128) :
    both x y (ix4 b i g n) = if w : g.val < 4 then x (ix4 b i ⟨g.val, w⟩ n) else y (ix4 b i ⟨g.val - 4, by omega⟩ n) := by
  pointwise [both]

def keys (X : FVec Ideal S16384x1024 .f32) : FVec Ideal S16384x512 .f32 := extractStridedSlice S16384x512 ![0, 0] X slices_S16384x1024_S16384x512_0_0
def vals (X : FVec Ideal S16384x1024 .f32) : FVec Ideal S16384x512 .f32 := extractStridedSlice S16384x512 ![0, 512] X slices_S16384x1024_S16384x512_0_512

theorem keys_apply (X : FVec Ideal S16384x1024 .f32) (r : Fin 16384) (q : Fin 512) : keys X (ix2 r q) = X (ix2 r ⟨q.val, by omega⟩) := by
  pointwise [keys]

theorem vals_apply (X : FVec Ideal S16384x1024 .f32) (r : Fin 16384) (q : Fin 512) : vals X (ix2 r q) = X (ix2 r ⟨512 + q.val, by omega⟩) := by
  pointwise [vals]

theorem both_part (X : FVec Ideal S16384x1024 .f32) (Pk : FVec Ideal S32x128 .f32) (Wk : FVec Ideal S4096x128 .f32) (Uk : FVec Ideal S128x128 .f32)
    (Pv : FVec Ideal S32x128 .f32) (Wv : FVec Ideal S4096x128 .f32) (Uv : FVec Ideal S128x128 .f32) (b : Fin 2) (i : Fin 512) (g : Fin 8) (n : Fin 128) :
    both (part (keys X) Pk Wk Uk) (part (vals X) Pv Wv Uv) (ix4 b i g n) = resAt X Pk Wk Uk Pv Wv Uv b g i n := by
  rw [both_apply]
  unfold resAt
  by_cases w : g.val < 4
  · rw [dif_pos w, if_pos (by omega)]
    exact part_apply _ _ _ _ X g b i ⟨g.val, w⟩ n fun r d => keys_apply X r _
  · rw [dif_neg w, if_neg (by omega)]
    refine part_apply _ _ _ _ X g b i ⟨g.val - 4, by omega⟩ n fun r d => (vals_apply X r _).trans (congrArg X (congrArg₂ ix2 rfl (Fin.ext ?_)))
    show 512 + (128 * (g.val - 4) + d.val) = 128 * g.val + d.val
    omega

theorem out_a (v : FVec Ideal S2x512x8x128 .f32) (y : S2x8x512x128.Idx) :
    truncf .bf16 (transpose S2x8x512x128 [0, 2, 1, 3] v transposes_S2x512x8x128_S2x8x512x128_0_2_1_3) bitsLt_bf16_f32 y = v (ix4 (y 0) (y 2) (y 1) (y 3)) := by
  pointwise []

theorem out_b (v : FVec Ideal S2x512x8x128 .f32) (y : S2x8x128x512.Idx) :
    truncf .bf16 (transpose S2x8x128x512 [0, 2, 3, 1] v transposes_S2x512x8x128_S2x8x128x512_0_2_3_1) bitsLt_bf16_f32 y = v (ix4 (y 0) (y 3) (y 1) (y 2)) := by
  pointwise []

theorem algebraic : Cert.algebraic_Kernel7Ideal_Reference7Ideal (hKernel7Ideal := Cert.Kernel7Ideal.Gen.facts)
    (hReference7Ideal := Cert.Reference7Ideal.Gen.facts) := by
  intro m g m' g' hpre hag
  refine ⟨fun c => OUT4 m c, fun c => OUT5 m c, ?_, ?_⟩
  · exact (θ_run Cert.Kernel7Ideal.defs _ _).mono (fun _ h c => ⟨(h c).1.trans (final4 m c), (h c).2.1.trans (final5 m c), (h c).2.2⟩)
      (Cert.Kernel7Ideal.Value.run_blocks (F := Ideal) m g)
  · have f : ∀ c : Dev nD, both (part (keys (m' ((c.tc : Thread nD τ).loc main_arg0))) (m' ((c.tc : Thread nD τ).loc main_arg1)) (m' ((c.tc : Thread nD τ).loc main_arg2)) (m' ((c.tc : Thread nD τ).loc main_arg3)))
          (part (vals (m' ((c.tc : Thread nD τ).loc main_arg0))) (m' ((c.tc : Thread nD τ).loc main_arg4)) (m' ((c.tc : Thread nD τ).loc main_arg5)) (m' ((c.tc : Thread nD τ).loc main_arg6)))
        = both (part (keys (A0 m c)) (A1 m c) (A2 m c) (A3 m c)) (part (vals (A0 m c)) (A4 m c) (A5 m c) (A6 m c)) := by
      intro c
      obtain ⟨e0, e1, e2, e3, e4, e5, e6⟩ := hag c
      have f0 : m' ((c.tc : Thread nD τ).loc main_arg0) = A0 m c := e0
      have f1 : m' ((c.tc : Thread nD τ).loc main_arg1) = A1 m c := e1
      have f2 : m' ((c.tc : Thread nD τ).loc main_arg2) = A2 m c := e2
      have f3 : m' ((c.tc : Thread nD τ).loc main_arg3) = A3 m c := e3
      have f4 : m' ((c.tc : Thread nD τ).loc main_arg4) = A4 m c := e4
      have f5 : m' ((c.tc : Thread nD τ).loc main_arg5) = A5 m c := e5
      have f6 : m' ((c.tc : Thread nD τ).loc main_arg6) = A6 m c := e6
      rw [f0, f1, f2, f3, f4, f5, f6]
    have ha : ∀ c : Dev nD, Cert.Reference7Ideal.Value.res_out0 m' c = OUT4 m c := by
      intro c
      have h : Cert.Reference7Ideal.Value.res_out0 m' c = truncf .bf16 (transpose S2x8x512x128 [0, 2, 1, 3] (both (part (keys (A0 m c)) (A1 m c) (A2 m c) (A3 m c)) (part (vals (A0 m c)) (A4 m c) (A5 m c) (A6 m c)))
          transposes_S2x512x8x128_S2x8x512x128_0_2_1_3) bitsLt_bf16_f32 := by
        rw [← f c]
        rfl
      exact h.trans (funext fun y => (out_a _ y).trans (both_part _ _ _ _ _ _ _ _ _ _ _))
    have hb : ∀ c : Dev nD, Cert.Reference7Ideal.Value.res_out1 m' c = OUT5 m c := by
      intro c
      have h : Cert.Reference7Ideal.Value.res_out1 m' c = truncf .bf16 (transpose S2x8x128x512 [0, 2, 3, 1] (both (part (keys (A0 m c)) (A1 m c) (A2 m c) (A3 m c)) (part (vals (A0 m c)) (A4 m c) (A5 m c) (A6 m c)))
          transposes_S2x512x8x128_S2x8x128x512_0_2_3_1) bitsLt_bf16_f32 := by
        rw [← f c]
        rfl
      exact h.trans (funext fun y => (out_b _ y).trans (both_part _ _ _ _ _ _ _ _ _ _ _))
    exact (θ_run Cert.Reference7Ideal.defs _ _).mono (fun _ h c => ⟨(h c).1.trans (ha c), (h c).2.1.trans (hb c), (h c).2.2⟩) (Cert.Reference7Ideal.Value.run (F := Ideal) m' g')

end Ref

end Cert.Proof.Compress
end
-- ==== Proof.lean ====
/- The certificate's claim: each program's frame is its generated one or its run read at the arguments, and the value claims
   are those of the modules under Proof/. -/
module

public import proofs.«01_k».proof.Defs
public import proofs.«01_k».proof.Proof.Gen.Kernel.Frame
public import proofs.«01_k».proof.Proof.Gen.KernelIdeal.Frame
public import proofs.«01_k».proof.Proof.Gla
public import proofs.«01_k».proof.Proof.Gen.Kernel2.Frame
public import proofs.«01_k».proof.Proof.Gen.Kernel2Ideal.Frame
public import proofs.«01_k».proof.Proof.GateUp
public import proofs.«01_k».proof.Proof.Gen.Kernel3.Frame
public import proofs.«01_k».proof.Proof.Gen.Kernel3Ideal.Frame
public import proofs.«01_k».proof.Proof.Down
public import proofs.«01_k».proof.Proof.Gen.Kernel4.Frame
public import proofs.«01_k».proof.Proof.Gen.Kernel4Ideal.Frame
public import proofs.«01_k».proof.Proof.MixOut
public import proofs.«01_k».proof.Proof.Gen.Kernel5.Frame
public import proofs.«01_k».proof.Proof.Gen.Kernel5Ideal.Frame
public import proofs.«01_k».proof.Proof.MixIn
public import proofs.«01_k».proof.Proof.Gen.Kernel6.Frame
public import proofs.«01_k».proof.Proof.Gen.Kernel6Ideal.Frame
public import proofs.«01_k».proof.Proof.AttnIn
public import proofs.«01_k».proof.Proof.Gen.Kernel7.Frame
public import proofs.«01_k».proof.Proof.Gen.Kernel7Ideal.Frame
public import proofs.«01_k».proof.Proof.Compress

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Gla.facts,
  fun m g _ => Cert.Kernel.Gen.frame m g,
  fun m g _ => Cert.KernelIdeal.Gen.frame m g,
  fun m g _ => Cert.KernelIdeal.Gen.frame m g,
  Gla.frame_reference,
  fun m g _ => Gla.frame_reference m g trivial,
  fun m g _ => Cert.Kernel2.Gen.frame m g,
  fun m g _ => Cert.Kernel2Ideal.Gen.frame m g,
  GateUp.frame_reference,
  fun m g _ => Cert.Kernel3.Gen.frame m g,
  fun m g _ => Cert.Kernel3Ideal.Gen.frame m g,
  Down.frame_reference,
  fun m g _ => Cert.Kernel4.Gen.frame m g,
  fun m g _ => Cert.Kernel4Ideal.Gen.frame m g,
  MixOut.frame_reference,
  fun m g _ => Cert.Kernel5.Gen.frame m g,
  fun m g _ => Cert.Kernel5Ideal.Gen.frame m g,
  MixIn.frame_reference,
  fun m g _ => Cert.Kernel6.Gen.frame m g,
  fun m g _ => Cert.Kernel6Ideal.Gen.frame m g,
  AttnIn.frame_reference,
  fun m g _ => Cert.Kernel7.Gen.frame m g,
  fun m g _ => Cert.Kernel7Ideal.Gen.frame m g,
  Compress.frame_reference,
  trivial,
  Gla.algebraic,
  trivial,
  GateUp.algebraic,
  trivial,
  Down.algebraic,
  trivial,
  MixOut.algebraic,
  trivial,
  MixIn.algebraic,
  trivial,
  AttnIn.algebraic,
  trivial,
  Compress.algebraic⟩

end Cert.Proof

end
